-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_scores [hPre_finite_scores : Cert.Pre_finite_scores.Facts] (m : (ℓ : Loc Cert.BandIdeal.nD Cert.BandIdeal.τ Cert.BandIdeal.sig) → Buf (Elt Ideal) ℓ) : Prop :=
  ∀ c : Dev Cert.BandIdeal.nD,
    (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_scores [hPre_finite_scores : Cert.Pre_finite_scores.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).1 = (fun _ => 1#1)
    ∧ (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.1 = (fun _ => 1#1)
    ∧ (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PreS (m : (ℓ : Loc Cert.PreS.nD Cert.PreS.τ Cert.PreS.sig) → Buf (Elt Bits) ℓ) : Prop :=
  True

def Pre_PreSIdeal (m : (ℓ : Loc Cert.PreSIdeal.nD Cert.PreSIdeal.τ Cert.PreSIdeal.sig) → Buf (Elt Ideal) ℓ) : Prop :=
  True

def Pre_PreSRefIdeal (m : (ℓ : Loc Cert.PreSRefIdeal.nD Cert.PreSRefIdeal.τ Cert.PreSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite_scores [hBandIdeal : Cert.BandIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_scores m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite_scores [hBandRefIdeal : Cert.BandRefIdeal.Facts] [hPre_finite_scores : Cert.Pre_finite_scores.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_scores m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_PreS [hPreS : Cert.PreS.Facts] : Prop :=
  ∀ (m : (ℓ : Loc Cert.PreS.nD Cert.PreS.τ Cert.PreS.sig) → Buf (Elt Bits) ℓ) (g : Dev Cert.PreS.nD → PrngReg), Pre_PreS m →
    θ_run (Cert.PreS.defs (F := Bits)) (onTc (τ := Cert.PreS.τ) (Cert.PreS.main (F := Bits))) ⟨m, fun _ => 0, g⟩ (fun r => (∀ c : Dev Cert.PreS.nD,
      r.2.mem ((c.tc : Thread Cert.PreS.nD Cert.PreS.τ).loc Cert.PreS.main_arg0) = m ((c.tc : Thread Cert.PreS.nD Cert.PreS.τ).loc Cert.PreS.main_arg0)
      ∧ r.2.mem ((c.tc : Thread Cert.PreS.nD Cert.PreS.τ).loc Cert.PreS.main_arg1) = m ((c.tc : Thread Cert.PreS.nD Cert.PreS.τ).loc Cert.PreS.main_arg1)
      ∧ r.2.mem ((c.tc : Thread Cert.PreS.nD Cert.PreS.τ).loc Cert.PreS.main_arg2) = m ((c.tc : Thread Cert.PreS.nD Cert.PreS.τ).loc Cert.PreS.main_arg2)
      ∧ r.2.mem ((c.tc : Thread Cert.PreS.nD Cert.PreS.τ).loc Cert.PreS.main_arg3) = m ((c.tc : Thread Cert.PreS.nD Cert.PreS.τ).loc Cert.PreS.main_arg3))
      ∧ r.2.sem = fun _ => 0)

def quiescent_PreSIdeal [hPreSIdeal : Cert.PreSIdeal.Facts] : Prop :=
  ∀ (m : (ℓ : Loc Cert.PreSIdeal.nD Cert.PreSIdeal.τ Cert.PreSIdeal.sig) → Buf (Elt Ideal) ℓ) (g : Dev Cert.PreSIdeal.nD → PrngReg), Pre_PreSIdeal m →
    θ_run (Cert.PreSIdeal.defs (F := Ideal)) (onTc (τ := Cert.PreSIdeal.τ) (Cert.PreSIdeal.main (F := Ideal))) ⟨m, fun _ => 0, g⟩ (fun r => (∀ c : Dev Cert.PreSIdeal.nD,
      r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
      ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
      ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
      ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3))
      ∧ r.2.sem = fun _ => 0)

def quiescent_PreSRefIdeal [hPreSRefIdeal : Cert.PreSRefIdeal.Facts] : Prop :=
  ∀ (m : (ℓ : Loc Cert.PreSRefIdeal.nD Cert.PreSRefIdeal.τ Cert.PreSRefIdeal.sig) → Buf (Elt Ideal) ℓ) (g : Dev Cert.PreSRefIdeal.nD → PrngReg), Pre_PreSRefIdeal m →
    θ_run (Cert.PreSRefIdeal.defs (F := Ideal)) (onTc (τ := Cert.PreSRefIdeal.τ) (Cert.PreSRefIdeal.main (F := Ideal))) ⟨m, fun _ => 0, g⟩ (fun r => (∀ c : Dev Cert.PreSRefIdeal.nD,
      r.2.mem ((c.tc : Thread Cert.PreSRefIdeal.nD Cert.PreSRefIdeal.τ).loc Cert.PreSRefIdeal.main_arg0) = m ((c.tc : Thread Cert.PreSRefIdeal.nD Cert.PreSRefIdeal.τ).loc Cert.PreSRefIdeal.main_arg0)
      ∧ r.2.mem ((c.tc : Thread Cert.PreSRefIdeal.nD Cert.PreSRefIdeal.τ).loc Cert.PreSRefIdeal.main_arg1) = m ((c.tc : Thread Cert.PreSRefIdeal.nD Cert.PreSRefIdeal.τ).loc Cert.PreSRefIdeal.main_arg1)
      ∧ r.2.mem ((c.tc : Thread Cert.PreSRefIdeal.nD Cert.PreSRefIdeal.τ).loc Cert.PreSRefIdeal.main_arg2) = m ((c.tc : Thread Cert.PreSRefIdeal.nD Cert.PreSRefIdeal.τ).loc Cert.PreSRefIdeal.main_arg2)
      ∧ r.2.mem ((c.tc : Thread Cert.PreSRefIdeal.nD Cert.PreSRefIdeal.τ).loc Cert.PreSRefIdeal.main_arg3) = m ((c.tc : Thread Cert.PreSRefIdeal.nD Cert.PreSRefIdeal.τ).loc Cert.PreSRefIdeal.main_arg3))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10))
      ∧ r.2.sem = fun _ => 0)

def preserves_Band_BandIdeal : Prop :=
  True

def algebraic_BandIdeal_BandRefIdeal_pre_finite_scores [hBandIdeal : Cert.BandIdeal.Facts] [hBandRefIdeal : Cert.BandRefIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_scores m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v59)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v59) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v71) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v4_0)) (v1 : (c : Dev Cert.PostIdeal.nD) → Buf (Elt Ideal) ((c.tc : Thread Cert.PostIdeal.nD Cert.PostIdeal.τ).loc Cert.PostIdeal.main_v4_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4_0) = v0 c
          ∧ r.2.mem ((c.tc : Thread Cert.PostIdeal.nD Cert.PostIdeal.τ).loc Cert.PostIdeal.main_v4_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v100) = v0 c
          ∧ r.2.mem ((c.tc : Thread Cert.PostRefIdeal.nD Cert.PostRefIdeal.τ).loc Cert.PostRefIdeal.main_v101) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_PreS_PreSIdeal : Prop :=
  True

def algebraic_PreSIdeal_PreSRefIdeal [hPreSIdeal : Cert.PreSIdeal.Facts] [hPreSRefIdeal : Cert.PreSRefIdeal.Facts] : Prop :=
  ∀ (m : (ℓ : Loc Cert.PreSIdeal.nD Cert.PreSIdeal.τ Cert.PreSIdeal.sig) → Buf (Elt Ideal) ℓ) (g : Dev Cert.PreSIdeal.nD → PrngReg)
    (m' : (ℓ : Loc Cert.PreSRefIdeal.nD Cert.PreSRefIdeal.τ Cert.PreSRefIdeal.sig) → Buf (Elt Ideal) ℓ) (g' : Dev Cert.PreSRefIdeal.nD → PrngReg), Pre_PreSIdeal m →
    (∀ c : Dev Cert.PreSIdeal.nD,
      m' ((c.tc : Thread Cert.PreSRefIdeal.nD Cert.PreSRefIdeal.τ).loc Cert.PreSRefIdeal.main_arg0) = m ((c.tc : Thread Cert.PreSIdeal.nD Cert.PreSIdeal.τ).loc Cert.PreSIdeal.main_arg0)
      ∧ m' ((c.tc : Thread Cert.PreSRefIdeal.nD Cert.PreSRefIdeal.τ).loc Cert.PreSRefIdeal.main_arg1) = m ((c.tc : Thread Cert.PreSIdeal.nD Cert.PreSIdeal.τ).loc Cert.PreSIdeal.main_arg1)
      ∧ m' ((c.tc : Thread Cert.PreSRefIdeal.nD Cert.PreSRefIdeal.τ).loc Cert.PreSRefIdeal.main_arg2) = m ((c.tc : Thread Cert.PreSIdeal.nD Cert.PreSIdeal.τ).loc Cert.PreSIdeal.main_arg2)
      ∧ m' ((c.tc : Thread Cert.PreSRefIdeal.nD Cert.PreSRefIdeal.τ).loc Cert.PreSRefIdeal.main_arg3) = m ((c.tc : Thread Cert.PreSIdeal.nD Cert.PreSIdeal.τ).loc Cert.PreSIdeal.main_arg3)) →
    ∃ (v0 : (c : Dev Cert.PreSIdeal.nD) → Buf (Elt Ideal) ((c.tc : Thread Cert.PreSIdeal.nD Cert.PreSIdeal.τ).loc Cert.PreSIdeal.main_v15_1)) (v1 : (c : Dev Cert.PreSIdeal.nD) → Buf (Elt Ideal) ((c.tc : Thread Cert.PreSIdeal.nD Cert.PreSIdeal.τ).loc Cert.PreSIdeal.main_v15_2)) (v2 : (c : Dev Cert.PreSIdeal.nD) → Buf (Elt Ideal) ((c.tc : Thread Cert.PreSIdeal.nD Cert.PreSIdeal.τ).loc Cert.PreSIdeal.main_v15_5)) (v3 : (c : Dev Cert.PreSIdeal.nD) → Buf (Elt Ideal) ((c.tc : Thread Cert.PreSIdeal.nD Cert.PreSIdeal.τ).loc Cert.PreSIdeal.main_v15_6)) (v4 : (c : Dev Cert.PreSIdeal.nD) → Buf (Elt Ideal) ((c.tc : Thread Cert.PreSIdeal.nD Cert.PreSIdeal.τ).loc Cert.PreSIdeal.main_v15_9)) (v5 : (c : Dev Cert.PreSIdeal.nD) → Buf (Elt Ideal) ((c.tc : Thread Cert.PreSIdeal.nD Cert.PreSIdeal.τ).loc Cert.PreSIdeal.main_v15_10)),
      θ_run (Cert.PreSIdeal.defs (F := Ideal)) (onTc (τ := Cert.PreSIdeal.τ) (Cert.PreSIdeal.main (F := Ideal))) ⟨m, fun _ => 0, g⟩ (fun r => ∀ c : Dev Cert.PreSIdeal.nD,
          r.2.mem ((c.tc : Thread Cert.PreSIdeal.nD Cert.PreSIdeal.τ).loc Cert.PreSIdeal.main_v15_1) = v0 c
          ∧ r.2.mem ((c.tc : Thread Cert.PreSIdeal.nD Cert.PreSIdeal.τ).loc Cert.PreSIdeal.main_v15_2) = v1 c
          ∧ r.2.mem ((c.tc : Thread Cert.PreSIdeal.nD Cert.PreSIdeal.τ).loc Cert.PreSIdeal.main_v15_5) = v2 c
          ∧ r.2.mem ((c.tc : Thread Cert.PreSIdeal.nD Cert.PreSIdeal.τ).loc Cert.PreSIdeal.main_v15_6) = v3 c
          ∧ r.2.mem ((c.tc : Thread Cert.PreSIdeal.nD Cert.PreSIdeal.τ).loc Cert.PreSIdeal.main_v15_9) = v4 c
          ∧ r.2.mem ((c.tc : Thread Cert.PreSIdeal.nD Cert.PreSIdeal.τ).loc Cert.PreSIdeal.main_v15_10) = v5 c
          ∧ r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
          ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
          ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
          ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3))
      ∧ θ_run (Cert.PreSRefIdeal.defs (F := Ideal)) (onTc (τ := Cert.PreSRefIdeal.τ) (Cert.PreSRefIdeal.main (F := Ideal))) ⟨m', fun _ => 0, g'⟩ (fun r => ∀ c : Dev Cert.PreSRefIdeal.nD,
          r.2.mem ((c.tc : Thread Cert.PreSRefIdeal.nD Cert.PreSRefIdeal.τ).loc Cert.PreSRefIdeal.main_v17) = v0 c
          ∧ r.2.mem ((c.tc : Thread Cert.PreSRefIdeal.nD Cert.PreSRefIdeal.τ).loc Cert.PreSRefIdeal.main_v18) = v1 c
          ∧ r.2.mem ((c.tc : Thread Cert.PreSRefIdeal.nD Cert.PreSRefIdeal.τ).loc Cert.PreSRefIdeal.main_v31) = v2 c
          ∧ r.2.mem ((c.tc : Thread Cert.PreSRefIdeal.nD Cert.PreSRefIdeal.τ).loc Cert.PreSRefIdeal.main_v20) = v3 c
          ∧ r.2.mem ((c.tc : Thread Cert.PreSRefIdeal.nD Cert.PreSRefIdeal.τ).loc Cert.PreSRefIdeal.main_v23) = v4 c
          ∧ r.2.mem ((c.tc : Thread Cert.PreSRefIdeal.nD Cert.PreSRefIdeal.τ).loc Cert.PreSRefIdeal.main_v24) = v5 c
          ∧ r.2.mem ((c.tc : Thread Cert.PreSRefIdeal.nD Cert.PreSRefIdeal.τ).loc Cert.PreSRefIdeal.main_arg0) = m' ((c.tc : Thread Cert.PreSRefIdeal.nD Cert.PreSRefIdeal.τ).loc Cert.PreSRefIdeal.main_arg0)
          ∧ r.2.mem ((c.tc : Thread Cert.PreSRefIdeal.nD Cert.PreSRefIdeal.τ).loc Cert.PreSRefIdeal.main_arg1) = m' ((c.tc : Thread Cert.PreSRefIdeal.nD Cert.PreSRefIdeal.τ).loc Cert.PreSRefIdeal.main_arg1)
          ∧ r.2.mem ((c.tc : Thread Cert.PreSRefIdeal.nD Cert.PreSRefIdeal.τ).loc Cert.PreSRefIdeal.main_arg2) = m' ((c.tc : Thread Cert.PreSRefIdeal.nD Cert.PreSRefIdeal.τ).loc Cert.PreSRefIdeal.main_arg2)
          ∧ r.2.mem ((c.tc : Thread Cert.PreSRefIdeal.nD Cert.PreSRefIdeal.τ).loc Cert.PreSRefIdeal.main_arg3) = m' ((c.tc : Thread Cert.PreSRefIdeal.nD Cert.PreSRefIdeal.τ).loc Cert.PreSRefIdeal.main_arg3))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)) →
    ∃ (v0 : (c : Dev Cert.PostSIdeal.nD) → Buf (Elt Ideal) ((c.tc : Thread Cert.PostSIdeal.nD Cert.PostSIdeal.τ).loc Cert.PostSIdeal.main_v12_0)) (v1 : (c : Dev Cert.PostSIdeal.nD) → Buf (Elt Ideal) ((c.tc : Thread Cert.PostSIdeal.nD Cert.PostSIdeal.τ).loc Cert.PostSIdeal.main_v12_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v12_0) = v0 c
          ∧ r.2.mem ((c.tc : Thread Cert.PostSIdeal.nD Cert.PostSIdeal.τ).loc Cert.PostSIdeal.main_v12_1) = v1 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v99) = v0 c
          ∧ r.2.mem ((c.tc : Thread Cert.PostSRefIdeal.nD Cert.PostSRefIdeal.τ).loc Cert.PostSRefIdeal.main_v39) = v1 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10))

def Claim : Prop :=
  ∃ (hBand : Cert.Band.Facts) (hBandIdeal : Cert.BandIdeal.Facts) (hBandRefIdeal : Cert.BandRefIdeal.Facts) (hPost : Cert.Post.Facts) (hPostIdeal : Cert.PostIdeal.Facts) (hPostRefIdeal : Cert.PostRefIdeal.Facts) (hPreS : Cert.PreS.Facts) (hPreSIdeal : Cert.PreSIdeal.Facts) (hPreSRefIdeal : Cert.PreSRefIdeal.Facts) (hPostS : Cert.PostS.Facts) (hPostSIdeal : Cert.PostSIdeal.Facts) (hPostSRefIdeal : Cert.PostSRefIdeal.Facts) (hPre_finite_scores : Cert.Pre_finite_scores.Facts),
    quiescent_Band (hBand := hBand)
    ∧ quiescent_BandIdeal (hBandIdeal := hBandIdeal)
    ∧ quiescent_BandIdeal_pre_finite_scores (hBandIdeal := hBandIdeal) (hPre_finite_scores := hPre_finite_scores)
    ∧ quiescent_BandRefIdeal (hBandRefIdeal := hBandRefIdeal)
    ∧ quiescent_BandRefIdeal_pre_finite_scores (hBandRefIdeal := hBandRefIdeal) (hPre_finite_scores := hPre_finite_scores)
    ∧ quiescent_Post (hPost := hPost)
    ∧ quiescent_PostIdeal (hPostIdeal := hPostIdeal)
    ∧ quiescent_PostRefIdeal (hPostRefIdeal := hPostRefIdeal)
    ∧ quiescent_PreS (hPreS := hPreS)
    ∧ quiescent_PreSIdeal (hPreSIdeal := hPreSIdeal)
    ∧ quiescent_PreSRefIdeal (hPreSRefIdeal := hPreSRefIdeal)
    ∧ quiescent_PostS (hPostS := hPostS)
    ∧ quiescent_PostSIdeal (hPostSIdeal := hPostSIdeal)
    ∧ quiescent_PostSRefIdeal (hPostSRefIdeal := hPostSRefIdeal)
    ∧ preserves_Band_BandIdeal
    ∧ algebraic_BandIdeal_BandRefIdeal_pre_finite_scores (hBandIdeal := hBandIdeal) (hBandRefIdeal := hBandRefIdeal) (hPre_finite_scores := hPre_finite_scores)
    ∧ preserves_Post_PostIdeal
    ∧ algebraic_PostIdeal_PostRefIdeal (hPostIdeal := hPostIdeal) (hPostRefIdeal := hPostRefIdeal)
    ∧ preserves_PreS_PreSIdeal
    ∧ algebraic_PreSIdeal_PreSRefIdeal (hPreSIdeal := hPreSIdeal) (hPreSRefIdeal := hPreSRefIdeal)
    ∧ preserves_PostS_PostSIdeal
    ∧ algebraic_PostSIdeal_PostSRefIdeal (hPostSIdeal := hPostSIdeal) (hPostSRefIdeal := hPostSRefIdeal)
-- ==== Pre_finite_scores.lean ====
abbrev S4x4096x4x64 : Shape := ⟨4, ![4, 4096, 4, 64]⟩
abbrev S4x192 : Shape := ⟨2, ![4, 192]⟩
abbrev S_ : Shape := ⟨0, ![]⟩

class Facts : Prop where
  bcast_S_S4x4096x4x64 : S_.BroadcastsInDim S4x4096x4x64 (![] : Fin 0 → Fin S4x4096x4x64.rank)
  bcast_S_S4x192 : S_.BroadcastsInDim S4x192 (![] : Fin 0 → Fin S4x192.rank)

variable [Facts]

def fn {F : FTy → Type} [FloatOps F] (main_arg0 : FVec F S4x4096x4x64 .f32) (main_arg1 : FVec F S4x4096x4x64 .f32) (main_arg2 : FVec F S4x4096x4x64 .f32) (main_arg3 : FVec F S4x192 .f32) : IVec S4x4096x4x64 1 × IVec S4x4096x4x64 1 × IVec S4x192 1 :=
  let main_v0 : FVec F S4x4096x4x64 .f32 := Host.absf main_arg0
  let main_cst : FVec F S_ .f32 := constant S_ .f32 0x7F800000#32
  let main_v1 : FVec F S4x4096x4x64 .f32 := broadcastInDim S4x4096x4x64 ![] bcast_S_S4x4096x4x64 main_cst
  let main_v2 : IVec S4x4096x4x64 1 := cmpf .olt main_v0 main_v1
  let main_v3 : FVec F S4x4096x4x64 .f32 := Host.absf main_arg1
  let main_cst_0 : FVec F S_ .f32 := constant S_ .f32 0x7F800000#32
  let main_v4 : FVec F S4x4096x4x64 .f32 := broadcastInDim S4x4096x4x64 ![] bcast_S_S4x4096x4x64 main_cst_0
  let main_v5 : IVec S4x4096x4x64 1 := cmpf .olt main_v3 main_v4
  let main_v6 : FVec F S4x192 .f32 := Host.absf main_arg3
  let main_cst_1 : FVec F S_ .f32 := constant S_ .f32 0x7F800000#32
  let main_v7 : FVec F S4x192 .f32 := broadcastInDim S4x192 ![] bcast_S_S4x192 main_cst_1
  let main_v8 : IVec S4x192 1 := cmpf .olt main_v6 main_v7
  (main_v2, main_v5, main_v8)
-- ==== Band.lean ====
abbrev S4x4096x4x64 : Shape := ⟨4, ![4, 4096, 4, 64]⟩
abbrev S4x192 : Shape := ⟨2, ![4, 192]⟩
abbrev S_ : Shape := ⟨0, ![]⟩
abbrev S4x4x1x4096 : Shape := ⟨4, ![4, 4, 1, 4096]⟩
abbrev S4x4x15x4096 : Shape := ⟨4, ![4, 4, 15, 4096]⟩
abbrev S4x4x16x4096 : Shape := ⟨4, ![4, 4, 16, 4096]⟩
abbrev S4x4x64x4096 : Shape := ⟨4, ![4, 4, 64, 4096]⟩
abbrev S4x4x80x4096 : Shape := ⟨4, ![4, 4, 80, 4096]⟩
abbrev S4x320x4096 : Shape := ⟨3, ![4, 320, 4096]⟩
abbrev S4x320x512 : Shape := ⟨3, ![4, 320, 512]⟩
abbrev S4x320x4608 : Shape := ⟨3, ![4, 320, 4608]⟩
abbrev S4x4096x4x128 : Shape := ⟨4, ![4, 4096, 4, 128]⟩
abbrev S4x4096x512 : Shape := ⟨3, ![4, 4096, 512]⟩
abbrev S4x512x512 : Shape := ⟨3, ![4, 512, 512]⟩
abbrev S4x4608x512 : Shape := ⟨3, ![4, 4608, 512]⟩
abbrev S768x256 : Shape := ⟨2, ![768, 256]⟩
abbrev S768x256x1 : Shape := ⟨3, ![768, 256, 1]⟩
abbrev S4x768x256 : Shape := ⟨3, ![4, 768, 256]⟩
abbrev S1x768x256 : Shape := ⟨3, ![1, 768, 256]⟩
abbrev S16384x256 : Shape := ⟨2, ![16384, 256]⟩
abbrev S1x320x1024 : Shape := ⟨3, ![1, 320, 1024]⟩
abbrev S1x4608x512 : Shape := ⟨3, ![1, 4608, 512]⟩
abbrev S1x320x4608 : Shape := ⟨3, ![1, 320, 4608]⟩
abbrev S1024x256 : Shape := ⟨2, ![1024, 256]⟩
abbrev S1x768x80 : Shape := ⟨3, ![1, 768, 80]⟩
abbrev S768x80 : Shape := ⟨2, ![768, 80]⟩
abbrev S1x80x256 : Shape := ⟨3, ![1, 80, 256]⟩
abbrev S80x256 : Shape := ⟨2, ![80, 256]⟩
abbrev S256 : Shape := ⟨1, ![256]⟩
abbrev S1x256 : Shape := ⟨2, ![1, 256]⟩
abbrev S1x80x768 : Shape := ⟨3, ![1, 80, 768]⟩
abbrev S80x768 : Shape := ⟨2, ![80, 768]⟩
abbrev S64x256 : Shape := ⟨2, ![64, 256]⟩
abbrev S256x256 : Shape := ⟨2, ![256, 256]⟩

abbrev nBuf : Space → Nat
  | .hbm => 96
  | .vmem => 9
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x64, .f32⟩
  | .hbm, ⟨2, _⟩ => ⟨S4x4096x4x64, .f32⟩
  | .hbm, ⟨3, _⟩ => ⟨S4x192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .bf16⟩
  | .hbm, ⟨9, _⟩ => ⟨S4x4x1x4096, .bf16⟩
  | .hbm, ⟨10, _⟩ => ⟨S_, .bf16⟩
  | .hbm, ⟨11, _⟩ => ⟨S4x4x15x4096, .bf16⟩
  | .hbm, ⟨12, _⟩ => ⟨S4x4x16x4096, .bf16⟩
  | .hbm, ⟨13, _⟩ => ⟨S_, .f32⟩
  | .hbm, ⟨14, _⟩ => ⟨S_, .f32⟩
  | .hbm, ⟨15, _⟩ => ⟨S4x4096x4x64, .f32⟩
  | .hbm, ⟨16, _⟩ => ⟨S4x4096x4x64, .f32⟩
  | .hbm, ⟨17, _⟩ => ⟨S4x4x64x4096, .f32⟩
  | .hbm, ⟨18, _⟩ => ⟨S4x4x64x4096, .bf16⟩
  | .hbm, ⟨19, _⟩ => ⟨S4x4x80x4096, .bf16⟩
  | .hbm, ⟨20, _⟩ => ⟨S4x320x4096, .bf16⟩
  | .hbm, ⟨21, _⟩ => ⟨S4x4x64x4096, .f32⟩
  | .hbm, ⟨22, _⟩ => ⟨S4x4x64x4096, .bf16⟩
  | .hbm, ⟨23, _⟩ => ⟨S4x4x80x4096, .bf16⟩
  | .hbm, ⟨24, _⟩ => ⟨S4x320x4096, .bf16⟩
  | .hbm, ⟨25, _⟩ => ⟨S_, .bf16⟩
  | .hbm, ⟨26, _⟩ => ⟨S4x320x512, .bf16⟩
  | .hbm, ⟨27, _⟩ => ⟨S4x320x4608, .bf16⟩
  | .hbm, ⟨28, _⟩ => ⟨S4x4096x4x64, .bf16⟩
  | .hbm, ⟨29, _⟩ => ⟨S_, .bf16⟩
  | .hbm, ⟨30, _⟩ => ⟨S4x4096x4x64, .bf16⟩
  | .hbm, ⟨31, _⟩ => ⟨S4x4096x4x128, .bf16⟩
  | .hbm, ⟨32, _⟩ => ⟨S4x4096x512, .bf16⟩
  | .hbm, ⟨33, _⟩ => ⟨S4x512x512, .i32⟩
  | .hbm, ⟨34, _⟩ => ⟨S_, .i32⟩
  | .hbm, ⟨35, _⟩ => ⟨S4x512x512, .i32⟩
  | .hbm, ⟨36, _⟩ => ⟨S4x512x512, .i32⟩
  | .hbm, ⟨37, _⟩ => ⟨S_, .i32⟩
  | .hbm, ⟨38, _⟩ => ⟨S4x512x512, .i32⟩
  | .hbm, ⟨39, _⟩ => ⟨S4x512x512, .i1⟩
  | .hbm, ⟨40, _⟩ => ⟨S_, .f32⟩
  | .hbm, ⟨41, _⟩ => ⟨S_, .f32⟩
  | .hbm, ⟨42, _⟩ => ⟨S4x512x512, .f32⟩
  | .hbm, ⟨43, _⟩ => ⟨S4x512x512, .f32⟩
  | .hbm, ⟨44, _⟩ => ⟨S4x512x512, .f32⟩
  | .hbm, ⟨45, _⟩ => ⟨S4x512x512, .bf16⟩
  | .hbm, ⟨46, _⟩ => ⟨S4x4608x512, .bf16⟩
  | .hbm, ⟨47, _⟩ => ⟨S768x256, .i32⟩
  | .hbm, ⟨48, _⟩ => ⟨S768x256, .i32⟩
  | .hbm, ⟨49, _⟩ => ⟨S_, .i32⟩
  | .hbm, ⟨50, _⟩ => ⟨S768x256, .i32⟩
  | .hbm, ⟨51, _⟩ => ⟨S768x256, .i32⟩
  | .hbm, ⟨52, _⟩ => ⟨S_, .i32⟩
  | .hbm, ⟨53, _⟩ => ⟨S768x256, .i32⟩
  | .hbm, ⟨54, _⟩ => ⟨S768x256, .i32⟩
  | .hbm, ⟨55, _⟩ => ⟨S768x256, .i32⟩
  | .hbm, ⟨56, _⟩ => ⟨S_, .i32⟩
  | .hbm, ⟨57, _⟩ => ⟨S768x256, .i32⟩
  | .hbm, ⟨58, _⟩ => ⟨S768x256, .i1⟩
  | .hbm, ⟨59, _⟩ => ⟨S_, .i32⟩
  | .hbm, ⟨60, _⟩ => ⟨S768x256, .i32⟩
  | .hbm, ⟨61, _⟩ => ⟨S768x256, .i1⟩
  | .hbm, ⟨62, _⟩ => ⟨S768x256, .i1⟩
  | .hbm, ⟨63, _⟩ => ⟨S768x256, .i32⟩
  | .hbm, ⟨64, _⟩ => ⟨S_, .i32⟩
  | .hbm, ⟨65, _⟩ => ⟨S768x256, .i32⟩
  | .hbm, ⟨66, _⟩ => ⟨S768x256, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S768x256, .i32⟩
  | .hbm, ⟨71, _⟩ => ⟨S768x256, .i32⟩
  | .hbm, ⟨72, _⟩ => ⟨S_, .i32⟩
  | .hbm, ⟨73, _⟩ => ⟨S768x256, .i32⟩
  | .hbm, ⟨74, _⟩ => ⟨S768x256, .i32⟩
  | .hbm, ⟨75, _⟩ => ⟨S_, .i32⟩
  | .hbm, ⟨76, _⟩ => ⟨S768x256, .i32⟩
  | .hbm, ⟨77, _⟩ => ⟨S768x256, .i32⟩
  | .hbm, ⟨78, _⟩ => ⟨S_, .i32⟩
  | .hbm, ⟨79, _⟩ => ⟨S768x256, .i32⟩
  | .hbm, ⟨80, _⟩ => ⟨S768x256, .i1⟩
  | .hbm, ⟨81, _⟩ => ⟨S_, .i32⟩
  | .hbm, ⟨82, _⟩ => ⟨S768x256, .i32⟩
  | .hbm, ⟨83, _⟩ => ⟨S768x256, .i32⟩
  | .hbm, ⟨84, _⟩ => ⟨S768x256, .i32⟩
  | .hbm, ⟨85, _⟩ => ⟨S768x256x1, .i32⟩
  | .hbm, ⟨86, _⟩ => ⟨S4x768x256, .f32⟩
  | .hbm, ⟨87, _⟩ => ⟨S1x768x256, .i1⟩
  | .hbm, ⟨88, _⟩ => ⟨S_, .f32⟩
  | .hbm, ⟨89, _⟩ => ⟨S_, .f32⟩
  | .hbm, ⟨90, _⟩ => ⟨S4x768x256, .i1⟩
  | .hbm, ⟨91, _⟩ => ⟨S4x768x256, .f32⟩
  | .hbm, ⟨92, _⟩ => ⟨S4x768x256, .f32⟩
  | .hbm, ⟨93, _⟩ => ⟨S4x768x256, .f32⟩
  | .hbm, ⟨94, _⟩ => ⟨S4x768x256, .f32⟩
  | .hbm, ⟨95, _⟩ => ⟨S16384x256, .bf16⟩
  | .local _ .vmem, ⟨0, _⟩ => ⟨S1x320x1024, .bf16⟩
  | .local _ .vmem, ⟨1, _⟩ => ⟨S1x320x1024, .bf16⟩
  | .local _ .vmem, ⟨2, _⟩ => ⟨S1x4608x512, .bf16⟩
  | .local _ .vmem, ⟨3, _⟩ => ⟨S1x4608x512, .bf16⟩
  | .local _ .vmem, ⟨4, _⟩ => ⟨S1x320x4608, .bf16⟩
  | .local _ .vmem, ⟨5, _⟩ => ⟨S1x320x4608, .bf16⟩
  | .local _ .vmem, ⟨6, _⟩ => ⟨S4x768x256, .f32⟩
  | .local _ .vmem, ⟨7, _⟩ => ⟨S1024x256, .bf16⟩
  | .local _ .vmem, ⟨8, _⟩ => ⟨S1024x256, .bf16⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_c_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_13 : Ref sig .tc := ⟨.hbm, 64, rfl⟩
abbrev main_v43 : Ref sig .tc := ⟨.hbm, 65, rfl⟩
abbrev main_v44 : Ref sig .tc := ⟨.hbm, 66, rfl⟩
abbrev main_c_14 : Ref sig .tc := ⟨.hbm, 67, rfl⟩
abbrev main_c_15 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v45 : Ref sig .tc := ⟨.hbm, 74, rfl⟩
abbrev main_c_16 : Ref sig .tc := ⟨.hbm, 75, rfl⟩
abbrev main_v46 : Ref sig .tc := ⟨.hbm, 76, rfl⟩
abbrev main_v47 : Ref sig .tc := ⟨.hbm, 77, rfl⟩
abbrev main_c_17 : Ref sig .tc := ⟨.hbm, 78, rfl⟩
abbrev main_v48 : Ref sig .tc := ⟨.hbm, 79, rfl⟩
abbrev main_v49 : Ref sig .tc := ⟨.hbm, 80, rfl⟩
abbrev main_c_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c256_i32 : BitVec 32 := 256#32
  let v2 : BitVec 32 := Scalar.muli v1 c256_i32
  v2
def k0_mult2 (i : grid0.Coords) : BitVec 32 :=
  let arg1 : BitVec 32 := BitVec.ofNat 32 (i 1).val
  let c4_i32_0 : BitVec 32 := 4#32
  let v4 : BitVec 32 := Scalar.muli arg1 c4_i32_0
  let c1_i32 : BitVec 32 := 1#32
  let v5 : BitVec 32 := Scalar.addi v4 c1_i32
  let c256_i32_1 : BitVec 32 := 256#32
  let v6 : BitVec 32 := Scalar.muli v5 c256_i32_1
  v6
def k0_mult3 (i : grid0.Coords) : BitVec 32 :=
  let arg1 : BitVec 32 := BitVec.ofNat 32 (i 1).val
  let c4_i32_2 : BitVec 32 := 4#32
  let v8 : BitVec 32 := Scalar.muli arg1 c4_i32_2
  let c2_i32 : BitVec 32 := 2#32
  let v9 : BitVec 32 := Scalar.addi v8 c2_i32
  let c256_i32_3 : BitVec 32 := 256#32
  let v10 : BitVec 32 := Scalar.muli v9 c256_i32_3
  v10
def k0_mult4 (i : grid0.Coords) : BitVec 32 :=
  let arg1 : BitVec 32 := BitVec.ofNat 32 (i 1).val
  let c4_i32_4 : BitVec 32 := 4#32
  let v12 : BitVec 32 := Scalar.muli arg1 c4_i32_4
  let c3_i32 : BitVec 32 := 3#32
  let v13 : BitVec 32 := Scalar.addi v12 c3_i32
  let c256_i32_5 : BitVec 32 := 256#32
  let v14 : BitVec 32 := Scalar.muli v13 c256_i32_5
  v14
def k0_off1 (i : grid0.Coords) (c0_i32 : BitVec 32) : Fin 3 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v16 : Index := Scalar.indexCast v3
  let c0_6 : Index := 0#32
  ![0, v16.toNat, 0]
def k0_off2 (i : grid0.Coords) (c0_i32 : BitVec 32) : Fin 3 → Nat :=
  let c0_13 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v25 : Index := Scalar.indexCast v3
  let c128 : Index := 128#32
  ![0, v25.toNat, 128]
def k0_off3 (i : grid0.Coords) (c0_i32 : BitVec 32) : Fin 3 → Nat :=
  let c0_19 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v34 : Index := Scalar.indexCast v3
  let c256 : Index := 256#32
  ![0, v34.toNat, 256]
def k0_off4 (i : grid0.Coords) (c0_i32 : BitVec 32) : Fin 3 → Nat :=
  let c0_25 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v43 : Index := Scalar.indexCast v3
  let c384 : Index := 384#32
  ![0, v43.toNat, 384]
def k0_off5 (i : grid0.Coords) (c0_i32 : BitVec 32) : Fin 3 → Nat :=
  let c0_141 : Index := 0#32
  let c0_142 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v184 : Index := Scalar.indexCast v3
  ![0, 0, v184.toNat]
def k0_off6 (i : grid0.Coords) (c0_i32 : BitVec 32) : Fin 3 → Nat :=
  let c0_144 : Index := 0#32
  let c80_145 : Index := 80#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v192 : Index := Scalar.indexCast v3
  ![0, 80, v192.toNat]
def k0_off7 (i : grid0.Coords) (c0_i32 : BitVec 32) : Fin 3 → Nat :=
  let c0_147 : Index := 0#32
  let c160_148 : Index := 160#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v200 : Index := Scalar.indexCast v3
  ![0, 160, v200.toNat]
def k0_off8 (i : grid0.Coords) (c0_i32 : BitVec 32) : Fin 3 → Nat :=
  let c0_150 : Index := 0#32
  let c240_151 : Index := 240#32
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v2 : BitVec 32 := Scalar.muli v1 c256_i32
  let v3 : BitVec 32 := v2
  let v208 : Index := Scalar.indexCast v3
  ![0, 240, v208.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x320x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandRefIdeal.lean ====
abbrev S4x4096x4x64 : Shape := ⟨4, ![4, 4096, 4, 64]⟩
abbrev S4x192 : Shape := ⟨2, ![4, 192]⟩
abbrev S576 : Shape := ⟨1, ![576]⟩
abbrev S64 : Shape := ⟨1, ![64]⟩
abbrev S64x1 : Shape := ⟨2, ![64, 1]⟩
abbrev S_ : Shape := ⟨0, ![]⟩
abbrev S1x576 : Shape := ⟨2, ![1, 576]⟩
abbrev S64x576 : Shape := ⟨2, ![64, 576]⟩
abbrev S4x4608x4x64 : Shape := ⟨4, ![4, 4608, 4, 64]⟩
abbrev S64x576x1 : Shape := ⟨3, ![64, 576, 1]⟩
abbrev S4x64x576x4x64 : Shape := ⟨5, ![4, 64, 576, 4, 64]⟩
abbrev S4x64x64x4x64 : Shape := ⟨5, ![4, 64, 64, 4, 64]⟩
abbrev S4x64x4x64x576 : Shape := ⟨5, ![4, 64, 4, 64, 576]⟩
abbrev S4x64x576 : Shape := ⟨3, ![4, 64, 576]⟩
abbrev S1x64x1x1x576 : Shape := ⟨5, ![1, 64, 1, 1, 576]⟩
abbrev S1x1x4x64x576 : Shape := ⟨5, ![1, 1, 4, 64, 576]⟩
abbrev S4x64x4x64 : Shape := ⟨4, ![4, 64, 4, 64]⟩
abbrev S4x64x4x64x1 : Shape := ⟨5, ![4, 64, 4, 64, 1]⟩
abbrev S4x64x4x64x64 : Shape := ⟨5, ![4, 64, 4, 64, 64]⟩
abbrev S16384x256 : Shape := ⟨2, ![16384, 256]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x64, .f32⟩
  | .hbm, ⟨2, _⟩ => ⟨S4x4096x4x64, .f32⟩
  | .hbm, ⟨3, _⟩ => ⟨S4x192, .f32⟩
  | .hbm, ⟨4, _⟩ => ⟨S576, .i32⟩
  | .hbm, ⟨5, _⟩ => ⟨S64, .i32⟩
  | .hbm, ⟨6, _⟩ => ⟨S64x1, .i32⟩
  | .hbm, ⟨7, _⟩ => ⟨S_, .i32⟩
  | .hbm, ⟨8, _⟩ => ⟨S64x1, .i32⟩
  | .hbm, ⟨9, _⟩ => ⟨S64x1, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .f32⟩
  | .hbm, ⟨16, _⟩ => ⟨S4x4608x4x64, .f32⟩
  | .hbm, ⟨17, _⟩ => ⟨S_, .i32⟩
  | .hbm, ⟨18, _⟩ => ⟨S64x576, .i32⟩
  | .hbm, ⟨19, _⟩ => ⟨S64x576, .i1⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S64x576, .i32⟩
  | .hbm, ⟨24, _⟩ => ⟨S64x576x1, .i32⟩
  | .hbm, ⟨25, _⟩ => ⟨S4x64x576x4x64, .f32⟩
  | .hbm, ⟨26, _⟩ => ⟨S_, .i32⟩
  | .hbm, ⟨27, _⟩ => ⟨S_, .f32⟩
  | .hbm, ⟨28, _⟩ => ⟨S4x4608x4x64, .f32⟩
  | .hbm, ⟨29, _⟩ => ⟨S_, .i32⟩
  | .hbm, ⟨30, _⟩ => ⟨S64x576, .i32⟩
  | .hbm, ⟨31, _⟩ => ⟨S64x576, .i1⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S64x576, .i32⟩
  | .hbm, ⟨36, _⟩ => ⟨S64x576x1, .i32⟩
  | .hbm, ⟨37, _⟩ => ⟨S4x64x576x4x64, .f32⟩
  | .hbm, ⟨38, _⟩ => ⟨S4x64x64x4x64, .f32⟩
  | .hbm, ⟨39, _⟩ => ⟨S4x64x4x64x576, .f32⟩
  | .hbm, ⟨40, _⟩ => ⟨S_, .f32⟩
  | .hbm, ⟨41, _⟩ => ⟨S4x64x4x64x576, .f32⟩
  | .hbm, ⟨42, _⟩ => ⟨S4x64x4x64x576, .f32⟩
  | .hbm, ⟨43, _⟩ => ⟨S64, .i32⟩
  | .hbm, ⟨44, _⟩ => ⟨S1x576, .i32⟩
  | .hbm, ⟨45, _⟩ => ⟨S_, .i32⟩
  | .hbm, ⟨46, _⟩ => ⟨S1x576, .i32⟩
  | .hbm, ⟨47, _⟩ => ⟨S1x576, .i32⟩
  | .hbm, ⟨48, _⟩ => ⟨S64x1, .i32⟩
  | .hbm, ⟨49, _⟩ => ⟨S64x576, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i1⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S64x576, .i32⟩
  | .hbm, ⟨70, _⟩ => ⟨S64x576x1, .i32⟩
  | .hbm, ⟨71, _⟩ => ⟨S4x64x576, .f32⟩
  | .hbm, ⟨72, _⟩ => ⟨S_, .i32⟩
  | .hbm, ⟨73, _⟩ => ⟨S64x576, .i32⟩
  | .hbm, ⟨74, _⟩ => ⟨S64x576, .i1⟩
  | .hbm, ⟨75, _⟩ => ⟨S_, .i32⟩
  | .hbm, ⟨76, _⟩ => ⟨S64x576, .i32⟩
  | .hbm, ⟨77, _⟩ => ⟨S64x576, .i1⟩
  | .hbm, ⟨78, _⟩ => ⟨S64x576, .i1⟩
  | .hbm, ⟨79, _⟩ => ⟨S1x64x1x1x576, .i1⟩
  | .hbm, ⟨80, _⟩ => ⟨S1x1x4x64x576, .f32⟩
  | .hbm, ⟨81, _⟩ => ⟨S4x64x4x64x576, .f32⟩
  | .hbm, ⟨82, _⟩ => ⟨S4x64x4x64x576, .f32⟩
  | .hbm, ⟨83, _⟩ => ⟨S_, .f32⟩
  | .hbm, ⟨84, _⟩ => ⟨S_, .f32⟩
  | .hbm, ⟨85, _⟩ => ⟨S4x64x4x64x576, .i1⟩
  | .hbm, ⟨86, _⟩ => ⟨S4x64x4x64x576, .f32⟩
  | .hbm, ⟨87, _⟩ => ⟨S4x64x4x64x576, .f32⟩
  | .hbm, ⟨88, _⟩ => ⟨S_, .f32⟩
  | .hbm, ⟨89, _⟩ => ⟨S4x64x4x64, .f32⟩
  | .hbm, ⟨90, _⟩ => ⟨S_, .f32⟩
  | .hbm, ⟨91, _⟩ => ⟨S4x64x4x64, .f32⟩
  | .hbm, ⟨92, _⟩ => ⟨S4x64x4x64, .f32⟩
  | .hbm, ⟨93, _⟩ => ⟨S4x64x4x64x1, .f32⟩
  | .hbm, ⟨94, _⟩ => ⟨S4x64x4x64x576, .f32⟩
  | .hbm, ⟨95, _⟩ => ⟨S4x64x4x64x576, .f32⟩
  | .hbm, ⟨96, _⟩ => ⟨S4x64x4x64x576, .f32⟩
  | .hbm, ⟨97, _⟩ => ⟨S_, .f32⟩
  | .hbm, ⟨98, _⟩ => ⟨S4x64x4x64, .f32⟩
  | .hbm, ⟨99, _⟩ => ⟨S4x64x4x64x1, .f32⟩
  | .hbm, ⟨100, _⟩ => ⟨S4x64x4x64x576, .f32⟩
  | .hbm, ⟨101, _⟩ => ⟨S4x64x4x64x576, .f32⟩
  | .hbm, ⟨102, _⟩ => ⟨S4x64x4x64x64, .f32⟩
  | .hbm, ⟨103, _⟩ => ⟨S4x64x64x4x64, .f32⟩
  | .hbm, ⟨104, _⟩ => ⟨S16384x256, .f32⟩
  | .hbm, ⟨105, _⟩ => ⟨S16384x256, .bf16⟩
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_call1_v0 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_c_8 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Post.lean ====
abbrev S16384x1024 : Shape := ⟨2, ![16384, 1024]⟩
abbrev S16384x256 : Shape := ⟨2, ![16384, 256]⟩
abbrev S16384x512 : Shape := ⟨2, ![16384, 512]⟩
abbrev S4x8x3072 : Shape := ⟨3, ![4, 8, 3072]⟩
abbrev S4x1024 : Shape := ⟨2, ![4, 1024]⟩
abbrev S4x1024x1024 : Shape := ⟨3, ![4, 1024, 1024]⟩
abbrev S4x1024x6144 : Shape := ⟨3, ![4, 1024, 6144]⟩
abbrev S3x3072 : Shape := ⟨2, ![3, 3072]⟩
abbrev S3072 : Shape := ⟨1, ![3072]⟩
abbrev S4x3072x1024 : Shape := ⟨3, ![4, 3072, 1024]⟩
abbrev S1x3072 : Shape := ⟨2, ![1, 3072]⟩
abbrev S512x1024 : Shape := ⟨2, ![512, 1024]⟩
abbrev S512x256 : Shape := ⟨2, ![512, 256]⟩
abbrev S512x512 : Shape := ⟨2, ![512, 512]⟩
abbrev S1x8x3072 : Shape := ⟨3, ![1, 8, 3072]⟩
abbrev S1x1024x1024 : Shape := ⟨3, ![1, 1024, 1024]⟩
abbrev S1x1024x6144 : Shape := ⟨3, ![1, 1024, 6144]⟩
abbrev S1x3072x1024 : Shape := ⟨3, ![1, 3072, 1024]⟩
abbrev S8x3072 : Shape := ⟨2, ![8, 3072]⟩
abbrev S1x1024 : Shape := ⟨2, ![1, 1024]⟩
abbrev S1x256x1024 : Shape := ⟨3, ![1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S64x8x1536 : Shape := ⟨3, ![64, 8, 1536]⟩
abbrev S8x1536 : Shape := ⟨2, ![8, 1536]⟩
abbrev S1x8x1536 : Shape := ⟨3, ![1, 8, 1536]⟩
abbrev S63x8x1536 : Shape := ⟨3, ![63, 8, 1536]⟩
abbrev S1x1536 : Shape := ⟨2, ![1, 1536]⟩
abbrev S1x1536x1024 : Shape := ⟨3, ![1, 1536, 1024]⟩
abbrev S1536x1024 : Shape := ⟨2, ![1536, 1024]⟩

abbrev nBuf : Space → Nat
  | .hbm => 17
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x512, .bf16⟩
  | .hbm, ⟨3, _⟩ => ⟨S16384x256, .bf16⟩
  | .hbm, ⟨4, _⟩ => ⟨S4x8x3072, .f32⟩
  | .hbm, ⟨5, _⟩ => ⟨S4x1024, .f32⟩
  | .hbm, ⟨6, _⟩ => ⟨S4x1024x1024, .f32⟩
  | .hbm, ⟨7, _⟩ => ⟨S4x1024x6144, .f32⟩
  | .hbm, ⟨8, _⟩ => ⟨S3x3072, .f32⟩
  | .hbm, ⟨9, _⟩ => ⟨S3072, .f32⟩
  | .hbm, ⟨10, _⟩ => ⟨S4x3072x1024, .f32⟩
  | .hbm, ⟨11, _⟩ => ⟨S1x3072, .f32⟩
  | .hbm, ⟨12, _⟩ => ⟨S4x1024x1024, .bf16⟩
  | .hbm, ⟨13, _⟩ => ⟨S4x1024x6144, .bf16⟩
  | .hbm, ⟨14, _⟩ => ⟨S4x3072x1024, .bf16⟩
  | .hbm, ⟨15, _⟩ => ⟨S16384x1024, .f32⟩
  | .hbm, ⟨16, _⟩ => ⟨S4x8x3072, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S1x8x3072, .f32⟩
  | .local _ .vmem, ⟨9, _⟩ => ⟨S1x8x3072, .f32⟩
  | .local _ .vmem, ⟨10, _⟩ => ⟨S4x1024, .f32⟩
  | .local _ .vmem, ⟨11, _⟩ => ⟨S1x1024x1024, .bf16⟩
  | .local _ .vmem, ⟨12, _⟩ => ⟨S1x1024x6144, .bf16⟩
  | .local _ .vmem, ⟨13, _⟩ => ⟨S3x3072, .f32⟩
  | .local _ .vmem, ⟨14, _⟩ => ⟨S1x3072, .f32⟩
  | .local _ .vmem, ⟨15, _⟩ => ⟨S1x3072x1024, .bf16⟩
  | .local _ .vmem, ⟨16, _⟩ => ⟨S512x1024, .f32⟩
  | .local _ .vmem, ⟨17, _⟩ => ⟨S512x1024, .f32⟩
  | .local _ .vmem, ⟨18, _⟩ => ⟨S1x8x3072, .f32⟩
  | .local _ .vmem, ⟨19, _⟩ => ⟨S1x8x3072, .f32⟩
  | .local _ .vmem, ⟨20, _⟩ => ⟨S8x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== PostRefIdeal.lean ====
abbrev S16384x1024 : Shape := ⟨2, ![16384, 1024]⟩
abbrev S16384x256 : Shape := ⟨2, ![16384, 256]⟩
abbrev S16384x512 : Shape := ⟨2, ![16384, 512]⟩
abbrev S4x8x3072 : Shape := ⟨3, ![4, 8, 3072]⟩
abbrev S4x1024 : Shape := ⟨2, ![4, 1024]⟩
abbrev S4x1024x1024 : Shape := ⟨3, ![4, 1024, 1024]⟩
abbrev S4x1024x6144 : Shape := ⟨3, ![4, 1024, 6144]⟩
abbrev S3x3072 : Shape := ⟨2, ![3, 3072]⟩
abbrev S3072 : Shape := ⟨1, ![3072]⟩
abbrev S4x3072x1024 : Shape := ⟨3, ![4, 3072, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6144 : Shape := ⟨3, ![1, 1024, 6144]⟩
abbrev S1024x6144 : Shape := ⟨2, ![1024, 6144]⟩
abbrev S16384x6144 : Shape := ⟨2, ![16384, 6144]⟩
abbrev S16384x3072 : Shape := ⟨2, ![16384, 3072]⟩
abbrev S4x4096x3072 : Shape := ⟨3, ![4, 4096, 3072]⟩
abbrev S4x2x3072 : Shape := ⟨3, ![4, 2, 3072]⟩
abbrev S4x4098x3072 : Shape := ⟨3, ![4, 4098, 3072]⟩
abbrev S1x3072 : Shape := ⟨2, ![1, 3072]⟩
abbrev S1x1x3072 : Shape := ⟨3, ![1, 1, 3072]⟩
abbrev S1x3072x1024 : Shape := ⟨3, ![1, 3072, 1024]⟩
abbrev S3072x1024 : Shape := ⟨2, ![3072, 1024]⟩

abbrev nBuf : Space → Nat
  | .hbm => 126
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x512, .bf16⟩
  | .hbm, ⟨3, _⟩ => ⟨S16384x256, .bf16⟩
  | .hbm, ⟨4, _⟩ => ⟨S4x8x3072, .f32⟩
  | .hbm, ⟨5, _⟩ => ⟨S4x1024, .f32⟩
  | .hbm, ⟨6, _⟩ => ⟨S4x1024x1024, .f32⟩
  | .hbm, ⟨7, _⟩ => ⟨S4x1024x6144, .f32⟩
  | .hbm, ⟨8, _⟩ => ⟨S3x3072, .f32⟩
  | .hbm, ⟨9, _⟩ => ⟨S3072, .f32⟩
  | .hbm, ⟨10, _⟩ => ⟨S4x3072x1024, .f32⟩
  | .hbm, ⟨11, _⟩ => ⟨S16384x1024, .bf16⟩
  | .hbm, ⟨12, _⟩ => ⟨S16384x1024, .f32⟩
  | .hbm, ⟨13, _⟩ => ⟨S1x1024x1024, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S1x1024x6144, .f32⟩
  | .hbm, ⟨54, _⟩ => ⟨S1024x6144, .f32⟩
  | .hbm, ⟨55, _⟩ => ⟨S16384x6144, .f32⟩
  | .hbm, ⟨56, _⟩ => ⟨S16384x3072, .f32⟩
  | .hbm, ⟨57, _⟩ => ⟨S16384x3072, .f32⟩
  | .hbm, ⟨58, _⟩ => ⟨S4x4096x3072, .f32⟩
  | .hbm, ⟨59, _⟩ => ⟨S4x2x3072, .f32⟩
  | .hbm, ⟨60, _⟩ => ⟨S4x4098x3072, .f32⟩
  | .hbm, ⟨61, _⟩ => ⟨S4x4096x3072, .f32⟩
  | .hbm, ⟨62, _⟩ => ⟨S1x3072, .f32⟩
  | .hbm, ⟨63, _⟩ => ⟨S3072, .f32⟩
  | .hbm, ⟨64, _⟩ => ⟨S1x1x3072, .f32⟩
  | .hbm, ⟨65, _⟩ => ⟨S4x4096x3072, .f32⟩
  | .hbm, ⟨66, _⟩ => ⟨S4x4096x3072, .f32⟩
  | .hbm, ⟨67, _⟩ => ⟨S4x4096x3072, .f32⟩
  | .hbm, ⟨68, _⟩ => ⟨S1x3072, .f32⟩
  | .hbm, ⟨69, _⟩ => ⟨S3072, .f32⟩
  | .hbm, ⟨70, _⟩ => ⟨S1x1x3072, .f32⟩
  | .hbm, ⟨71, _⟩ => ⟨S4x4096x3072, .f32⟩
  | .hbm, ⟨72, _⟩ => ⟨S4x4096x3072, .f32⟩
  | .hbm, ⟨73, _⟩ => ⟨S4x4096x3072, .f32⟩
  | .hbm, ⟨74, _⟩ => ⟨S4x4096x3072, .f32⟩
  | .hbm, ⟨75, _⟩ => ⟨S1x3072, .f32⟩
  | .hbm, ⟨76, _⟩ => ⟨S3072, .f32⟩
  | .hbm, ⟨77, _⟩ => ⟨S1x1x3072, .f32⟩
  | .hbm, ⟨78, _⟩ => ⟨S4x4096x3072, .f32⟩
  | .hbm, ⟨79, _⟩ => ⟨S4x4096x3072, .f32⟩
  | .hbm, ⟨80, _⟩ => ⟨S4x4096x3072, .f32⟩
  | .hbm, ⟨81, _⟩ => ⟨S1x1x3072, .f32⟩
  | .hbm, ⟨82, _⟩ => ⟨S4x4096x3072, .f32⟩
  | .hbm, ⟨83, _⟩ => ⟨S4x4096x3072, .f32⟩
  | .hbm, ⟨84, _⟩ => ⟨S16384x3072, .f32⟩
  | .hbm, ⟨85, _⟩ => ⟨S16384x3072, .f32⟩
  | .hbm, ⟨86, _⟩ => ⟨S16384x3072, .f32⟩
  | .hbm, ⟨87, _⟩ => ⟨S_, .f32⟩
  | .hbm, ⟨88, _⟩ => ⟨S16384x3072, .f32⟩
  | .hbm, ⟨89, _⟩ => ⟨S16384x3072, .f32⟩
  | .hbm, ⟨90, _⟩ => ⟨S16384x3072, .f32⟩
  | .hbm, ⟨91, _⟩ => ⟨S_, .f32⟩
  | .hbm, ⟨92, _⟩ => ⟨S16384x3072, .f32⟩
  | .hbm, ⟨93, _⟩ => ⟨S16384x3072, .f32⟩
  | .hbm, ⟨94, _⟩ => ⟨S16384x3072, .f32⟩
  | .hbm, ⟨95, _⟩ => ⟨S_, .f32⟩
  | .hbm, ⟨96, _⟩ => ⟨S16384x3072, .f32⟩
  | .hbm, ⟨97, _⟩ => ⟨S16384x3072, .f32⟩
  | .hbm, ⟨98, _⟩ => ⟨S_, .f32⟩
  | .hbm, ⟨99, _⟩ => ⟨S16384x3072, .f32⟩
  | .hbm, ⟨100, _⟩ => ⟨S16384x3072, .f32⟩
  | .hbm, ⟨101, _⟩ => ⟨S16384x3072, .f32⟩
  | .hbm, ⟨102, _⟩ => ⟨S16384x3072, .f32⟩
  | .hbm, ⟨103, _⟩ => ⟨S1x3072x1024, .f32⟩
  | .hbm, ⟨104, _⟩ => ⟨S3072x1024, .f32⟩
  | .hbm, ⟨105, _⟩ => ⟨S16384x1024, .f32⟩
  | .hbm, ⟨106, _⟩ => ⟨S1x1024, .f32⟩
  | .hbm, ⟨107, _⟩ => ⟨S1024, .f32⟩
  | .hbm, ⟨108, _⟩ => ⟨S16384x1024, .f32⟩
  | .hbm, ⟨109, _⟩ => ⟨S_, .f32⟩
  | .hbm, ⟨110, _⟩ => ⟨S16384, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S_, .f32⟩
  | .hbm, ⟨116, _⟩ => ⟨S16384x1, .f32⟩
  | .hbm, ⟨117, _⟩ => ⟨S16384x1, .f32⟩
  | .hbm, ⟨118, _⟩ => ⟨S16384x1, .f32⟩
  | .hbm, ⟨119, _⟩ => ⟨S16384x1024, .f32⟩
  | .hbm, ⟨120, _⟩ => ⟨S16384x1024, .f32⟩
  | .hbm, ⟨121, _⟩ => ⟨S1x1024, .f32⟩
  | .hbm, ⟨122, _⟩ => ⟨S16384x1024, .f32⟩
  | .hbm, ⟨123, _⟩ => ⟨S16384x1024, .f32⟩
  | .hbm, ⟨124, _⟩ => ⟨S16384x1024, .f32⟩
  | .hbm, ⟨125, _⟩ => ⟨S4x8x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_5 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_7 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_9 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_cst_11 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩

abbrev nD : Nat := 1
abbrev τ : Topo := Topo.v7x

variable {F : FTy → Type} [FloatOps F]
-- ==== PreS.lean ====
abbrev S256x1024 : Shape := ⟨2, ![256, 1024]⟩
abbrev S4x1024 : Shape := ⟨2, ![4, 1024]⟩
abbrev S1024x2564 : Shape := ⟨2, ![1024, 2564]⟩
abbrev S4 : Shape := ⟨1, ![4]⟩
abbrev S2564x1024 : Shape := ⟨2, ![2564, 1024]⟩
abbrev S1024x1024 : Shape := ⟨2, ![1024, 1024]⟩
abbrev S_ : Shape := ⟨0, ![]⟩
abbrev S8x1024 : Shape := ⟨2, ![8, 1024]⟩
abbrev S8 : Shape := ⟨1, ![8]⟩
abbrev S8x1 : Shape := ⟨2, ![8, 1]⟩
abbrev S8x128 : Shape := ⟨2, ![8, 128]⟩
abbrev S1x1024 : Shape := ⟨2, ![1, 1024]⟩
abbrev S256x256 : Shape := ⟨2, ![256, 256]⟩
abbrev S16x128x256 : Shape := ⟨3, ![16, 128, 256]⟩
abbrev S8x256 : Shape := ⟨2, ![8, 256]⟩
abbrev S256x512 : Shape := ⟨2, ![256, 512]⟩
abbrev S256 : Shape := ⟨1, ![256]⟩
abbrev S256x1 : Shape := ⟨2, ![256, 1]⟩
abbrev S16x256 : Shape := ⟨2, ![16, 256]⟩
abbrev S1x16x256 : Shape := ⟨3, ![1, 16, 256]⟩

abbrev nBuf : Space → Nat
  | .hbm => 36
  | .vmem => 24
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S1024x2564, .f32⟩
  | .hbm, ⟨3, _⟩ => ⟨S4, .f32⟩
  | .hbm, ⟨4, _⟩ => ⟨S2564x1024, .f32⟩
  | .hbm, ⟨5, _⟩ => ⟨S2564x1024, .bf16⟩
  | .hbm, ⟨6, _⟩ => ⟨S256x1024, .bf16⟩
  | .hbm, ⟨7, _⟩ => ⟨S256x1024, .bf16⟩
  | .hbm, ⟨8, _⟩ => ⟨S256x1024, .bf16⟩
  | .hbm, ⟨9, _⟩ => ⟨S4x1024, .bf16⟩
  | .hbm, ⟨10, _⟩ => ⟨S1024x1024, .bf16⟩
  | .hbm, ⟨11, _⟩ => ⟨S256x1024, .bf16⟩
  | .hbm, ⟨12, _⟩ => ⟨S256x1024, .bf16⟩
  | .hbm, ⟨13, _⟩ => ⟨S256x1024, .bf16⟩
  | .hbm, ⟨14, _⟩ => ⟨S_, .i32⟩
  | .hbm, ⟨15, _⟩ => ⟨S_, .bf16⟩
  | .hbm, ⟨16, _⟩ => ⟨S8x1024, .bf16⟩
  | .hbm, ⟨17, _⟩ => ⟨S_, .i32⟩
  | .hbm, ⟨18, _⟩ => ⟨S_, .f32⟩
  | .hbm, ⟨19, _⟩ => ⟨S8, .f32⟩
  | .hbm, ⟨20, _⟩ => ⟨S8x1, .f32⟩
  | .hbm, ⟨21, _⟩ => ⟨S8x128, .f32⟩
  | .hbm, ⟨22, _⟩ => ⟨S1x1024, .f32⟩
  | .hbm, ⟨23, _⟩ => ⟨S256x256, .bf16⟩
  | .hbm, ⟨24, _⟩ => ⟨S256x256, .f32⟩
  | .hbm, ⟨25, _⟩ => ⟨S256x256, .f32⟩
  | .hbm, ⟨26, _⟩ => ⟨S16x128x256, .bf16⟩
  | .hbm, ⟨27, _⟩ => ⟨S16x128x256, .bf16⟩
  | .hbm, ⟨28, _⟩ => ⟨S8x256, .f32⟩
  | .hbm, ⟨29, _⟩ => ⟨S256x512, .f32⟩
  | .hbm, ⟨30, _⟩ => ⟨S256x512, .f32⟩
  | .hbm, ⟨31, _⟩ => ⟨S256x256, .bf16⟩
  | .hbm, ⟨32, _⟩ => ⟨S256x256, .f32⟩
  | .hbm, ⟨33, _⟩ => ⟨S256x256, .f32⟩
  | .hbm, ⟨34, _⟩ => ⟨S16x128x256, .bf16⟩
  | .hbm, ⟨35, _⟩ => ⟨S16x128x256, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S8x1024, .bf16⟩
  | .local _ .vmem, ⟨6, _⟩ => ⟨S8x128, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x256, .bf16⟩
  | .local _ .vmem, ⟨12, _⟩ => ⟨S256x256, .f32⟩
  | .local _ .vmem, ⟨13, _⟩ => ⟨S256x256, .f32⟩
  | .local _ .vmem, ⟨14, _⟩ => ⟨S16x128x256, .bf16⟩
  | .local _ .vmem, ⟨15, _⟩ => ⟨S16x128x256, .bf16⟩
  | .local _ .vmem, ⟨16, _⟩ => ⟨S8x256, .f32⟩
  | .local _ .vmem, ⟨17, _⟩ => ⟨S256x512, .f32⟩
  | .local _ .vmem, ⟨18, _⟩ => ⟨S256x512, .f32⟩
  | .local _ .vmem, ⟨19, _⟩ => ⟨S256x256, .bf16⟩
  | .local _ .vmem, ⟨20, _⟩ => ⟨S256x256, .f32⟩
  | .local _ .vmem, ⟨21, _⟩ => ⟨S256x256, .f32⟩
  | .local _ .vmem, ⟨22, _⟩ => ⟨S16x128x256, .bf16⟩
  | .local _ .vmem, ⟨23, _⟩ => ⟨S16x128x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v15_7 : Ref sig .tc := ⟨.hbm, 30, rfl⟩
abbrev main_v15_8 : Ref sig .tc := ⟨.hbm, 31, rfl⟩
abbrev main_v15_9 : Ref sig .tc := ⟨.hbm, 32, rfl⟩
abbrev main_v15_10 : Ref sig .tc := ⟨.hbm, 33, rfl⟩
abbrev main_v15_11 : Ref sig .tc := ⟨.hbm, 34, rfl⟩
abbrev main_v15_12 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16x128x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S16x128x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== PreSRefIdeal.lean ====
abbrev S256x1024 : Shape := ⟨2, ![256, 1024]⟩
abbrev S4x1024 : Shape := ⟨2, ![4, 1024]⟩
abbrev S1024x2564 : Shape := ⟨2, ![1024, 2564]⟩
abbrev S4 : Shape := ⟨1, ![4]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S256x2564 : Shape := ⟨2, ![256, 2564]⟩
abbrev S256x256 : Shape := ⟨2, ![256, 256]⟩
abbrev S256x4 : Shape := ⟨2, ![256, 4]⟩
abbrev S256x512 : Shape := ⟨2, ![256, 512]⟩
abbrev S256x8 : Shape := ⟨2, ![256, 8]⟩
abbrev S8 : Shape := ⟨1, ![8]⟩
abbrev S1x8 : Shape := ⟨2, ![1, 8]⟩
abbrev S8x256 : Shape := ⟨2, ![8, 256]⟩

abbrev nBuf : Space → Nat
  | .hbm => 58
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S1024x2564, .f32⟩
  | .hbm, ⟨3, _⟩ => ⟨S4, .f32⟩
  | .hbm, ⟨4, _⟩ => ⟨S1x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2564, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x4, .f32⟩
  | .hbm, ⟨27, _⟩ => ⟨S256x512, .f32⟩
  | .hbm, ⟨28, _⟩ => ⟨S256x512, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .i32⟩
  | .hbm, ⟨33, _⟩ => ⟨S_, .f32⟩
  | .hbm, ⟨34, _⟩ => ⟨S256x8, .f32⟩
  | .hbm, ⟨35, _⟩ => ⟨S_, .i32⟩
  | .hbm, ⟨36, _⟩ => ⟨S_, .f32⟩
  | .hbm, ⟨37, _⟩ => ⟨S8, .f32⟩
  | .hbm, ⟨38, _⟩ => ⟨S1x8, .f32⟩
  | .hbm, ⟨39, _⟩ => ⟨S256x8, .f32⟩
  | .hbm, ⟨40, _⟩ => ⟨S256x8, .f32⟩
  | .hbm, ⟨41, _⟩ => ⟨S256x8, .f32⟩
  | .hbm, ⟨42, _⟩ => ⟨S_, .f32⟩
  | .hbm, ⟨43, _⟩ => ⟨S256x8, .f32⟩
  | .hbm, ⟨44, _⟩ => ⟨S256x8, .f32⟩
  | .hbm, ⟨45, _⟩ => ⟨S256x8, .f32⟩
  | .hbm, ⟨46, _⟩ => ⟨S256x8, .f32⟩
  | .hbm, ⟨47, _⟩ => ⟨S256x8, .i1⟩
  | .hbm, ⟨48, _⟩ => ⟨S256x8, .f32⟩
  | .hbm, ⟨49, _⟩ => ⟨S256x8, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S256x8, .f32⟩
  | .hbm, ⟨55, _⟩ => ⟨S256x8, .f32⟩
  | .hbm, ⟨56, _⟩ => ⟨S256x8, .f32⟩
  | .hbm, ⟨57, _⟩ => ⟨S8x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_c_2 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_v0 : Ref sig .tc := ⟨.hbm, 41, rfl⟩
abbrev main_call2_call0_cst : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_call0_v2 : Ref sig .tc := ⟨.hbm, 45, rfl⟩
abbrev main_call2_call0_v3 : Ref sig .tc := ⟨.hbm, 46, rfl⟩
abbrev main_call2_call0_v4 : Ref sig .tc := ⟨.hbm, 47, rfl⟩
abbrev main_call2_call0_v5 : Ref sig .tc := ⟨.hbm, 48, rfl⟩
abbrev main_call2_call0_v6 : Ref sig .tc := ⟨.hbm, 49, rfl⟩
abbrev main_call2_call0_v7 : Ref sig .tc := ⟨.hbm, 50, rfl⟩
abbrev main_call2_call0_v8 : Ref sig .tc := ⟨.hbm, 51, rfl⟩
abbrev main_call2_call0_v9 : Ref sig .tc := ⟨.hbm, 52, rfl⟩
abbrev main_call2_call0_v10 : Ref sig .tc := ⟨.hbm, 53, rfl⟩
abbrev main_call2_call0_v11 : Ref sig .tc := ⟨.hbm, 54, rfl⟩
abbrev main_call2_v1 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]
-- ==== PostS.lean ====
abbrev S256x1024 : Shape := ⟨2, ![256, 1024]⟩
abbrev S256x256 : Shape := ⟨2, ![256, 256]⟩
abbrev S256x512 : Shape := ⟨2, ![256, 512]⟩
abbrev S16x2x3072 : Shape := ⟨3, ![16, 2, 3072]⟩
abbrev S4x1024 : Shape := ⟨2, ![4, 1024]⟩
abbrev S4x1024x1024 : Shape := ⟨3, ![4, 1024, 1024]⟩
abbrev S4x1024x6144 : Shape := ⟨3, ![4, 1024, 6144]⟩
abbrev S3x3072 : Shape := ⟨2, ![3, 3072]⟩
abbrev S3072 : Shape := ⟨1, ![3072]⟩
abbrev S4x3072x1024 : Shape := ⟨3, ![4, 3072, 1024]⟩
abbrev S1x3072 : Shape := ⟨2, ![1, 3072]⟩
abbrev S_ : Shape := ⟨0, ![]⟩
abbrev S16x16x3072 : Shape := ⟨3, ![16, 16, 3072]⟩
abbrev S256x3072 : Shape := ⟨2, ![256, 3072]⟩
abbrev S16x1x3072 : Shape := ⟨3, ![16, 1, 3072]⟩
abbrev S1x256x3072 : Shape := ⟨3, ![1, 256, 3072]⟩
abbrev S2x256x3072 : Shape := ⟨3, ![2, 256, 3072]⟩
abbrev S1x1024x1024 : Shape := ⟨3, ![1, 1024, 1024]⟩
abbrev S1x1024x6144 : Shape := ⟨3, ![1, 1024, 6144]⟩
abbrev S1x3072x1024 : Shape := ⟨3, ![1, 3072, 1024]⟩
abbrev S8x3072 : Shape := ⟨2, ![8, 3072]⟩
abbrev S1x1024 : Shape := ⟨2, ![1, 1024]⟩
abbrev S1x256x1024 : Shape := ⟨3, ![1, 256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S256x1536 : Shape := ⟨2, ![256, 1536]⟩
abbrev S1x1024x1536 : Shape := ⟨3, ![1, 1024, 1536]⟩
abbrev S1024x1536 : Shape := ⟨2, ![1024, 1536]⟩
abbrev S1x256x1536 : Shape := ⟨3, ![1, 256, 1536]⟩
abbrev S1x1536 : Shape := ⟨2, ![1, 1536]⟩
abbrev S1x1536x1024 : Shape := ⟨3, ![1, 1536, 1024]⟩
abbrev S1536x1024 : Shape := ⟨2, ![1536, 1024]⟩

abbrev nBuf : Space → Nat
  | .hbm => 29
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x256, .bf16⟩
  | .hbm, ⟨2, _⟩ => ⟨S256x512, .bf16⟩
  | .hbm, ⟨3, _⟩ => ⟨S256x256, .bf16⟩
  | .hbm, ⟨4, _⟩ => ⟨S16x2x3072, .f32⟩
  | .hbm, ⟨5, _⟩ => ⟨S4x1024, .f32⟩
  | .hbm, ⟨6, _⟩ => ⟨S4x1024x1024, .f32⟩
  | .hbm, ⟨7, _⟩ => ⟨S4x1024x6144, .f32⟩
  | .hbm, ⟨8, _⟩ => ⟨S3x3072, .f32⟩
  | .hbm, ⟨9, _⟩ => ⟨S3072, .f32⟩
  | .hbm, ⟨10, _⟩ => ⟨S4x3072x1024, .f32⟩
  | .hbm, ⟨11, _⟩ => ⟨S1x3072, .f32⟩
  | .hbm, ⟨12, _⟩ => ⟨S4x1024x1024, .bf16⟩
  | .hbm, ⟨13, _⟩ => ⟨S4x1024x6144, .bf16⟩
  | .hbm, ⟨14, _⟩ => ⟨S4x3072x1024, .bf16⟩
  | .hbm, ⟨15, _⟩ => ⟨S_, .i32⟩
  | .hbm, ⟨16, _⟩ => ⟨S_, .f32⟩
  | .hbm, ⟨17, _⟩ => ⟨S16x16x3072, .f32⟩
  | .hbm, ⟨18, _⟩ => ⟨S256x3072, .f32⟩
  | .hbm, ⟨19, _⟩ => ⟨S16x1x3072, .f32⟩
  | .hbm, ⟨20, _⟩ => ⟨S_, .i32⟩
  | .hbm, ⟨21, _⟩ => ⟨S_, .f32⟩
  | .hbm, ⟨22, _⟩ => ⟨S16x16x3072, .f32⟩
  | .hbm, ⟨23, _⟩ => ⟨S256x3072, .f32⟩
  | .hbm, ⟨24, _⟩ => ⟨S1x256x3072, .f32⟩
  | .hbm, ⟨25, _⟩ => ⟨S1x256x3072, .f32⟩
  | .hbm, ⟨26, _⟩ => ⟨S2x256x3072, .f32⟩
  | .hbm, ⟨27, _⟩ => ⟨S256x1024, .f32⟩
  | .hbm, ⟨28, _⟩ => ⟨S256x3072, .f32⟩
  | .local _ .vmem, ⟨0, _⟩ => ⟨S256x1024, .f32⟩
  | .local _ .vmem, ⟨1, _⟩ => ⟨S256x256, .bf16⟩
  | .local _ .vmem, ⟨2, _⟩ => ⟨S256x512, .bf16⟩
  | .local _ .vmem, ⟨3, _⟩ => ⟨S256x256, .bf16⟩
  | .local _ .vmem, ⟨4, _⟩ => ⟨S2x256x3072, .f32⟩
  | .local _ .vmem, ⟨5, _⟩ => ⟨S4x1024, .f32⟩
  | .local _ .vmem, ⟨6, _⟩ => ⟨S1x1024x1024, .bf16⟩
  | .local _ .vmem, ⟨7, _⟩ => ⟨S1x1024x6144, .bf16⟩
  | .local _ .vmem, ⟨8, _⟩ => ⟨S3x3072, .f32⟩
  | .local _ .vmem, ⟨9, _⟩ => ⟨S1x3072, .f32⟩
  | .local _ .vmem, ⟨10, _⟩ => ⟨S1x3072x1024, .bf16⟩
  | .local _ .vmem, ⟨11, _⟩ => ⟨S256x1024, .f32⟩
  | .local _ .vmem, ⟨12, _⟩ => ⟨S256x3072, .f32⟩
  | .local _ .vmem, ⟨13, _⟩ => ⟨S8x3072, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== PostSRefIdeal.lean ====
abbrev S256x1024 : Shape := ⟨2, ![256, 1024]⟩
abbrev S256x256 : Shape := ⟨2, ![256, 256]⟩
abbrev S256x512 : Shape := ⟨2, ![256, 512]⟩
abbrev S16x2x3072 : Shape := ⟨3, ![16, 2, 3072]⟩
abbrev S4x1024 : Shape := ⟨2, ![4, 1024]⟩
abbrev S4x1024x1024 : Shape := ⟨3, ![4, 1024, 1024]⟩
abbrev S4x1024x6144 : Shape := ⟨3, ![4, 1024, 6144]⟩
abbrev S3x3072 : Shape := ⟨2, ![3, 3072]⟩
abbrev S3072 : Shape := ⟨1, ![3072]⟩
abbrev S4x3072x1024 : Shape := ⟨3, ![4, 3072, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024x6144 : Shape := ⟨3, ![1, 1024, 6144]⟩
abbrev S1024x6144 : Shape := ⟨2, ![1024, 6144]⟩
abbrev S256x6144 : Shape := ⟨2, ![256, 6144]⟩
abbrev S256x3072 : Shape := ⟨2, ![256, 3072]⟩
abbrev S16x16x3072 : Shape := ⟨3, ![16, 16, 3072]⟩
abbrev S16x18x3072 : Shape := ⟨3, ![16, 18, 3072]⟩
abbrev S1x3072 : Shape := ⟨2, ![1, 3072]⟩
abbrev S1x1x3072 : Shape := ⟨3, ![1, 1, 3072]⟩
abbrev S1x3072x1024 : Shape := ⟨3, ![1, 3072, 1024]⟩
abbrev S3072x1024 : Shape := ⟨2, ![3072, 1024]⟩

abbrev nBuf : Space → Nat
  | .hbm => 124
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x256, .bf16⟩
  | .hbm, ⟨2, _⟩ => ⟨S256x512, .bf16⟩
  | .hbm, ⟨3, _⟩ => ⟨S256x256, .bf16⟩
  | .hbm, ⟨4, _⟩ => ⟨S16x2x3072, .f32⟩
  | .hbm, ⟨5, _⟩ => ⟨S4x1024, .f32⟩
  | .hbm, ⟨6, _⟩ => ⟨S4x1024x1024, .f32⟩
  | .hbm, ⟨7, _⟩ => ⟨S4x1024x6144, .f32⟩
  | .hbm, ⟨8, _⟩ => ⟨S3x3072, .f32⟩
  | .hbm, ⟨9, _⟩ => ⟨S3072, .f32⟩
  | .hbm, ⟨10, _⟩ => ⟨S4x3072x1024, .f32⟩
  | .hbm, ⟨11, _⟩ => ⟨S256x1024, .bf16⟩
  | .hbm, ⟨12, _⟩ => ⟨S256x1024, .f32⟩
  | .hbm, ⟨13, _⟩ => ⟨S1x1024x1024, .f32⟩
  | .hbm, ⟨14, _⟩ => ⟨S1024x1024, .f32⟩
  | .hbm, ⟨15, _⟩ => ⟨S256x1024, .f32⟩
  | .hbm, ⟨16, _⟩ => ⟨S1x1024, .f32⟩
  | .hbm, ⟨17, _⟩ => ⟨S1024, .f32⟩
  | .hbm, ⟨18, _⟩ => ⟨S256x1024, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1024, .f32⟩
  | .hbm, ⟨30, _⟩ => ⟨S256x1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S1024, .f32⟩
  | .hbm, ⟨37, _⟩ => ⟨S256x1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1024, .f32⟩
  | .hbm, ⟨49, _⟩ => ⟨S256x1024, .f32⟩
  | .hbm, ⟨50, _⟩ => ⟨S1x1024, .f32⟩
  | .hbm, ⟨51, _⟩ => ⟨S256x1024, .f32⟩
  | .hbm, ⟨52, _⟩ => ⟨S256x1024, .f32⟩
  | .hbm, ⟨53, _⟩ => ⟨S1x1024x6144, .f32⟩
  | .hbm, ⟨54, _⟩ => ⟨S1024x6144, .f32⟩
  | .hbm, ⟨55, _⟩ => ⟨S256x6144, .f32⟩
  | .hbm, ⟨56, _⟩ => ⟨S256x3072, .f32⟩
  | .hbm, ⟨57, _⟩ => ⟨S256x3072, .f32⟩
  | .hbm, ⟨58, _⟩ => ⟨S16x16x3072, .f32⟩
  | .hbm, ⟨59, _⟩ => ⟨S16x18x3072, .f32⟩
  | .hbm, ⟨60, _⟩ => ⟨S16x16x3072, .f32⟩
  | .hbm, ⟨61, _⟩ => ⟨S1x3072, .f32⟩
  | .hbm, ⟨62, _⟩ => ⟨S3072, .f32⟩
  | .hbm, ⟨63, _⟩ => ⟨S1x1x3072, .f32⟩
  | .hbm, ⟨64, _⟩ => ⟨S16x16x3072, .f32⟩
  | .hbm, ⟨65, _⟩ => ⟨S16x16x3072, .f32⟩
  | .hbm, ⟨66, _⟩ => ⟨S16x16x3072, .f32⟩
  | .hbm, ⟨67, _⟩ => ⟨S1x3072, .f32⟩
  | .hbm, ⟨68, _⟩ => ⟨S3072, .f32⟩
  | .hbm, ⟨69, _⟩ => ⟨S1x1x3072, .f32⟩
  | .hbm, ⟨70, _⟩ => ⟨S16x16x3072, .f32⟩
  | .hbm, ⟨71, _⟩ => ⟨S16x16x3072, .f32⟩
  | .hbm, ⟨72, _⟩ => ⟨S16x16x3072, .f32⟩
  | .hbm, ⟨73, _⟩ => ⟨S16x16x3072, .f32⟩
  | .hbm, ⟨74, _⟩ => ⟨S1x3072, .f32⟩
  | .hbm, ⟨75, _⟩ => ⟨S3072, .f32⟩
  | .hbm, ⟨76, _⟩ => ⟨S1x1x3072, .f32⟩
  | .hbm, ⟨77, _⟩ => ⟨S16x16x3072, .f32⟩
  | .hbm, ⟨78, _⟩ => ⟨S16x16x3072, .f32⟩
  | .hbm, ⟨79, _⟩ => ⟨S16x16x3072, .f32⟩
  | .hbm, ⟨80, _⟩ => ⟨S1x1x3072, .f32⟩
  | .hbm, ⟨81, _⟩ => ⟨S16x16x3072, .f32⟩
  | .hbm, ⟨82, _⟩ => ⟨S16x16x3072, .f32⟩
  | .hbm, ⟨83, _⟩ => ⟨S256x3072, .f32⟩
  | .hbm, ⟨84, _⟩ => ⟨S256x3072, .f32⟩
  | .hbm, ⟨85, _⟩ => ⟨S256x3072, .f32⟩
  | .hbm, ⟨86, _⟩ => ⟨S_, .f32⟩
  | .hbm, ⟨87, _⟩ => ⟨S256x3072, .f32⟩
  | .hbm, ⟨88, _⟩ => ⟨S256x3072, .f32⟩
  | .hbm, ⟨89, _⟩ => ⟨S256x3072, .f32⟩
  | .hbm, ⟨90, _⟩ => ⟨S_, .f32⟩
  | .hbm, ⟨91, _⟩ => ⟨S256x3072, .f32⟩
  | .hbm, ⟨92, _⟩ => ⟨S256x3072, .f32⟩
  | .hbm, ⟨93, _⟩ => ⟨S256x3072, .f32⟩
  | .hbm, ⟨94, _⟩ => ⟨S_, .f32⟩
  | .hbm, ⟨95, _⟩ => ⟨S256x3072, .f32⟩
  | .hbm, ⟨96, _⟩ => ⟨S256x3072, .f32⟩
  | .hbm, ⟨97, _⟩ => ⟨S_, .f32⟩
  | .hbm, ⟨98, _⟩ => ⟨S256x3072, .f32⟩
  | .hbm, ⟨99, _⟩ => ⟨S256x3072, .f32⟩
  | .hbm, ⟨100, _⟩ => ⟨S256x3072, .f32⟩
  | .hbm, ⟨101, _⟩ => ⟨S256x3072, .f32⟩
  | .hbm, ⟨102, _⟩ => ⟨S1x3072x1024, .f32⟩
  | .hbm, ⟨103, _⟩ => ⟨S3072x1024, .f32⟩
  | .hbm, ⟨104, _⟩ => ⟨S256x1024, .f32⟩
  | .hbm, ⟨105, _⟩ => ⟨S1x1024, .f32⟩
  | .hbm, ⟨106, _⟩ => ⟨S1024, .f32⟩
  | .hbm, ⟨107, _⟩ => ⟨S256x1024, .f32⟩
  | .hbm, ⟨108, _⟩ => ⟨S_, .f32⟩
  | .hbm, ⟨109, _⟩ => ⟨S256, .f32⟩
  | .hbm, ⟨110, _⟩ => ⟨S256x1, .f32⟩
  | .hbm, ⟨111, _⟩ => ⟨S_, .f32⟩
  | .hbm, ⟨112, _⟩ => ⟨S256x1, .f32⟩
  | .hbm, ⟨113, _⟩ => ⟨S256x1, .f32⟩
  | .hbm, ⟨114, _⟩ => ⟨S_, .f32⟩
  | .hbm, ⟨115, _⟩ => ⟨S256x1, .f32⟩
  | .hbm, ⟨116, _⟩ => ⟨S256x1, .f32⟩
  | .hbm, ⟨117, _⟩ => ⟨S256x1, .f32⟩
  | .hbm, ⟨118, _⟩ => ⟨S256x1024, .f32⟩
  | .hbm, ⟨119, _⟩ => ⟨S256x1024, .f32⟩
  | .hbm, ⟨120, _⟩ => ⟨S1x1024, .f32⟩
  | .hbm, ⟨121, _⟩ => ⟨S256x1024, .f32⟩
  | .hbm, ⟨122, _⟩ => ⟨S256x1024, .f32⟩
  | .hbm, ⟨123, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_cst_8 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_cst_10 : Ref sig .tc := ⟨.hbm, 111, rfl⟩
abbrev main_v89 : Ref sig .tc := ⟨.hbm, 112, rfl⟩
abbrev main_v90 : Ref sig .tc := ⟨.hbm, 113, rfl⟩
abbrev main_cst_11 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Proof.Band.Softmax.lean ====
/- The equation of the chunk-band attention, over the extended reals and with no program in it: a row of weights taken in
   base two from scaled scores and divided after the sum is the softmax row in base e. -/
module

public import Idealize.ShloMosaic.PureOps.Ideal

@[expose] public section

noncomputable section

namespace Cert.Proof.Softmax

open Idealize.ShloMosaic
open scoped BigOperators

/-- The scale from base e to base two: `1 / ln 2`. -/
def c2 : ℝ := 1 / Real.log 2

theorem c2_pos : 0 < c2 := one_div_pos.mpr (Real.log_pos one_lt_two)

/-- `2 ^ (x / ln 2) = e ^ x` at every extended real. -/
theorem exp2_mul_c2 (x : EReal) : Ideal.exp2 (x * (c2 : EReal)) = Ideal.exp x := by
  induction x with
  | bot => rw [EReal.bot_mul_coe_of_pos c2_pos]; rfl
  | top => rw [EReal.top_mul_coe_of_pos c2_pos]; rfl
  | coe r =>
    rw [← EReal.coe_mul, Ideal.exp2_coe, Ideal.exp_coe]
    congr 1
    have h : Real.log 2 ≠ 0 := (Real.log_pos one_lt_two).ne'
    show (2 : ℝ) ^ (r * c2) = _
    rw [Real.rpow_def_of_pos two_pos, c2, mul_one_div, mul_div_cancel₀ _ h]

/-- A sum times a finite nonnegative number, term by term. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- A sum of finite numbers is the number. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest entry of a row, by the fold the programs take it with. -/
abbrev rowMax {ι : Type*} [Fintype ι] (s : ι → EReal) : EReal := Finset.univ.fold max ⊥ s

theorem le_rowMax {ι : Type*} [Fintype ι] (s : ι → EReal) (i : ι) : s i ≤ rowMax s :=
  Finset.le_sup (f := s) (Finset.mem_univ i)

theorem rowMax_le {ι : Type*} [Fintype ι] {s : ι → EReal} {b : EReal} (h : ∀ i, s i ≤ b) : rowMax s ≤ b :=
  Finset.sup_le (f := s) fun i _ => h i

/-- A largest entry of a nonempty row is one of its entries. -/
theorem exists_eq_rowMax {ι : Type*} [Fintype ι] [Nonempty ι] (s : ι → EReal) : ∃ i, rowMax s = s i := by
  obtain ⟨i, -, h⟩ := Finset.exists_mem_eq_sup Finset.univ Finset.univ_nonempty s
  exact ⟨i, h⟩

variable {κ ι : Type*} [Fintype κ] [Fintype ι]

/-- Scaling a row and setting it among entries `-∞` scales its largest entry. -/
theorem rowMax_scaled (e : κ → ι) (s : κ → EReal) (s' : ι → EReal)
    (hs : ∀ k, s' (e k) = s k * (c2 : EReal)) (h0 : ∀ i, (∀ k, e k ≠ i) → s' i = ⊥) [Nonempty κ] :
    rowMax s' = rowMax s * (c2 : EReal) := by
  have hc : (0 : EReal) ≤ (c2 : EReal) := by exact_mod_cast c2_pos.le
  apply le_antisymm
  · refine rowMax_le fun i => ?_
    by_cases h : ∃ k, e k = i
    · obtain ⟨k, rfl⟩ := h
      rw [hs]
      exact mul_le_mul_of_nonneg_right (le_rowMax s k) hc
    · rw [h0 i (fun k hk => h ⟨k, hk⟩)]; exact bot_le
  · obtain ⟨k, hk⟩ := exists_eq_rowMax s
    rw [hk, ← hs]
    exact le_rowMax s' (e k)

/-- THE EQUATION. The row `s` of scores, finite or `-∞` and not all `-∞`, with values `v`: the softmax weights of `s` against
    `v`, summed, are what the row `s'` of scores over `ln 2` (with further entries `-∞`) gives in base two, the values
    weighted before the division by the weights' own sum. -/
theorem attention_eq (e : κ → ι) (he : Function.Injective e) (s : κ → EReal) (s' : ι → EReal) (v : κ → EReal)
    (v' : ι → EReal) (u : ι → EReal) (hs : ∀ k, s' (e k) = s k * (c2 : EReal)) (h0 : ∀ i, (∀ k, e k ≠ i) → s' i = ⊥)
    (hv : ∀ k, s k ≠ ⊥ → v' (e k) = v k) (hu : ∀ k, s k ≠ ⊥ → u (e k) = 1) (ht : ∀ k, s k ≠ ⊤) (hb : ∃ k, s k ≠ ⊥) :
    Ideal.div (∑ i, v' i * Ideal.exp2 (s' i - rowMax s')) (∑ i, u i * Ideal.exp2 (s' i - rowMax s'))
      = ∑ k, Ideal.div (Ideal.exp (s k - rowMax s)) (∑ k, Ideal.exp (s k - rowMax s)) * v k := by
  obtain ⟨k₀, hk₀⟩ := hb
  haveI : Nonempty κ := ⟨k₀⟩
  obtain ⟨k₁, hk₁⟩ := exists_eq_rowMax s
  have hMt : rowMax s ≠ ⊤ := hk₁ ▸ ht k₁
  have hMb : rowMax s ≠ ⊥ := fun h => hk₀ (le_bot_iff.mp (h ▸ le_rowMax s k₀))
  rw [rowMax_scaled e s s' hs h0]
  generalize rowMax s = M at *
  lift M to ℝ using ⟨hMt, hMb⟩
  -- the weights are finite numbers
  have hw : ∀ k, ∃ ω : ℝ, 0 ≤ ω ∧ (s k ≠ ⊥ → 0 < ω) ∧ (s k = ⊥ → ω = 0) ∧ Ideal.exp (s k - (M : EReal)) = (ω : EReal) := by
    intro k
    by_cases h : s k = ⊥
    · exact ⟨0, le_rfl, fun h' => absurd h h', fun _ => rfl, by rw [h, EReal.bot_sub]; rfl⟩
    · obtain ⟨r, hr⟩ : ∃ r : ℝ, (r : EReal) = s k := ⟨(s k).toReal, EReal.coe_toReal (ht k) h⟩
      exact ⟨Real.exp (r - M), (Real.exp_pos _).le, fun _ => Real.exp_pos _, fun h' => absurd h' h, by
        rw [← hr, ← EReal.coe_sub]; rfl⟩
  choose ω hω0 hωp hωz hω using hw
  have hsub : ∀ k, s' (e k) - (M : EReal) * (c2 : EReal) = (s k - (M : EReal)) * (c2 : EReal) := by
    intro k
    rw [hs]
    by_cases h : s k = ⊥
    · rw [h, EReal.bot_mul_coe_of_pos c2_pos, EReal.bot_sub, EReal.bot_sub, EReal.bot_mul_coe_of_pos c2_pos]
    · obtain ⟨r, hr⟩ : ∃ r : ℝ, (r : EReal) = s k := ⟨(s k).toReal, EReal.coe_toReal (ht k) h⟩
      rw [← hr]
      norm_cast
      ring
  have hw' : ∀ k, Ideal.exp2 (s' (e k) - (M : EReal) * (c2 : EReal)) = (ω k : EReal) := fun k => by
    rw [hsub, exp2_mul_c2, hω]
  have hz : ∀ i, (∀ k, e k ≠ i) → Ideal.exp2 (s' i - (M : EReal) * (c2 : EReal)) = 0 := fun i hi => by
    rw [h0 i hi, EReal.bot_sub]; rfl
  have push : ∀ (f : ι → EReal) (g : κ → EReal), (∀ k, s k ≠ ⊥ → f (e k) = g k) →
      ∑ i, f i * Ideal.exp2 (s' i - (M : EReal) * (c2 : EReal)) = ∑ k, g k * (ω k : EReal) := by
    intro f g hfg
    symm
    refine Fintype.sum_of_injective e he _ _ (fun i hi => ?_) (fun k => ?_)
    · rw [hz i (fun k hk => hi ⟨k, hk⟩), mul_zero]
    · rw [hw']
      by_cases h : s k = ⊥
      · rw [hωz k h]; simp
      · rw [hfg k h]
  rw [push v' v hv, push u (fun _ => 1) hu]
  simp only [hω, one_mul]
  have hL : (∑ k, (ω k : EReal)) = ((∑ k, ω k : ℝ) : EReal) := (coe_sum _ _).symm
  have hLp : 0 < ∑ k, ω k := Finset.sum_pos' (fun k _ => hω0 k) ⟨k₀, Finset.mem_univ _, hωp k₀ hk₀⟩
  rw [hL]
  simp only [Ideal.div_coe hLp.ne']
  rw [sum_mul_coe _ _ (one_div_pos.mpr hLp).le]
  refine Finset.sum_congr rfl fun k _ => ?_
  rw [mul_assoc, mul_comm]

end Cert.Proof.Softmax

end
-- ==== Proof.Band.Spec.lean ====
/- The windowed attention as formulas over the arguments: the padded key and value rows, the position in the bias
   table, the scores of a window, and the attended value. Both programs are read as these formulas. -/
module

public import proofs.«01_k».proof.Proof.Band.Softmax
public import Idealize.ShloMosaic.Lib.Pointwise
public import Idealize.ShloMosaic.Lib.Tactic.WordOmega

@[expose] public section

noncomputable section

namespace Cert.Proof.Band

open Idealize.ShloMosaic Cert.Proof.Softmax

/-- Queries, keys and values: batch, row, head, lane. -/
abbrev Rows : Type := (⟨4, ![4, 4096, 4, 64]⟩ : Shape).Idx → EReal
/-- The bias table: head, position. -/
abbrev Table : Type := (⟨2, ![4, 192]⟩ : Shape).Idx → EReal

/-- Row `g` of the array with 512 rows of zeros put in front. -/
def padRow (x : Rows) (b : Fin 4) (g : Fin 4608) (h : Fin 4) (d : Fin 64) : EReal :=
  if 512 ≤ g.val then x (ix4 b ⟨g.val - 512, by omega⟩ h d) else 0

/-- The bias position of query row `i` and window position `k`: the distance `k - 512 - i` clipped to `[-128, 63]`
    and moved up by 128. -/
def relPos (k i : Nat) : Fin 192 := ⟨min (k - (384 + i)) 191, by omega⟩

/-- The score of query row `t` against padded row `g`, which stands at window position `k` for query row `i` of its
    chunk: the scaled product plus the bias, and `⊥` in the padding. -/
def score (q kk : Rows) (rel : Table) (b h : Fin 4) (t : Fin 4096) (g : Fin 4608) (k i : Nat) : EReal :=
  if 512 ≤ g.val then
    (∑ d : Fin 64, q (ix4 b t h d) * padRow kk b g h d) * ((1 / 8 : ℝ) : EReal) + rel (ix2 h (relPos k i))
  else ⊥

/-- The padded row at window position `k` of query row `t`'s chunk. -/
def winRow (t : Fin 4096) (k : Fin 576) : Fin 4608 := ⟨t.val / 64 * 64 + k.val, by omega⟩

/-- The scores of query row `t` over the 576 positions of its window. -/
def scores (q kk : Rows) (rel : Table) (b h : Fin 4) (t : Fin 4096) (k : Fin 576) : EReal :=
  score q kk rel b h t (winRow t k) k.val (t.val % 64)

/-- The attention at batch `b`, head `h`, query row `t`, lane `d`: the softmax of the scores against the values. -/
def attend (q kk v : Rows) (rel : Table) (b h : Fin 4) (t : Fin 4096) (d : Fin 64) : EReal :=
  ∑ k : Fin 576, Ideal.div (Ideal.exp (scores q kk rel b h t k - rowMax (scores q kk rel b h t)))
    (∑ j : Fin 576, Ideal.exp (scores q kk rel b h t j - rowMax (scores q kk rel b h t))) * padRow v b (winRow t k) h d

/-! ## Index words and constants -/

/-- A small natural number, as a word, is that number read signed. -/
theorem toInt_small (n : Nat) (hn : n < 2 ^ 31) : (BitVec.ofNat 32 n).toInt = n := by
  rw [BitVec.toInt_eq_toNat_cond, BitVec.toNat_ofNat]; omega

/-- The integer zero converted to a float. -/
theorem zero_word : (FloatOps.sitofp .f32 (0#32) : Ideal .f32) = (0 : EReal) := by
  show (((((0#32).toInt : ℤ) : ℝ)) : EReal) = 0
  simp

/-- The clipped and shifted distance, as the word it is computed in. -/
theorem relPos_word (k i : Nat) (hk : k < 768) (hi : i < 256) :
    (IntOp.addi (IntOp.minsi 63#32 (IntOp.maxsi 4294967168#32
      (IntOp.subi (IntOp.subi (BitVec.ofNat 32 k) 512#32) (BitVec.ofNat 32 i)))) 128#32).toNat = (relPos k i).val := by
  have h0 : (IntOp.subi (IntOp.subi (BitVec.ofNat 32 k) 512#32) (BitVec.ofNat 32 i)).toInt = (k : ℤ) - 512 - i := by
    rw [BitVec.toInt_eq_toNat_cond]
    simp only [IntOp.subi, BitVec.toNat_sub, BitVec.toNat_ofNat]
    omega
  generalize IntOp.subi (IntOp.subi (BitVec.ofNat 32 k) 512#32) (BitVec.ofNat 32 i) = w at h0
  have hw := BitVec.toInt_eq_toNat_cond w
  have hl := w.isLt
  have hm : (4294967168#32).toInt = -128 := rfl
  have hp : (63#32).toInt = 63 := rfl
  simp only [IntOp.addi, IntOp.minsi, IntOp.maxsi, BitVec.slt, h0, hm, relPos]
  by_cases h1 : (k : ℤ) - 512 - i < -128
  · simp only [h1, decide_true, if_true, hm, hp]
    rw [if_neg (by decide)]
    show 0 = _
    omega
  · simp only [h1, decide_false, Bool.false_eq_true, if_false, h0, hp, decide_eq_true_eq]
    split <;> simp only [BitVec.toNat_add, BitVec.toNat_ofNat] <;> omega

/-- jnp's wrap of negative positions leaves the clipped distance as it is. -/
theorem relPos_wrapped (k i : Nat) (hk : k < 768) (hi : i < 256) (w : BitVec 32)
    (hw : w = IntOp.addi (IntOp.minsi 63#32 (IntOp.maxsi 4294967168#32
      (IntOp.subi (IntOp.subi (BitVec.ofNat 32 k) 512#32) (BitVec.ofNat 32 i)))) 128#32) :
    (Scalar.select (IntOp.cmpi .slt w 0#32) (IntOp.addi w 192#32) w).toInt.toNat = (relPos k i).val := by
  have h := relPos_word k i hk hi
  rw [← hw] at h
  have hr := (relPos k i).isLt
  clear hw
  word_omega

/-- The f32 constant `0.125`. -/
theorem eighth : Ideal.ofBits .f32 0x3E000000#32 = ((1 / 8 : ℝ) : EReal) := by
  simp [Ideal.ofBits, Ideal.ieee, -EReal.coe_mul]; norm_num

/-- The f32 constant `-∞`. -/
theorem minus_inf : Ideal.ofBits .f32 0xFF800000#32 = ⊥ := by
  simp [Ideal.ofBits, Ideal.ieee]

/-- The f32 constant `2`. -/
theorem two : Ideal.ofBits .f32 0x40000000#32 = ((2 : ℝ) : EReal) := by
  simp [Ideal.ofBits, Ideal.ieee, -EReal.coe_mul]; norm_num

/-- One over the logarithm of two, as the host computes it. -/
theorem log2e : Ideal.div 1 (Ideal.log (Ideal.ofBits .f32 0x40000000#32)) = ((c2 : ℝ) : EReal) := by
  have h2 : (0 : ℝ) < Real.log 2 := Real.log_pos (by norm_num)
  rw [two]
  rw [show Ideal.log ((2 : ℝ) : EReal) = ((Real.log 2 : ℝ) : EReal) from if_neg (by norm_num)]
  unfold Ideal.div
  rw [if_neg (by exact_mod_cast h2.ne'), one_mul, ← EReal.coe_inv, c2, one_div]

end Cert.Proof.Band

end
-- ==== Proof.Band.Gather.lean ====
/- The gathers of the windowed attention, read at an index: the rows of the padded keys (and values) named by an
   array of row numbers, and the bias table's entries named by an array of table positions. -/
module

public import proofs.«01_k».proof.Proof.Gen.BandRefIdeal.Read
public import proofs.«01_k».proof.Proof.Gen.BandIdeal
public import Idealize.ShloMosaic.Lib.Pointwise

@[expose] public section

namespace Cert.Proof.Gather

open Idealize.ShloMosaic

variable {α : Type}

/-- Row `g` of the padded array, when the row number read at chunk `n`, window position `k` is `g`. -/
theorem rows (x : Cert.BandRefIdeal.S4x4608x4x64.Idx → α) (idx : IVec Cert.BandRefIdeal.S64x576x1 32)
    (b : Fin 4) (n : Fin 64) (k : Fin 576) (h : Fin 4) (d : Fin 64) (g : Fin 4608)
    (hg : (idx (ix3 n k (0 : Fin 1))).toInt.toNat = g.val) :
    Host.gather Cert.BandRefIdeal.gather_S4x4608x4x64_S64x576x1_S4x64x576x4x64_034_1_n_n_1_2_41464 x idx (ix5 b n k h d)
      = x (ix4 b g h d) := by
  unfold Host.gather
  congr 1
  funext a
  refine Fin.ext ?_
  have hs : Cert.BandRefIdeal.gather_S4x4608x4x64_S64x576x1_S4x64x576x4x64_034_1_n_n_1_2_41464.siIdx (ix5 b n k h d) ⟨0, by decide⟩
      = ix3 n k (0 : Fin 1) := by
    funext e; refine Fin.ext ?_
    match e with
    | ⟨0, _⟩ => rfl
    | ⟨1, _⟩ => rfl
    | ⟨2, _⟩ => rfl
  match a with
  | ⟨0, _⟩ => show 0 + 0 + b.val = b.val; omega
  | ⟨1, _⟩ =>
    show min (idx (Cert.BandRefIdeal.gather_S4x4608x4x64_S64x576x1_S4x64x576x4x64_034_1_n_n_1_2_41464.siIdx (ix5 b n k h d) ⟨0, by decide⟩)).toInt.toNat 4607 + 0 + 0 = g.val
    rw [hs, hg]; omega
  | ⟨2, _⟩ => show 0 + 0 + h.val = h.val; omega
  | ⟨3, _⟩ => show 0 + 0 + d.val = d.val; omega

/-- Entry `p` of head `h`'s bias row, when the position read at query row `i`, window position `k` is `p`. -/
theorem table_window (x : Cert.BandRefIdeal.S4x192.Idx → α) (idx : IVec Cert.BandRefIdeal.S64x576x1 32)
    (h : Fin 4) (i : Fin 64) (k : Fin 576) (p : Fin 192) (hp : (idx (ix3 i k (0 : Fin 1))).toInt.toNat = p.val) :
    Host.gather Cert.BandRefIdeal.gather_S4x192_S64x576x1_S4x64x576_0_1_n_n_1_2_41 x idx (ix3 h i k) = x (ix2 h p) := by
  unfold Host.gather
  congr 1
  funext a
  refine Fin.ext ?_
  have hs : Cert.BandRefIdeal.gather_S4x192_S64x576x1_S4x64x576_0_1_n_n_1_2_41.siIdx (ix3 h i k) ⟨0, by decide⟩
      = ix3 i k (0 : Fin 1) := by
    funext e; refine Fin.ext ?_
    match e with
    | ⟨0, _⟩ => rfl
    | ⟨1, _⟩ => rfl
    | ⟨2, _⟩ => rfl
  match a with
  | ⟨0, _⟩ => show 0 + 0 + h.val = h.val; omega
  | ⟨1, _⟩ =>
    show min (idx (Cert.BandRefIdeal.gather_S4x192_S64x576x1_S4x64x576_0_1_n_n_1_2_41.siIdx (ix3 h i k) ⟨0, by decide⟩)).toInt.toNat 191 + 0 + 0 = p.val
    rw [hs, hp]; omega

/-- Entry `p` of head `h`'s bias row, when the position read at window column `x`, tile row `t` is `p`. -/
theorem table_tile (rel : Cert.BandIdeal.S4x192.Idx → α) (idx : IVec Cert.BandIdeal.S768x256x1 32)
    (h : Fin 4) (x : Fin 768) (t : Fin 256) (p : Fin 192) (hp : (idx (ix3 x t (0 : Fin 1))).toInt.toNat = p.val) :
    Host.gather Cert.BandIdeal.gather_S4x192_S768x256x1_S4x768x256_0_1_n_n_1_2_41 rel idx (ix3 h x t) = rel (ix2 h p) := by
  unfold Host.gather
  congr 1
  funext a
  refine Fin.ext ?_
  have hs : Cert.BandIdeal.gather_S4x192_S768x256x1_S4x768x256_0_1_n_n_1_2_41.siIdx (ix3 h x t) ⟨0, by decide⟩
      = ix3 x t (0 : Fin 1) := by
    funext e; refine Fin.ext ?_
    match e with
    | ⟨0, _⟩ => rfl
    | ⟨1, _⟩ => rfl
    | ⟨2, _⟩ => rfl
  match a with
  | ⟨0, _⟩ => show 0 + 0 + h.val = h.val; omega
  | ⟨1, _⟩ =>
    show min (idx (Cert.BandIdeal.gather_S4x192_S768x256x1_S4x768x256_0_1_n_n_1_2_41.siIdx (ix3 h x t) ⟨0, by decide⟩)).toInt.toNat 191 + 0 + 0 = p.val
    rw [hs, hp]; omega

end Cert.Proof.Gather
-- ==== Proof.Band.Ref.lean ====
/- The reference read at an index: row `b·4096 + t`, column `h·64 + d` of its result is the attention of the arguments. -/
module

public import proofs.«01_k».proof.Proof.Band.Spec
public import proofs.«01_k».proof.Proof.Band.Gather

@[expose] public section

set_option maxRecDepth 16384

noncomputable section

namespace Cert.Proof.Band.Ref

open Cert.BandRefIdeal Cert.BandRefIdeal.Gen Cert.BandRefIdeal.Read Idealize.ShloMosaic Idealize.ShloMosaic.TcCoe
  Idealize.SL.Sem Cert.Proof.Softmax

variable (x0 x1 x2 : (⟨S4x4096x4x64, .f32⟩ : BufTy).Contents (Elt Ideal))
  (x3 : (⟨S4x192, .f32⟩ : BufTy).Contents (Elt Ideal))

/-- The row number of chunk `n`, window position `k`. -/
theorem gpos (n : Fin 64) (k : Fin 576) : val_main_v8 (F := Ideal) (ix2 n k) = BitVec.ofNat 32 (n.val * 64 + k.val) := by
  pointwise [val_main_v8, val_main_v6, val_main_v7, val_main_v4, val_main_v5, val_main_v3, val_main_v2, val_main_v1,
    val_main_v0, val_main_c]
  apply BitVec.eq_of_toNat_eq
  simp only [IntOp.addi, IntOp.muli, BitVec.toNat_add, BitVec.toNat_mul, BitVec.toNat_ofNat]
  omega

/-- The row number the keys are gathered at. -/
theorem key_row (n : Fin 64) (k : Fin 576) :
    (val_main_v15 (F := Ideal) (ix3 n k (0 : Fin 1))).toInt.toNat = n.val * 64 + k.val := by
  pointwise [val_main_v15, val_main_v14, val_main_v11, val_main_v13, val_main_v10, val_main_v12, val_main_c_1,
    val_main_c_2]
  rw [gpos]
  word_omega

/-- The row number the values are gathered at. -/
theorem value_row (n : Fin 64) (k : Fin 576) :
    (val_main_v23 (F := Ideal) (ix3 n k (0 : Fin 1))).toInt.toNat = n.val * 64 + k.val := by
  pointwise [val_main_v23, val_main_v22, val_main_v19, val_main_v21, val_main_v18, val_main_v20, val_main_c_4,
    val_main_c_5]
  rw [gpos]
  word_omega

/-- The keys of a window are rows of the padded keys. -/
theorem keys (b : Fin 4) (n : Fin 64) (k : Fin 576) (h : Fin 4) (d : Fin 64) :
    val_main_v16 (F := Ideal) x1 (ix5 b n k h d) = padRow x1 b ⟨n.val * 64 + k.val, by omega⟩ h d := by
  unfold val_main_v16
  rw [Gather.rows _ _ b n k h d ⟨n.val * 64 + k.val, by omega⟩ (key_row n k)]
  pointwise [val_main_v9, val_main_call0_v0, val_main_c_0]
  unfold padRow
  by_cases hg : 512 ≤ n.val * 64 + k.val
  · rw [dif_pos ⟨hg, by omega⟩, if_pos hg]
  · rw [dif_neg (fun h => hg h.1), if_neg hg]; exact zero_word

/-- The values of a window are rows of the padded values. -/
theorem values (b : Fin 4) (n : Fin 64) (k : Fin 576) (h : Fin 4) (d : Fin 64) :
    val_main_v24 (F := Ideal) x2 (ix5 b n k h d) = padRow x2 b ⟨n.val * 64 + k.val, by omega⟩ h d := by
  unfold val_main_v24
  rw [Gather.rows _ _ b n k h d ⟨n.val * 64 + k.val, by omega⟩ (value_row n k)]
  pointwise [val_main_v17, val_main_call1_v0, val_main_c_3]
  unfold padRow
  by_cases hg : 512 ≤ n.val * 64 + k.val
  · rw [dif_pos ⟨hg, by omega⟩, if_pos hg]
  · rw [dif_neg (fun h => hg h.1), if_neg hg]; exact zero_word

/-- The bias of query row `i` and window position `k`. -/
theorem bias (h : Fin 4) (i : Fin 64) (k : Fin 576) :
    val_main_v46 (F := Ideal) x3 (ix3 h i k) = x3 (ix2 h (relPos k.val i.val)) := by
  unfold val_main_v46
  refine Gather.table_window _ _ h i k _ ?_
  pointwise [val_main_v45, val_main_v44, val_main_v41, val_main_v43, val_main_v42, val_main_v40, val_main_v39,
    val_main_v38, val_main_v37, val_main_call2_v4, val_main_call2_v3, val_main_call2_v2, val_main_call2_v1,
    val_main_call2_v0, val_main_v36, val_main_v35, val_main_v34, val_main_v33, val_main_v32, val_main_v31,
    val_main_v30, val_main_v29, val_main_v0, val_main_c_6, val_main_c_7, val_main_c_8, val_main_c_9, val_main_c_10,
    val_main_c_11]
  exact relPos_wrapped k.val i.val (by omega) (by omega) _ rfl

/-- The mask of a window: the padded rows are left out. -/
theorem mask (n : Fin 64) (k : Fin 576) :
    val_main_v51 (F := Ideal) (ix2 n k) = if 512 ≤ n.val * 64 + k.val then 1#1 else 0#1 := by
  pointwise [val_main_v51, val_main_v50, val_main_v48, val_main_v47, val_main_v49, val_main_c_12, val_main_c_13]
  rw [gpos]
  simp only [IntOp.cmpi, BitVec.sle, BitVec.slt, toInt_small (n.val * 64 + k.val) (by omega),
    show (512#32).toInt = 512 from rfl, show (4608#32).toInt = 4608 from rfl]
  have h1 : ((n.val * 64 + k.val : ℕ) : ℤ) < 4608 := by omega
  by_cases hg : 512 ≤ n.val * 64 + k.val
  · have h2 : (512 : ℤ) ≤ ((n.val * 64 + k.val : ℕ) : ℤ) := by omega
    rw [decide_eq_true h1, decide_eq_true h2, if_pos hg]; rfl
  · have h2 : ¬ (512 : ℤ) ≤ ((n.val * 64 + k.val : ℕ) : ℤ) := by omega
    rw [decide_eq_true h1, decide_eq_false h2, if_neg hg]; rfl

/-- The masked score of chunk `n`, query row `i`, window position `k`. -/
theorem masked (b : Fin 4) (n : Fin 64) (h : Fin 4) (i : Fin 64) (k : Fin 576) :
    val_main_v56 (F := Ideal) x0 x1 x3 (ix5 b n h i k) = scores x0 x1 x3 b h ⟨n.val * 64 + i.val, by omega⟩ k := by
  have hn : (n.val * 64 + i.val) / 64 * 64 = n.val * 64 := by omega
  have hi : (n.val * 64 + i.val) % 64 = i.val := by omega
  pointwise [val_main_v56, val_main_call3_v1, val_main_call3_v2, val_main_call3_v0, val_main_cst_14, val_main_v55,
    val_main_v28, val_main_v26, val_main_v27, val_main_cst, val_main_v25, val_main_v54, val_main_v53, val_main_v52]
  rw [mask, bias]
  simp only [keys, eighth, minus_inf]
  unfold scores score winRow
  simp only [hn, hi]
  by_cases hg : 512 ≤ n.val * 64 + k.val
  · simp only [if_pos hg]; rfl
  · simp only [if_neg hg]; rfl

/-- The maximum over the last axis, started from the array `z`'s only element. -/
theorem reduce_max {n0 n1 n2 n3 n4 : Nat} {u : Shape} (y : (⟨5, ![n0, n1, n2, n3, n4]⟩ : Shape).Idx → EReal) (z : u.Idx → EReal)
    (hr : (⟨5, ![n0, n1, n2, n3, n4]⟩ : Shape).ReducesTo [4] ⟨4, ![n0, n1, n2, n3]⟩) (hu : 0 < u.numel)
    (b : Fin n0) (n : Fin n1) (h : Fin n2) (i : Fin n3) :
    Host.reduce (FloatOps.maximumf (F := Ideal) (φ := .f32)) y z hr hu (ix4 b n h i)
      = Finset.univ.fold max (z (Shape.Idx.first hu)) (fun x => y (ix5 b n h i x)) := by
  pointwise

/-- The maximum starts from `-∞`. -/
theorem start (i : S_.Idx) : val_main_cst_16 (F := Ideal) i = (⊥ : EReal) := by
  unfold val_main_cst_16
  pointwise
  exact minus_inf

/-- The largest score of a window, before the maximum with `-∞`. -/
theorem largest_row (b : Fin 4) (n : Fin 64) (h : Fin 4) (i : Fin 64) :
    val_main_v57 (F := Ideal) x0 x1 x3 (ix4 b n h i) = rowMax (scores x0 x1 x3 b h ⟨n.val * 64 + i.val, by omega⟩) := by
  have e : ∀ k, val_main_v56 (F := Ideal) x0 x1 x3 (ix5 b n h i k) = scores x0 x1 x3 b h ⟨n.val * 64 + i.val, by omega⟩ k :=
    masked x0 x1 x3 b n h i
  unfold val_main_v57
  generalize val_main_v56 (F := Ideal) x0 x1 x3 = y at e
  generalize scores x0 x1 x3 b h ⟨n.val * 64 + i.val, by omega⟩ = s at e
  have z : val_main_cst_15 (F := Ideal) (Shape.Idx.first h_S_) = (⊥ : EReal) := start _
  generalize val_main_cst_15 (F := Ideal) = w at z
  refine (reduce_max y w _ _ b n h i).trans ?_
  rw [z]
  unfold rowMax
  exact congrArg (fun f => Finset.univ.fold max (⊥ : EReal) f) (funext e)

/-- The largest score of a window. -/
theorem largest (b : Fin 4) (n : Fin 64) (h : Fin 4) (i : Fin 64) :
    val_main_v59 (F := Ideal) x0 x1 x3 (ix4 b n h i) = rowMax (scores x0 x1 x3 b h ⟨n.val * 64 + i.val, by omega⟩) := by
  have z : val_main_v58 (F := Ideal) (ix4 b n h i) = (⊥ : EReal) := by
    rw [val_main_v58_apply]
    exact start _
  rw [val_main_v59_apply, z, largest_row]
  generalize rowMax (scores x0 x1 x3 b h ⟨n.val * 64 + i.val, by omega⟩) = s
  exact max_eq_right (bot_le : (⊥ : EReal) ≤ s)

/-- The reference's result: the attention of the arguments. -/
theorem result (r : Fin 16384) (x : Fin 256) :
    val_main_v71 (F := Ideal) x0 x1 x2 x3 (ix2 r x)
      = attend x0 x1 x2 x3 ⟨r.val / 4096, by omega⟩ ⟨x.val / 64, by omega⟩ ⟨r.val % 4096, by omega⟩
          ⟨x.val % 64, by omega⟩ := by
  have ht : r.val / 64 % 64 * 64 + r.val % 64 = r.val % 4096 := by omega
  have ht' : r.val % 4096 / 64 * 64 + r.val % 64 = r.val % 4096 := by omega
  have hc : r.val / 64 % 64 * 64 = r.val % 4096 / 64 * 64 := by omega
  pointwise [val_main_v71, val_main_v70, val_main_v69, val_main_v68, val_main_v67, val_main_v66, val_main_v65,
    val_main_v64, val_main_v63, val_main_v62, val_main_v61, val_main_v60, val_main_cst_17]
  simp only [masked, largest, values, ht, ht', hc, Ideal.ofBits_zero_f32, zero_add]
  unfold attend winRow
  exact Finset.sum_congr rfl fun k _ => mul_comm _ _

end Cert.Proof.Band.Ref

end
-- ==== Proof.Band.Tile.lean ====
/- What one tile of the kernel computes: 256 query rows of one batch against a window of 768 key rows, head by head. -/
module

public import proofs.«01_k».proof.Proof.Gen.BandIdeal.Value
public import proofs.«01_k».proof.Proof.Band.Spec
public import Idealize.ShloMosaic.Lib.Pointwise

@[expose] public section

set_option maxRecDepth 16384

noncomputable section

namespace Cert.Proof.Band.Tile

open Cert.BandIdeal Cert.BandIdeal.Gen Idealize.ShloMosaic Idealize.ShloMosaic.TcCoe Idealize.SL.Sem Cert.Proof.Softmax

/-- A window of keys, a tile of queries, a tile of the position table, a window of values. -/
abbrev VK := Vec Ideal S1x768x80 .bf16
abbrev VQ := Vec Ideal S1x80x256 .bf16
abbrev VB := Vec Ideal S1x768x256 .f32
abbrev VV := Vec Ideal S1x80x768 .bf16

/-- The scores of a tile: key window times queries, plus the position table. -/
def sc (kk : VK) (qq : VQ) (bb : VB) : FVec Ideal S768x256 .f32 :=
  addf (matmul dot_S768x80_S80x256_S768x256_1_0_0_1_n_n none (shapeCast S768x80 kk shapeCasts_S1x768x80_S768x80 : FVec Ideal S768x80 .bf16)
    (shapeCast S80x256 qq shapeCasts_S1x80x256_S80x256 : FVec Ideal S80x256 .bf16) (constant S768x256 .f32 0x00000000#32))
    (shapeCast S768x256 bb shapeCasts_S1x768x256_S768x256 : FVec Ideal S768x256 .f32)

/-- The unnormalised weights: two to the score less the largest score of its query. -/
def pr (s : FVec Ideal S768x256 .f32) : FVec Ideal S768x256 .bf16 :=
  truncf .bf16 (exp2 (subf s (broadcastTo S768x256 (shapeCast S1x256 (multiReduction .maximumf [0] S256 s 0xFF800000#32 reduces_S768x256_S256 (.inl rfl) rfl)
    shapeCasts_S256_S1x256) broadcasts_S1x256_S768x256))) bitsLt_bf16_f32

/-- The weighted sums of the value rows (and of the row of ones). -/
def acc (vv : VV) (p : FVec Ideal S768x256 .bf16) : FVec Ideal S80x256 .f32 :=
  matmul dot_S80x768_S768x256_S80x256_1_0_0_1_n_n none (shapeCast S80x768 vv shapeCasts_S1x80x768_S80x768 : FVec Ideal S80x768 .bf16) p (constant S80x256 .f32 0x00000000#32)

/-- The weighted sums divided by the sum of the weights. -/
def nrm (o : FVec Ideal S80x256 .f32) : FVec Ideal S64x256 .f32 :=
  divf (extractStridedSlice S64x256 ![0, 0] o slices_S80x256_o0_0_S64x256)
    (broadcastTo S64x256 (extractStridedSlice S1x256 ![64, 0] o slices_S80x256_o64_0_S1x256) broadcasts_S1x256_S64x256)

/-- The four heads set side by side, queries first. -/
def tile (h0 h1 h2 h3 : FVec Ideal S64x256 .f32) : FVec Ideal S256x256 .bf16 :=
  truncf .bf16 (transpose S256x256 [1, 0] (concatenate S256x256 0 [⟨S64x256, h0⟩, ⟨S64x256, h1⟩, ⟨S64x256, h2⟩, ⟨S64x256, h3⟩] concatenates_S64x256_S64x256_S64x256_S64x256_S256x256_d0)
    transposes_S256x256_p1_0_S256x256) bitsLt_bf16_f32

/-- One head of a tile. -/
def head (kk : VK) (qq : VQ) (bb : VB) (vv : VV) : FVec Ideal S64x256 .f32 := nrm (acc vv (pr (sc kk qq bb)))

/-- A score. -/
theorem sc_at (kk : VK) (qq : VQ) (bb : VB) (c : Fin 768) (r : Fin 256) : sc kk qq bb (ix2 c r)
    = (∑ x : Fin 80, (kk (ix3 (0 : Fin 1) c x) : EReal) * qq (ix3 (0 : Fin 1) x r)) + bb (ix3 (0 : Fin 1) c r) := by
  pointwise [sc]

/-- A weight. -/
theorem pr_at (s : FVec Ideal S768x256 .f32) (c : Fin 768) (r : Fin 256) :
    pr s (ix2 c r) = Ideal.exp2 ((s (ix2 c r) : EReal) - rowMax (fun x : Fin 768 => (s (ix2 x r) : EReal))) := by
  pointwise [pr]
  rw [minus_inf]
  rfl

/-- A weighted sum. -/
theorem acc_at (vv : VV) (p : FVec Ideal S768x256 .bf16) (x : Fin 80) (r : Fin 256) :
    acc vv p (ix2 x r) = ∑ c : Fin 768, (vv (ix3 (0 : Fin 1) x c) : EReal) * p (ix2 c r) := by
  pointwise [acc]

/-- A normalised entry. -/
theorem nrm_at (o : FVec Ideal S80x256 .f32) (d : Fin 64) (r : Fin 256) :
    nrm o (ix2 d r) = Ideal.div (o (ix2 (⟨d.val, by omega⟩ : Fin 80) r)) (o (ix2 (64 : Fin 80) r)) := by
  pointwise [nrm]

/-- An entry of one head of a tile. -/
theorem head_at (kk : VK) (qq : VQ) (bb : VB) (vv : VV) (d : Fin 64) (r : Fin 256) (s : Fin 768 → EReal)
    (hs : ∀ c, sc kk qq bb (ix2 c r) = s c) : head kk qq bb vv (ix2 d r)
      = Ideal.div (∑ c : Fin 768, (vv (ix3 (0 : Fin 1) (⟨d.val, by omega⟩ : Fin 80) c) : EReal) * Ideal.exp2 (s c - rowMax s))
        (∑ c : Fin 768, (vv (ix3 (0 : Fin 1) (64 : Fin 80) c) : EReal) * Ideal.exp2 (s c - rowMax s)) := by
  unfold head
  rw [nrm_at, acc_at, acc_at]
  simp only [pr_at, hs]

/-- An entry of a tile: the head is the column's block of 64. -/
theorem tile_at (hd : Fin 4 → FVec Ideal S64x256 .f32) (r x : Fin 256) :
    tile (hd 0) (hd 1) (hd 2) (hd 3) (ix2 r x) = hd ⟨x.val / 64, by omega⟩ (ix2 (⟨x.val % 64, by omega⟩ : Fin 64) r) := by
  pointwise [tile]
  have pick : ∀ (n : Fin 4) (y z : Fin 64) (k : Fin 4), n = k → y = z → hd n (ix2 y r) = hd k (ix2 z r) := by
    rintro n y z k rfl rfl; rfl
  by_cases h0 : x.val < 64
  · rw [dif_pos h0]; exact pick 0 _ _ _ (Fin.ext (by simp; omega)) (Fin.ext (by simp; omega))
  · rw [dif_neg h0]
    by_cases h1 : x.val - 64 < 64
    · rw [dif_pos h1]; exact pick 1 _ _ _ (Fin.ext (by simp; omega)) (Fin.ext (by simp; omega))
    · rw [dif_neg h1]
      by_cases h2 : x.val - 64 - 64 < 64
      · rw [dif_pos h2]; exact pick 2 _ _ _ (Fin.ext (by simp; omega)) (Fin.ext (by simp; omega))
      · rw [dif_neg h2]; exact pick 3 _ _ _ (Fin.ext (by simp; omega)) (Fin.ext (by simp; omega))

end Cert.Proof.Band.Tile

end
-- ==== Proof.Band.Block.lean ====
/- What one grid point of the kernel leaves in its output block: four tiles of 256 rows, each entry the quotient of two
   weighted sums over a window of 768 key rows. -/
module

public import proofs.«01_k».proof.Proof.Band.Tile
public import Idealize.ShloMosaic.Lib.Pipeline.ValueKit.Acc
public import Idealize.ShloMosaic.Lib.Pipeline.ValueKit.Tiles
public import Idealize.ShloMosaic.Lib.Pipeline.ReadBack

@[expose] public section

set_option maxRecDepth 16384

noncomputable section

namespace Cert.Proof.Band.Block

open Cert.BandIdeal Cert.BandIdeal.Gen Idealize.ShloMosaic Idealize.ShloMosaic.TcCoe Idealize.SL.Sem Cert.Proof.Softmax
  Cert.Proof.Band.Tile

variable (X0 : Vec Ideal S1x320x1024 .bf16) (X1 : Vec Ideal S1x4608x512 .bf16) (X2 : Vec Ideal S1x320x4608 .bf16)
  (X3 : Vec Ideal S4x768x256 .f32)

/-- The score of window column `c` for row `r` of tile `j`, head `h`, of the point whose block is number `n`. -/
def scoreAt (n j h : Fin 4) (r : Fin 256) (c : Fin 768) : EReal :=
  (∑ l : Fin 80, (X1 (ix3 (0 : Fin 1) (⟨1024 * n.val + 256 * j.val + c.val, by omega⟩ : Fin 4608) (⟨128 * h.val + l.val, by omega⟩ : Fin 512)) : EReal)
      * X0 (ix3 (0 : Fin 1) (⟨80 * h.val + l.val, by omega⟩ : Fin 320) (⟨256 * j.val + r.val, by omega⟩ : Fin 1024)))
    + X3 (ix3 h c r)

/-- The weighted sum of row `x` of the values' block of head `h`. -/
def sumAt (n j h : Fin 4) (r : Fin 256) (x : Fin 80) : EReal :=
  ∑ c : Fin 768, (X2 (ix3 (0 : Fin 1) (⟨80 * h.val + x.val, by omega⟩ : Fin 320) (⟨1024 * n.val + 256 * j.val + c.val, by omega⟩ : Fin 4608)) : EReal)
    * Ideal.exp2 (scoreAt X0 X1 X3 n j h r c - rowMax (scoreAt X0 X1 X3 n j h r))

/-- The entry of row `256·j + r`, column `64·h + d` of the block. -/
def entry (n j h : Fin 4) (r : Fin 256) (d : Fin 64) : EReal :=
  Ideal.div (sumAt X0 X1 X2 X3 n j h r ⟨d.val, by omega⟩) (sumAt X0 X1 X2 X3 n j h r 64)

/-- One head of one tile, over the rectangles it loads. -/
theorem head_entry (n j h : Fin 4) (o1 o0 o3 o2) (i1 i0 i3 i2) (h1 : o1 = ![0, 1024 * n.val + 256 * j.val, 128 * h.val])
    (h0 : o0 = ![0, 80 * h.val, 256 * j.val]) (h3 : o3 = ![h.val, 0, 0])
    (h2 : o2 = ![0, 80 * h.val, 1024 * n.val + 256 * j.val]) (d : Fin 64) (r : Fin 256) :
    head (View.ld X1 (Rect.unit (s := S1x4608x512) o1 ![1, 768, 80] i1)) (View.ld X0 (Rect.unit (s := S1x320x1024) o0 ![1, 80, 256] i0))
      (View.ld X3 (Rect.unit (s := S4x768x256) o3 ![1, 768, 256] i3)) (View.ld X2 (Rect.unit (s := S1x320x4608) o2 ![1, 80, 768] i2)) (ix2 d r)
      = entry X0 X1 X2 X3 n j h r d := by
  subst h1 h0 h3 h2
  rw [head_at _ _ _ _ d r (scoreAt X0 X1 X3 n j h r)]
  · unfold entry sumAt
    congr 1
    · refine Finset.sum_congr rfl fun c _ => ?_
      congr 1
      exact View.ld_unit_apply_of X2 _ _ _ _ _ (fun a => by fin_cases a <;> simp)
    · refine Finset.sum_congr rfl fun c _ => ?_
      congr 1
      exact View.ld_unit_apply_of X2 _ _ _ _ _ (fun a => by fin_cases a <;> simp)
  · intro c
    rw [sc_at]
    unfold scoreAt
    congr 1
    · refine Finset.sum_congr rfl fun l _ => ?_
      congr 1
      · exact View.ld_unit_apply_of X1 _ _ _ _ _ (fun a => by fin_cases a <;> simp)
      · exact View.ld_unit_apply_of X0 _ _ _ _ _ (fun a => by fin_cases a <;> simp)
    · exact View.ld_unit_apply_of X3 _ _ _ _ _ (fun a => by fin_cases a <;> simp)

/-- The heads of tile `j`, over the rectangles they load. -/
def heads (i : grid0.Coords) (j : Fin 4) (i0 : ∀ h : Fin 4, ∀ a, (![0, 80 * h.val, 256 * j.val] : Fin 3 → ℕ) a + S1x80x256.size a ≤ S1x320x1024.size a)
    (i3 : ∀ h : Fin 4, ∀ a, (![h.val, 0, 0] : Fin 3 → ℕ) a + S1x768x256.size a ≤ S4x768x256.size a) : Fin 4 → FVec Ideal S64x256 .f32 := fun
  | 0 => head (View.ld X1 (Rect.unit (s := S1x4608x512) (k0_off1 i (BitVec.ofNat 32 j.val)) ![1, 768, 80] (k0_off1_inb i j)))
      (View.ld X0 (Rect.unit (s := S1x320x1024) _ ![1, 80, 256] (i0 0))) (View.ld X3 (Rect.unit (s := S4x768x256) _ ![1, 768, 256] (i3 0)))
      (View.ld X2 (Rect.unit (s := S1x320x4608) (k0_off5 i (BitVec.ofNat 32 j.val)) ![1, 80, 768] (k0_off5_inb i j)))
  | 1 => head (View.ld X1 (Rect.unit (s := S1x4608x512) (k0_off2 i (BitVec.ofNat 32 j.val)) ![1, 768, 80] (k0_off2_inb i j)))
      (View.ld X0 (Rect.unit (s := S1x320x1024) _ ![1, 80, 256] (i0 1))) (View.ld X3 (Rect.unit (s := S4x768x256) _ ![1, 768, 256] (i3 1)))
      (View.ld X2 (Rect.unit (s := S1x320x4608) (k0_off6 i (BitVec.ofNat 32 j.val)) ![1, 80, 768] (k0_off6_inb i j)))
  | 2 => head (View.ld X1 (Rect.unit (s := S1x4608x512) (k0_off3 i (BitVec.ofNat 32 j.val)) ![1, 768, 80] (k0_off3_inb i j)))
      (View.ld X0 (Rect.unit (s := S1x320x1024) _ ![1, 80, 256] (i0 2))) (View.ld X3 (Rect.unit (s := S4x768x256) _ ![1, 768, 256] (i3 2)))
      (View.ld X2 (Rect.unit (s := S1x320x4608) (k0_off7 i (BitVec.ofNat 32 j.val)) ![1, 80, 768] (k0_off7_inb i j)))
  | 3 => head (View.ld X1 (Rect.unit (s := S1x4608x512) (k0_off4 i (BitVec.ofNat 32 j.val)) ![1, 768, 80] (k0_off4_inb i j)))
      (View.ld X0 (Rect.unit (s := S1x320x1024) _ ![1, 80, 256] (i0 3))) (View.ld X3 (Rect.unit (s := S4x768x256) _ ![1, 768, 256] (i3 3)))
      (View.ld X2 (Rect.unit (s := S1x320x4608) (k0_off8 i (BitVec.ofNat 32 j.val)) ![1, 80, 768] (k0_off8_inb i j)))

/-- … are the entries. -/
theorem heads_entry (i : grid0.Coords) (j : Fin 4) (i0 i3) (h : Fin 4) (d : Fin 64) (r : Fin 256) :
    heads X0 X1 X2 X3 i j i0 i3 h (ix2 d r) = entry X0 X1 X2 X3 (i 1) j h r d := by
  fin_cases h
  · exact head_entry X0 X1 X2 X3 (i 1) j 0 _ _ _ _ _ _ _ _ (k0_off1_eq i j) rfl rfl (k0_off5_eq i j) d r
  · exact head_entry X0 X1 X2 X3 (i 1) j 1 _ _ _ _ _ _ _ _ (k0_off2_eq i j) rfl rfl (k0_off6_eq i j) d r
  · exact head_entry X0 X1 X2 X3 (i 1) j 2 _ _ _ _ _ _ _ _ (k0_off3_eq i j) rfl rfl (k0_off7_eq i j) d r
  · exact head_entry X0 X1 X2 X3 (i 1) j 3 _ _ _ _ _ _ _ _ (k0_off4_eq i j) rfl rfl (k0_off8_eq i j) d r

/-- The block as a function of its row and column. -/
def block (n : Fin 4) : S1024x256.Idx → EReal := fun y =>
  (fun (a : Fin 1024) (x : Fin 256) => entry X0 X1 X2 X3 n ⟨a.val / 256, by omega⟩ ⟨x.val / 64, by omega⟩ ⟨a.val % 256, by omega⟩
    ⟨x.val % 64, by omega⟩) (y 0) (y 1)

/-- Tile `j` is rows `256·j …` of the block. -/
theorem tile_block (i : grid0.Coords) (j : Fin 4) (i0 i3) (o inb) (ho : o = ![256 * j.val, 0]) (x : S256x256.Idx) :
    tile (heads X0 X1 X2 X3 i j i0 i3 0) (heads X0 X1 X2 X3 i j i0 i3 1) (heads X0 X1 X2 X3 i j i0 i3 2) (heads X0 X1 X2 X3 i j i0 i3 3) x
      = block X0 X1 X2 X3 (i 1) ((Rect.unit (s := S1024x256) o ![256, 256] inb).emb x) := by
  subst ho
  obtain ⟨r, y, rfl⟩ : ∃ r y : Fin 256, x = ix2 r y := ⟨x 0, x 1, eq_ix2 x⟩
  rw [tile_at, heads_entry]
  have e0 : (((Rect.unit (s := S1024x256) ![256 * j.val, 0] ![256, 256] inb).emb (ix2 r y) 0).val : ℕ) = 256 * j.val + r.val :=
    Rect.idx_unit_val _ _ inb (ix2 r y) 0
  have e1 : (((Rect.unit (s := S1024x256) ![256 * j.val, 0] ![256, 256] inb).emb (ix2 r y) 1).val : ℕ) = y.val :=
    (Rect.idx_unit_val _ _ inb (ix2 r y) 1).trans (by simp)
  unfold block
  dsimp only
  congr 1
  · exact Fin.ext (by simp only [e0]; omega)
  · exact Fin.ext (by simp only [e1])
  · exact Fin.ext (by simp only [e0]; omega)
  · exact Fin.ext (by simp only [e1])

/-- What a grid point leaves in its output block. -/
theorem out_block (m : (ℓ : Loc nD τ sig) → Buf (Elt Ideal) ℓ) (c : Dev nD) (t : Fin cfg0.N) (y : S1024x256.Idx) :
    outsAt0 m c t y = block (iblk m c 0 t) (iblk m c 1 t) (iblk m c 2 t) (iblk m c 3 t) ((grid0.coords t) 1) y := by
  have i0 : ∀ j : Fin 4, ∀ h : Fin 4, ∀ a, (![0, 80 * h.val, 256 * j.val] : Fin 3 → ℕ) a + S1x80x256.size a ≤ S1x320x1024.size a := by
    decide +kernel
  have i3 : ∀ h : Fin 4, ∀ a, (![h.val, 0, 0] : Fin 3 → ℕ) a + S1x768x256.size a ≤ S4x768x256.size a := by decide +kernel
  unfold outsAt0
  frame_out
  refine (congrFun (congrArg View.canon (List.append_nil _).symm) y).trans ?_
  refine View.canon_append_of_piecesOf (Val := Elt Ideal) (e := .bf16) (block (iblk m c 0 t) (iblk m c 1 t) (iblk m c 2 t) (iblk m c 3 t) ((grid0.coords t) 1)) [] _
    ?_ y ?_
  swap
  · exact View.cover_of_tiledL (s := S1024x256) _ S256x256.size (by sl_kernel_rfl) y
  refine ⟨?_, ?_, ?_, ?_, trivial⟩
  · exact fun x => (tile_block (iblk m c 0 t) (iblk m c 1 t) (iblk m c 2 t) (iblk m c 3 t) (grid0.coords t) 3 (i0 3) i3 ![768, 0] inb_S1024x256_S256x256_768_0 rfl x)
  · exact fun x => (tile_block (iblk m c 0 t) (iblk m c 1 t) (iblk m c 2 t) (iblk m c 3 t) (grid0.coords t) 2 (i0 2) i3 ![512, 0] inb_S1024x256_S256x256_512_0 rfl x)
  · exact fun x => (tile_block (iblk m c 0 t) (iblk m c 1 t) (iblk m c 2 t) (iblk m c 3 t) (grid0.coords t) 1 (i0 1) i3 ![256, 0] inb_S1024x256_S256x256_256_0 rfl x)
  · exact fun x => (tile_block (iblk m c 0 t) (iblk m c 1 t) (iblk m c 2 t) (iblk m c 3 t) (grid0.coords t) 0 (i0 0) i3 ![0, 0] inb_S1024x256_S256x256_0_0 rfl x)

end Cert.Proof.Band.Block

end
-- ==== Proof.Band.Equation.lean ====
/- The entry of a block computed over the packed arrays is the attention of the arguments. -/
module

public import proofs.«01_k».proof.Proof.Band.Block

@[expose] public section

set_option maxRecDepth 16384

noncomputable section

namespace Cert.Proof.Band.Equation

open Cert.BandIdeal Cert.BandIdeal.Gen Idealize.ShloMosaic Idealize.ShloMosaic.TcCoe Idealize.SL.Sem Cert.Proof.Softmax
  Cert.Proof.Band.Block

/-- A sum over 80 lanes is the sum over the first 64 and the sum over the last 16. -/
theorem lanes (f : Fin 80 → EReal) :
    ∑ l, f l = ∑ d : Fin 64, f ⟨d.val, by omega⟩ + ∑ d : Fin 16, f ⟨64 + d.val, by omega⟩ := Fin.sum_univ_add (a := 64) (b := 16) f

/-- A sum with a term `⊥` is `⊥`. -/
theorem sum_bot (f : Fin 80 → EReal) (i : Fin 80) (h : f i = ⊥) : ∑ l, f l = ⊥ := by
  rw [← Finset.add_sum_erase Finset.univ f (Finset.mem_univ i), h, EReal.bot_add]

/-- A finite sum of finite numbers is finite. -/
theorem sum_finite {ι : Type*} (t : Finset ι) (f : ι → EReal) (h : ∀ i, ∃ r : ℝ, f i = r) : ∃ r : ℝ, ∑ i ∈ t, f i = r := by
  choose g hg using h
  exact ⟨∑ i ∈ t, g i, by rw [coe_sum]; exact Finset.sum_congr rfl fun i _ => hg i⟩

variable (q kk v : Rows) (rel : Table)

/-- Finite arguments give finite scores outside the padding. -/
theorem score_finite (hq : ∀ i, ∃ r : ℝ, q i = r) (hk : ∀ i, ∃ r : ℝ, kk i = r) (hr : ∀ i, ∃ r : ℝ, rel i = r)
    (b h : Fin 4) (t : Fin 4096) (k : Fin 576) (hg : 512 ≤ (winRow t k).val) : ∃ r : ℝ, scores q kk rel b h t k = r := by
  unfold scores score
  rw [if_pos hg]
  obtain ⟨x, hx⟩ := sum_finite Finset.univ (fun d : Fin 64 => q (ix4 b t h d) * padRow kk b (winRow t k) h d) (fun d => by
    unfold padRow
    rw [if_pos hg]
    obtain ⟨y, hy⟩ := hq (ix4 b t h d)
    obtain ⟨z, hz⟩ := hk (ix4 b ⟨(winRow t k).val - 512, by omega⟩ h d)
    exact ⟨y * z, by rw [hy, hz, EReal.coe_mul]⟩)
  obtain ⟨y, hy⟩ := hr (ix2 h (relPos k.val (t.val % 64)))
  exact ⟨x * (1 / 8) + y, by rw [hx, hy, EReal.coe_add, EReal.coe_mul]⟩

/-- The scores are never `⊤`. -/
theorem score_ne_top (hq : ∀ i, ∃ r : ℝ, q i = r) (hk : ∀ i, ∃ r : ℝ, kk i = r) (hr : ∀ i, ∃ r : ℝ, rel i = r)
    (b h : Fin 4) (t : Fin 4096) (k : Fin 576) : scores q kk rel b h t k ≠ ⊤ := by
  by_cases hg : 512 ≤ (winRow t k).val
  · obtain ⟨r, e⟩ := score_finite q kk rel hq hk hr b h t k hg
    rw [e]; exact EReal.coe_ne_top r
  · unfold scores score
    rw [if_neg hg]; exact bot_ne_top

/-- A score that is not `⊥` is of a row outside the padding. -/
theorem row_of_score (b h : Fin 4) (t : Fin 4096) (k : Fin 576) (hs : scores q kk rel b h t k ≠ ⊥) : 512 ≤ (winRow t k).val := by
  by_contra hg
  exact hs (by unfold scores score; rw [if_neg hg])

variable (X0 : Vec Ideal S1x320x1024 .bf16) (X1 : Vec Ideal S1x4608x512 .bf16) (X2 : Vec Ideal S1x320x4608 .bf16)
  (X3 : Vec Ideal S4x768x256 .f32) (b n : Fin 4)

/-- What the packed arrays hold, lane by lane. -/
structure Packed : Prop where
  query : ∀ (h : Fin 4) (d : Fin 64) (y : Fin 1024), X0 (ix3 (0 : Fin 1) (⟨80 * h.val + d.val, by omega⟩ : Fin 320) y)
    = q (ix4 b (⟨1024 * n.val + y.val, by omega⟩ : Fin 4096) h d) * ((1 / 8 * c2 : ℝ) : EReal)
  mark : ∀ (h : Fin 4) (y : Fin 1024), X0 (ix3 (0 : Fin 1) (⟨80 * h.val + 64, by omega⟩ : Fin 320) y) = (1 : EReal)
  key : ∀ (g : Fin 4608) (_ : 512 ≤ g.val) (h : Fin 4) (d : Fin 64), X1 (ix3 (0 : Fin 1) g (⟨128 * h.val + d.val, by omega⟩ : Fin 512))
    = padRow kk b g h d
  blank : ∀ (g : Fin 4608) (_ : 512 ≤ g.val) (h : Fin 4) (d : Fin 16),
    X1 (ix3 (0 : Fin 1) g (⟨128 * h.val + (64 + d.val), by omega⟩ : Fin 512)) = (0 : EReal)
  front : ∀ (g : Fin 4608) (_ : ¬ 512 ≤ g.val) (h : Fin 4), X1 (ix3 (0 : Fin 1) g (⟨128 * h.val + 64, by omega⟩ : Fin 512)) = (⊥ : EReal)
  value : ∀ (g : Fin 4608) (_ : 512 ≤ g.val) (h : Fin 4) (d : Fin 64), X2 (ix3 (0 : Fin 1) (⟨80 * h.val + d.val, by omega⟩ : Fin 320) g)
    = padRow v b g h d
  one : ∀ (g : Fin 4608) (_ : 512 ≤ g.val) (h : Fin 4), X2 (ix3 (0 : Fin 1) (⟨80 * h.val + 64, by omega⟩ : Fin 320) g) = (1 : EReal)
  inside : ∀ (h : Fin 4) (c : Fin 768) (r : Fin 256), r.val / 64 ≤ c.val / 64 ∧ c.val / 64 ≤ r.val / 64 + 8 →
    X3 (ix3 h c r) = rel (ix2 h (relPos c.val r.val)) * ((c2 : ℝ) : EReal)
  outside : ∀ (h : Fin 4) (c : Fin 768) (r : Fin 256), ¬ (r.val / 64 ≤ c.val / 64 ∧ c.val / 64 ≤ r.val / 64 + 8) →
    X3 (ix3 h c r) = (⊥ : EReal)

variable {q kk v rel X0 X1 X2 X3 b n}

/-- The score of a window column is the reference's score in base two. -/
theorem score_column (P : Packed q kk v rel X0 X1 X2 X3 b n) (j h : Fin 4) (r : Fin 256) (t : Fin 4096)
    (ht : t.val = 1024 * n.val + 256 * j.val + r.val) (k : Fin 576) :
    scoreAt X0 X1 X3 n j h r ⟨r.val / 64 * 64 + k.val, by omega⟩ = scores q kk rel b h t k * ((c2 : ℝ) : EReal) := by
  have hc : (0 : EReal) ≤ ((c2 : ℝ) : EReal) := by exact_mod_cast c2_pos.le
  have hrow : (⟨1024 * n.val + 256 * j.val + (r.val / 64 * 64 + k.val), by omega⟩ : Fin 4608) = winRow t k :=
    Fin.ext (by simp only [winRow]; omega)
  have hq : (⟨1024 * n.val + (256 * j.val + r.val), by omega⟩ : Fin 4096) = t := Fin.ext (by simp only; omega)
  unfold scoreAt scores score
  simp only [hrow]
  by_cases hg : 512 ≤ (winRow t k).val
  · rw [if_pos hg, EReal.right_distrib_of_nonneg_of_ne_top hc (EReal.coe_ne_top _)]
    congr 1
    · rw [lanes, Finset.sum_eq_zero (s := (Finset.univ : Finset (Fin 16))) (fun d _ => by rw [P.blank _ hg, zero_mul]), add_zero,
        mul_assoc, ← EReal.coe_mul, sum_mul_coe _ _ (mul_nonneg (by norm_num) c2_pos.le)]
      refine Finset.sum_congr rfl fun d _ => ?_
      rw [P.key _ hg, P.query h d ⟨256 * j.val + r.val, by omega⟩]
      simp only [hq]
      rw [mul_comm, mul_right_comm]
    · rw [P.inside h _ r (by simp only; omega)]
      congr 3
      exact Fin.ext (by simp only [relPos]; omega)
  · rw [if_neg hg, EReal.bot_mul_of_pos (by exact_mod_cast c2_pos), sum_bot _ 64, EReal.bot_add]
    refine (congrArg₂ (· * ·) (P.front _ hg h) (P.mark h ⟨256 * j.val + r.val, by omega⟩)).trans (mul_one _)

/-- An entry of the block is the attention of its query row. -/
theorem entry_attend (P : Packed q kk v rel X0 X1 X2 X3 b n) (hq : ∀ i, ∃ r : ℝ, q i = r) (hk : ∀ i, ∃ r : ℝ, kk i = r)
    (hr : ∀ i, ∃ r : ℝ, rel i = r) (j h : Fin 4) (r : Fin 256) (d : Fin 64) (t : Fin 4096)
    (ht : t.val = 1024 * n.val + 256 * j.val + r.val) :
    entry X0 X1 X2 X3 n j h r d = attend q kk v rel b h t d := by
  have hrow : ∀ k : Fin 576, (⟨1024 * n.val + 256 * j.val + (r.val / 64 * 64 + k.val), by omega⟩ : Fin 4608) = winRow t k :=
    fun k => Fin.ext (by simp only [winRow]; omega)
  refine attention_eq (fun k : Fin 576 => (⟨r.val / 64 * 64 + k.val, by omega⟩ : Fin 768)) ?_ (scores q kk rel b h t)
    (scoreAt X0 X1 X3 n j h r) (fun k => padRow v b (winRow t k) h d) _ _ (score_column P j h r t ht) ?_ ?_ ?_
    (score_ne_top q kk rel hq hk hr b h t) ?_
  · intro a a' e
    have := congrArg Fin.val e
    simp only at this
    exact Fin.ext (by omega)
  · intro c hc
    unfold scoreAt
    rw [P.outside h c r, EReal.add_bot]
    intro hw
    exact hc ⟨c.val - r.val / 64 * 64, by omega⟩ (Fin.ext (by simp only; omega))
  · intro k hs
    have hg := row_of_score q kk rel b h t k hs
    simp only [hrow]
    exact P.value _ hg h d
  · intro k hs
    have hg := row_of_score q kk rel b h t k hs
    simp only [hrow]
    exact P.one _ hg h
  · refine ⟨⟨512, by omega⟩, ?_⟩
    obtain ⟨x, e⟩ := score_finite q kk rel hq hk hr b h t ⟨512, by omega⟩ (by simp only [winRow]; omega)
    rw [e]; exact EReal.coe_ne_bot x

end Cert.Proof.Band.Equation

end
-- ==== Proof.Band.Host.lean ====
/- What the host steps before the kernel hand to it: the packed queries, keys and values and the table of positions. -/
module

public import proofs.«01_k».proof.Proof.Gen.BandIdeal.Value
public import proofs.«01_k».proof.Proof.Band.Spec
public import proofs.«01_k».proof.Proof.Band.Gather
public import Idealize.ShloMosaic.Lib.StableHlo.ReadAt
public import Idealize.ShloMosaic.Lib.Pointwise

@[expose] public section

set_option maxRecDepth 16384

noncomputable section

namespace Cert.Proof.Band.Host

open Cert.BandIdeal Cert.BandIdeal.Gen Idealize.ShloMosaic Idealize.ShloMosaic.TcCoe Idealize.SL.Sem Cert.Proof.Softmax

variable (m : (ℓ : Loc nD τ sig) → Buf (Elt Ideal) ℓ) (c : Dev nD)

/-- The four arguments. -/
abbrev q : Rows := m ((c : Thread nD τ).loc main_arg0)
abbrev kk : Rows := m ((c : Thread nD τ).loc main_arg1)
abbrev v : Rows := m ((c : Thread nD τ).loc main_arg2)
abbrev rel : Table := m ((c : Thread nD τ).loc main_arg3)

/-- The packed queries: 80 lanes per head, 64 of them scaled queries, then a one. -/
theorem queries (b : Fin 4) (x : Fin 320) (t : Fin 4096) : V m c main_v11 (ix3 b x t)
    = if h : x.val % 80 < 64 then q m c (ix4 b t (⟨x.val / 80, by omega⟩ : Fin 4) ⟨x.val % 80, h⟩) * (((1 / 8 * c2 : ℝ)) : EReal)
      else if x.val % 80 = 64 then 1 else 0 := by
  unfold V
  after_reads_at
  after_reads_at
  by_cases h : x.val % 80 < 64
  · rw [dif_pos h, dif_pos h, eighth, log2e, ← EReal.coe_mul]
  · rw [dif_neg h, dif_neg h]
    by_cases h' : x.val % 80 = 64
    · rw [dif_pos (by omega), if_pos h']
    · rw [dif_neg (by omega), if_neg h']

/-- The word that picks the marking lane of a block of 128. -/
theorem lane_word (x : Fin 512) : IntOp.cmpi .eq (IntOp.andi (BitVec.ofNat 32 x.val) 127#32) 64#32
    = if x.val % 128 = 64 then 1#1 else 0#1 := by
  have h : IntOp.andi (BitVec.ofNat 32 x.val) 127#32 = BitVec.ofNat 32 (x.val % 128) := by
    apply BitVec.eq_of_toNat_eq
    have e := Nat.and_two_pow_sub_one_eq_mod x.val 7
    simp only [IntOp.andi, BitVec.toNat_and, BitVec.toNat_ofNat] at e ⊢
    rw [Nat.mod_eq_of_lt (by omega : x.val < 2 ^ 32)]
    norm_num at e ⊢
    omega
  rw [h]
  by_cases h' : x.val % 128 = 64
  · rw [if_pos h', h']; rfl
  · rw [if_neg h']
    have hne : (BitVec.ofNat 32 (x.val % 128) == 64#32) = false := by
      rw [beq_eq_false_iff_ne]
      intro e
      have := congrArg BitVec.toNat e
      simp only [BitVec.toNat_ofNat] at this
      omega
    simp only [IntOp.cmpi, hne]
    rfl

/-- A small number shifted right by six places is its chunk number. -/
theorem shift (n : Nat) (h : n < 1024) : IntOp.shrsi .host (BitVec.ofNat 32 n) 6#32 = BitVec.ofNat 32 (n / 64) := by
  unfold IntOp.shrsi
  rw [if_pos (by decide)]
  apply BitVec.eq_of_toInt_eq
  rw [BitVec.toInt_sshiftRight', toInt_small _ (by omega), toInt_small _ (by omega), Int.shiftRight_eq_div_pow]
  simp

/-- The word that says whether chunk `n` of a key window lies in the window of chunk `k` of a tile. -/
theorem window : ∀ n : Fin 12, ∀ k : Fin 4, IntOp.andi (IntOp.cmpi .sge (IntOp.subi (BitVec.ofNat 32 n.val) (BitVec.ofNat 32 k.val)) 0#32)
   (IntOp.cmpi .sle (IntOp.subi (BitVec.ofNat 32 n.val) (BitVec.ofNat 32 k.val)) 8#32) = if k.val ≤ n.val ∧ n.val ≤ k.val + 8 then 1#1 else 0#1 := by
  intro n k
  fin_cases n <;> fin_cases k <;> rfl

/-- The packed keys. -/
theorem keys (b : Fin 4) (g : Fin 4608) (x : Fin 512) : V m c main_v29 (ix3 b g x)
    = if g.val < 512 then (if x.val % 128 = 64 then ⊥ else 0)
      else if h : x.val % 128 < 64 then kk m c (ix4 b (⟨g.val - 512, by omega⟩ : Fin 4096) (⟨x.val / 128, by omega⟩ : Fin 4) ⟨x.val % 128, h⟩)
      else (0 : EReal) := by
  unfold V
  after_reads_at
  after_reads_at
  by_cases hg : g.val < 512
  · refine (dif_pos hg).trans (Eq.trans ?_ (if_pos hg).symm)
    rw [lane_word, minus_inf]
    by_cases h' : x.val % 128 = 64
    · rw [if_pos h', if_pos h']; exact ValueIdx.select_one _ _
    · rw [if_neg h', if_neg h']; exact ValueIdx.select_zero _ _
  · refine (dif_neg hg).trans (Eq.trans ?_ (if_neg hg).symm)
    by_cases h : x.val % 128 < 64
    · refine (dif_pos h).trans ?_; symm; exact dif_pos h
    · refine (dif_neg h).trans ?_; symm; exact dif_neg h

/-- The packed values. -/
theorem values (b : Fin 4) (x : Fin 320) (g : Fin 4608) : V m c main_v17 (ix3 b x g)
    = if g.val < 512 then 0
      else if h : x.val % 80 < 64 then v m c (ix4 b (⟨g.val - 512, by omega⟩ : Fin 4096) (⟨x.val / 80, by omega⟩ : Fin 4) ⟨x.val % 80, h⟩)
      else if x.val % 80 = 64 then (1 : EReal) else 0 := by
  unfold V
  after_reads_at
  after_reads_at
  by_cases hg : g.val < 512
  · exact (dif_pos hg).trans (if_pos hg).symm
  · refine (dif_neg hg).trans (Eq.trans ?_ (if_neg hg).symm)
    by_cases h : x.val % 80 < 64
    · refine (dif_pos h).trans ?_; symm; exact dif_pos h
    · refine (dif_neg h).trans ?_; symm; refine (dif_neg h).trans ?_; symm
      by_cases h' : x.val % 80 = 64
      · exact (dif_pos (by omega)).trans (if_pos h').symm
      · exact (dif_neg (by omega)).trans (if_neg h').symm

/-- A masked and scaled entry. -/
theorem masked (p : Prop) [Decidable p] (w : BitVec 1) (hw : w = if p then 1#1 else 0#1) (a a' b s : EReal) (ha : a = a')
    (hb : b = ⊥) (hs : s = ((c2 : ℝ) : EReal)) : Scalar.select w a b * s = if p then a' * ((c2 : ℝ) : EReal) else ⊥ := by
  subst hw ha hb hs
  by_cases h : p
  · rw [if_pos h, if_pos h, ValueIdx.select_one]
  · rw [if_neg h, if_neg h, ValueIdx.select_zero]
    exact EReal.bot_mul_of_pos (by exact_mod_cast c2_pos)

/-- The table of positions: minus infinity outside the window of a query's chunk. -/
theorem table (h : Fin 4) (x : Fin 768) (t : Fin 256) : V m c main_v58 (ix3 h x t)
    = if t.val / 64 ≤ x.val / 64 ∧ x.val / 64 ≤ t.val / 64 + 8 then rel m c (ix2 h (relPos x.val t.val)) * ((c2 : ℝ) : EReal) else ⊥ := by
  unfold V
  after_reads_at
  refine masked _ _ ?_ _ _ _ _ ?_ ?_ ?_
  · rw [shift _ (by omega), shift _ (by omega)]
    exact window ⟨x.val / 64, by omega⟩ ⟨t.val / 64, by omega⟩
  · refine Gather.table_tile _ _ h x t (relPos x.val t.val) ?_
    pointwise
    refine relPos_wrapped x.val t.val x.isLt t.isLt _ ?_
    have e : IntOp.subi (IntOp.subi (BitVec.ofNat 32 x.val) (BitVec.ofNat 32 t.val)) 512#32
        = IntOp.subi (IntOp.subi (BitVec.ofNat 32 x.val) 512#32) (BitVec.ofNat 32 t.val) := by
      simp only [IntOp.subi, BitVec.sub_eq_add_neg, BitVec.add_assoc]
      rw [BitVec.add_comm (-BitVec.ofNat 32 t.val)]
    rw [e]
    rfl
  · exact minus_inf
  · exact log2e

end Cert.Proof.Band.Host

end
-- ==== Proof.Band.Array.lean ====
/- The array the kernel leaves: each entry is the attention of the arguments. -/
module

public import proofs.«01_k».proof.Proof.Band.Equation
public import proofs.«01_k».proof.Proof.Band.Host
public import Idealize.ShloMosaic.Lib.Pipeline.ValueKit.Point

@[expose] public section

set_option maxRecDepth 16384

noncomputable section

namespace Cert.Proof.Band.Array

open Cert.BandIdeal Cert.BandIdeal.Gen Idealize.ShloMosaic Idealize.ShloMosaic.TcCoe Idealize.SL.Sem Cert.Proof.Softmax
  Cert.Proof.Band.Block Cert.Proof.Band.Equation

variable (m : (ℓ : Loc nD τ sig) → Buf (Elt Ideal) ℓ) (c : Dev nD)

/-- The batch and the block number of a grid point. -/
def batch (t : Fin cfg0.N) : Fin 4 := grid0.coords t 0
def blockNo (t : Fin cfg0.N) : Fin 4 := grid0.coords t 1

/-- The block index of each window at a grid point. -/
theorem index : ∀ t : Fin cfg0.N, win0_0.index t = ![(batch t).val, 0, (blockNo t).val]
    ∧ win0_1.index t = ![(batch t).val, 0, 0] ∧ win0_2.index t = ![(batch t).val, 0, 0]
    ∧ win0_3.index t = ![0, 0, 0] ∧ win0_4.index t = ![4 * (batch t).val + (blockNo t).val, 0] := by decide +kernel

theorem block_queries (t : Fin cfg0.N) (x : Fin 320) (y : Fin 1024) : iblk m c 0 t (ix3 (0 : Fin 1) x y)
    = V m c main_v11 (ix3 (batch t) x (⟨1024 * (blockNo t).val + y.val, by omega⟩ : Fin 4096)) := by
  blk_ext [iblk, (index t).1]

theorem block_keys (t : Fin cfg0.N) (x : Fin 4608) (y : Fin 512) : iblk m c 1 t (ix3 (0 : Fin 1) x y)
    = V m c main_v29 (ix3 (batch t) x y) := by
  blk_ext [iblk, (index t).2.1]

theorem block_values (t : Fin cfg0.N) (x : Fin 320) (y : Fin 4608) : iblk m c 2 t (ix3 (0 : Fin 1) x y)
    = V m c main_v17 (ix3 (batch t) x y) := by
  blk_ext [iblk, (index t).2.2.1]

theorem block_table (t : Fin cfg0.N) (x : Fin 4) (y : Fin 768) (z : Fin 256) : iblk m c 3 t (ix3 x y z)
    = V m c main_v58 (ix3 x y z) := by
  blk_ext [iblk, (index t).2.2.2.1]

/-- The blocks of a grid point hold the packed arguments. -/
theorem packed (t : Fin cfg0.N) : Packed (Host.q m c) (Host.kk m c) (Host.v m c) (Host.rel m c) (iblk m c 0 t) (iblk m c 1 t)
    (iblk m c 2 t) (iblk m c 3 t) (batch t) (blockNo t) where
  query h d y := by
    rw [block_queries, Host.queries]
    refine (dif_pos (by simp only; omega)).trans ?_
    congr 2
    congr 1
    · exact Fin.ext (by simp only; omega)
    · exact Fin.ext (by simp only; omega)
  mark h y := by
    rw [block_queries, Host.queries]
    exact (dif_neg (by simp only; omega)).trans (if_pos (by simp only; omega))
  key g hg h d := by
    rw [block_keys, Host.keys]
    unfold padRow
    rw [if_pos hg]
    refine (if_neg (by omega)).trans ((dif_pos (by simp only; omega)).trans ?_)
    congr 2
    · exact Fin.ext (by simp only; omega)
    · exact Fin.ext (by simp only; omega)
  blank g hg h d := by
    rw [block_keys, Host.keys]
    exact (if_neg (by omega)).trans (dif_neg (by simp only; omega))
  front g hg h := by
    rw [block_keys, Host.keys]
    exact (if_pos (by omega)).trans (if_pos (by simp only; omega))
  value g hg h d := by
    rw [block_values, Host.values]
    unfold padRow
    rw [if_pos hg]
    refine (if_neg (by omega)).trans ((dif_pos (by simp only; omega)).trans ?_)
    congr 2
    · exact Fin.ext (by simp only; omega)
    · exact Fin.ext (by simp only; omega)
  one g hg h := by
    rw [block_values, Host.values]
    exact (if_neg (by omega)).trans ((dif_neg (by simp only; omega)).trans (if_pos (by simp only; omega)))
  inside h x r hw := by
    rw [block_table, Host.table]
    exact if_pos hw
  outside h x r hw := by
    rw [block_table, Host.table]
    exact if_neg hw

/-- The result as a function of its row and column. -/
def result (q kk v : Rows) (rel : Table) : S16384x256.Idx → EReal := fun y =>
  (fun (a : Fin 16384) (x : Fin 256) => attend q kk v rel ⟨a.val / 4096, by omega⟩ ⟨x.val / 64, by omega⟩ ⟨a.val % 4096, by omega⟩
    ⟨x.val % 64, by omega⟩) (y 0) (y 1)

/-- The array after the run. -/
theorem final (hq : ∀ i, ∃ r : ℝ, Host.q m c i = r) (hk : ∀ i, ∃ r : ℝ, Host.kk m c i = r) (hr : ∀ i, ∃ r : ℝ, Host.rel m c i = r) :
    (dats m 0 c).arrAt 4 cfg0.N = result (Host.q m c) (Host.kk m c) (Host.v m c) (Host.rel m c) := by
  refine (dats m 0 c).arrAt_eq_of_covers 4 _ (by decide +kernel) fun t hf y => ?_
  blk_simp
  rw [after0_4]
  refine (out_block m c t y).trans ?_
  have e0 : (((win0_4.blk t).view.emb y 0).val : ℕ) = (4 * (batch t).val + (blockNo t).val) * 1024 + (y 0).val := by
    refine (Pipeline.Window.rect_emb_val win0_4 t y 0).trans ?_
    rw [(index t).2.2.2.2]; rfl
  have e1 : (((win0_4.blk t).view.emb y 1).val : ℕ) = (y 1).val := by
    refine (Pipeline.Window.rect_emb_val win0_4 t y 1).trans ?_
    rw [(index t).2.2.2.2]; simp
  have hy0 : (y 0).val < 1024 := (y 0).isLt
  have hy1 : (y 1).val < 256 := (y 1).isLt
  unfold block result
  dsimp only
  rw [show (grid0.coords t 1 : Fin 4) = blockNo t from rfl]
  refine (entry_attend (packed m c t) hq hk hr _ _ _ _ (⟨1024 * (blockNo t).val + (y 0).val, by omega⟩ : Fin 4096)
    (by simp only; omega)).trans ?_
  congr 1
  · exact Fin.ext (by simp only [e0]; omega)
  · exact Fin.ext (by simp only [e1])
  · exact Fin.ext (by simp only [e0]; omega)
  · exact Fin.ext (by simp only [e1])

end Cert.Proof.Band.Array

end
-- ==== Proof.Band.Claims.lean ====
/- The claims about the windowed attention: the frames, and that the idealized kernel and the reference leave equal results. -/
module

public import proofs.«01_k».proof.Defs
public import proofs.«01_k».proof.Proof.Gen.Band.Frame
public import proofs.«01_k».proof.Proof.Gen.BandIdeal.Value
public import proofs.«01_k».proof.Proof.Band.Ref
public import proofs.«01_k».proof.Proof.Band.Array
public import proofs.«01_k».proof.Proof.Gen.BandRefIdeal.Run

@[expose] public section

set_option maxRecDepth 16384

noncomputable section

namespace Cert.Proof.Band

open Idealize.ShloMosaic Idealize.ShloMosaic.TcCoe Idealize.SL.Sem

/-- The shapes the precondition's text relies on. -/
theorem pre_facts : Cert.Pre_finite_scores.Facts where
  bcast_S_S4x4096x4x64 := by decide
  bcast_S_S4x192 := by decide

/-- A number whose absolute value is below infinity is finite. -/
theorem finite_of_word (x : EReal) (h : FloatOps.cmpf (F := Ideal) (φ := .f32) .olt (FloatOps.absf (F := Ideal) (φ := .f32) x)
    (Ideal.ofBits .f32 0x7F800000#32) = 1#1) : ∃ r : ℝ, x = r := by
  have hinf : Ideal.ofBits .f32 0x7F800000#32 = ⊤ := by simp [Ideal.ofBits, Ideal.ieee]
  rw [hinf] at h
  induction x with
  | coe r => exact ⟨r, rfl⟩
  | bot => exact absurd h (by simp [Ideal.cmpf_def, Ideal.absf_def, Ideal.cmp])
  | top => exact absurd h (by simp [Ideal.cmpf_def, Ideal.absf_def, Ideal.cmp])

/-- The precondition says that the queries, the keys and the bias table are finite. -/
theorem finite_args [Cert.Pre_finite_scores.Facts] (x0 x1 x2 : Rows) (x3 : Table)
    (h : (Cert.Pre_finite_scores.fn (F := Ideal) x0 x1 x2 x3).1 = (fun _ => 1#1)
      ∧ (Cert.Pre_finite_scores.fn (F := Ideal) x0 x1 x2 x3).2.1 = (fun _ => 1#1)
      ∧ (Cert.Pre_finite_scores.fn (F := Ideal) x0 x1 x2 x3).2.2 = (fun _ => 1#1)) :
    (∀ i, ∃ r : ℝ, x0 i = r) ∧ (∀ i, ∃ r : ℝ, x1 i = r) ∧ (∀ i, ∃ r : ℝ, x3 i = r) :=
  ⟨fun i => finite_of_word _ (congrFun h.1 i), fun i => finite_of_word _ (congrFun h.2.1 i),
    fun i => finite_of_word _ (congrFun h.2.2 i)⟩

/-- The reference's result is the attention of its arguments. -/
theorem reference_result (x0 x1 x2 : Rows) (x3 : Table) :
    Cert.BandRefIdeal.Read.val_main_v71 (F := Ideal) x0 x1 x2 x3 = Array.result x0 x1 x2 x3 := by
  funext y
  obtain ⟨r, x, rfl⟩ : ∃ (r : Fin 16384) (x : Fin 256), y = ix2 r x := ⟨y 0, y 1, eq_ix2 y⟩
  exact Ref.result x0 x1 x2 x3 r x

instance : Cert.Pre_finite_scores.Facts := pre_facts

theorem frame_kernel : Cert.quiescent_Band := fun m ρ _ => Cert.Band.Gen.frame m ρ

theorem frame_ideal : Cert.quiescent_BandIdeal := fun m ρ _ => Cert.BandIdeal.Gen.frame m ρ

theorem frame_ideal_pre : Cert.quiescent_BandIdeal_pre_finite_scores := fun m ρ _ => Cert.BandIdeal.Gen.frame m ρ

/-- The reference runs, leaves its arguments unchanged, and has no semaphore. -/
theorem frame_reference : Cert.quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

theorem frame_reference_pre : Cert.quiescent_BandRefIdeal_pre_finite_scores := fun m ρ _ => frame_reference m ρ trivial

/-- The idealized kernel and the reference leave the same array. -/
theorem equal : Cert.algebraic_BandIdeal_BandRefIdeal_pre_finite_scores := by
  intro m g m' g' hp ha
  refine ⟨fun c => Array.result (Host.q m c) (Host.kk m c) (Host.v m c) (Host.rel m c), ?_, ?_⟩
  · refine (θ_run Cert.BandIdeal.defs _ _).mono (fun r h c => ?_) (Cert.BandIdeal.Value.run_blocks (F := Ideal) m g)
    obtain ⟨hq, hk, hr⟩ := finite_args _ _ _ _ (hp c)
    exact ⟨(h c).1.trans (Array.final m c hq hk hr), (h c).2⟩
  · refine (θ_run Cert.BandRefIdeal.defs _ _).mono (fun r h c => ?_) (Cert.BandRefIdeal.Value.run (F := Ideal) m' g')
    obtain ⟨h0, h1, h2, h3⟩ := ha c
    refine ⟨(h c).1.trans ((Cert.BandRefIdeal.Read.val_main_v71_eq m' c).trans ?_), (h c).2⟩
    rw [h0, h1, h2, h3]
    exact reference_result _ _ _ _

end Cert.Proof.Band

end
-- ==== Proof.Post.Spec.lean ====
/- One row of the output mixing and the feed-forward block, as formulas over a row's inputs and the layer's weights. -/
module

public import Idealize.ShloMosaic.Lib.Pointwise

@[expose] public section

noncomputable section

namespace Cert.Proof.Post

open Idealize.ShloMosaic

/-- The layer's weights. -/
@[ext] structure Weights where
  mix : Fin 1024 → Fin 1024 → EReal
  up : Fin 1024 → Fin 6144 → EReal
  down : Fin 3072 → Fin 1024 → EReal
  g1 : Fin 1024 → EReal
  g2 : Fin 1024 → EReal
  g3 : Fin 1024 → EReal
  conv : Fin 3 → Fin 3072 → EReal
  bias : Fin 3072 → EReal

/-- The factor that brings a row to unit mean square. -/
def scale (f : Fin 1024 → EReal) : EReal :=
  Ideal.rsqrt (Ideal.div (∑ x, f x * f x) (Ideal.ofBits .f32 0x44800000#32) + Ideal.ofBits .f32 0x358637BD#32)

/-- The activation, by its hyperbolic tangent formula. -/
def gelu (x : EReal) : EReal :=
  x * (Ideal.ofBits .f32 0x3F000000#32 * (1 + Ideal.tanh (Ideal.ofBits .f32 0x3F4C422A#32
    * (x + Ideal.ofBits .f32 0x3D372713#32 * (x * (x * x))))))

variable (w : Weights)

/-- The three mixers' results times their rows of the mixing matrix. -/
def mixed (of : Fin 256 → EReal) (ol : Fin 512 → EReal) (ob : Fin 256 → EReal) (j : Fin 1024) : EReal :=
  (∑ k : Fin 256, of k * w.mix ⟨k.val, by omega⟩ j) + (∑ k : Fin 512, ol k * w.mix ⟨256 + k.val, by omega⟩ j)
    + ∑ k : Fin 256, ob k * w.mix ⟨768 + k.val, by omega⟩ j

/-- The row after the mixing. -/
def first (x : Fin 1024 → EReal) (u : Fin 1024 → EReal) (j : Fin 1024) : EReal := x j + u j * scale u * w.g1 j

/-- The row that enters the feed-forward block. -/
def hidden (f : Fin 1024 → EReal) (j : Fin 1024) : EReal := f j * scale f * w.g2 j

/-- The gates of a row. -/
def gates (f : Fin 1024 → EReal) (n : Fin 3072) : EReal := ∑ k, hidden w f k * w.up k ⟨n.val, by omega⟩

/-- The values of a row. -/
def values (f : Fin 1024 → EReal) (n : Fin 3072) : EReal := ∑ k, hidden w f k * w.up k ⟨3072 + n.val, by omega⟩

/-- The gates of three rows in succession, weighted. -/
def conv (a2 a1 a0 : Fin 3072 → EReal) (n : Fin 3072) : EReal :=
  a2 n * w.conv 0 n + a1 n * w.conv 1 n + a0 n * w.conv 2 n + w.bias n

/-- What the last matrix is applied to. -/
def act (a2 a1 a0 v : Fin 3072 → EReal) (n : Fin 3072) : EReal := gelu (conv w a2 a1 a0 n) * v n

/-- The feed-forward block's sum. -/
def down (a : Fin 3072 → EReal) (j : Fin 1024) : EReal := ∑ n, a n * w.down n j

/-- The row after the feed-forward block. -/
def second (f : Fin 1024 → EReal) (u : Fin 1024 → EReal) (j : Fin 1024) : EReal := f j + u j * scale u * w.g3 j

/-- The mixers' results set side by side. -/
def joined (of : Fin 256 → EReal) (ol : Fin 512 → EReal) (ob : Fin 256 → EReal) (k : Fin 1024) : EReal :=
  if h : k.val < 256 then of ⟨k.val, h⟩ else if h' : k.val < 768 then ol ⟨k.val - 256, by omega⟩ else ob ⟨k.val - 768, by omega⟩

/-- The mixing, as one sum over the results set side by side. -/
theorem mixed_joined (of : Fin 256 → EReal) (ol : Fin 512 → EReal) (ob : Fin 256 → EReal) (j : Fin 1024) :
    mixed w of ol ob j = ∑ k : Fin 1024, joined of ol ob k * w.mix k j := by
  have e := Fin.sum_univ_add (a := 768) (b := 256) (fun k : Fin 1024 => joined of ol ob k * w.mix k j)
  have e' := Fin.sum_univ_add (a := 256) (b := 512) (fun k : Fin 768 => joined of ol ob (Fin.castAdd 256 k) * w.mix (Fin.castAdd 256 k) j)
  refine Eq.trans ?_ e.symm
  rw [e']
  unfold mixed
  refine congrArg₂ (· + ·) (congrArg₂ (· + ·) ?_ ?_) ?_
  · refine Finset.sum_congr rfl fun k _ => congrArg₂ (· * ·) ?_ ?_
    · unfold joined
      symm
      exact dif_pos (show k.val < 256 from k.isLt)
    · exact congrArg (fun z => w.mix z j) (Fin.ext rfl)
  · refine Finset.sum_congr rfl fun k _ => congrArg₂ (· * ·) ?_ ?_
    · unfold joined
      symm
      refine (dif_neg (show ¬ (256 + k.val) < 256 by omega)).trans ((dif_pos (show (256 + k.val) < 768 by omega)).trans ?_)
      exact congrArg ol (Fin.ext (show 256 + k.val - 256 = k.val by omega))
    · exact congrArg (fun z => w.mix z j) (Fin.ext rfl)
  · refine Finset.sum_congr rfl fun k _ => congrArg₂ (· * ·) ?_ ?_
    · unfold joined
      symm
      refine (dif_neg (show ¬ (768 + k.val) < 256 by omega)).trans ((dif_neg (show ¬ (768 + k.val) < 768 by omega)).trans ?_)
      exact congrArg ob (Fin.ext (show 768 + k.val - 768 = k.val by omega))
    · exact congrArg (fun z => w.mix z j) (Fin.ext rfl)

/-- The feed-forward block's sum in two halves. -/
theorem down_halves (a : Fin 3072 → EReal) (j : Fin 1024) :
    down w a j = (∑ n : Fin 1536, a ⟨n.val, by omega⟩ * w.down ⟨n.val, by omega⟩ j)
      + ∑ n : Fin 1536, a ⟨1536 + n.val, by omega⟩ * w.down ⟨1536 + n.val, by omega⟩ j := by
  refine (Fin.sum_univ_add (a := 1536) (b := 1536) (fun n : Fin 3072 => a n * w.down n j)).trans ?_
  rfl

end Cert.Proof.Post

end
-- ==== Proof.Post.Layer.lean ====
/- The whole layer step: every row of the four streams, each over the gates of the two rows before it in its stream. -/
module

public import proofs.«01_k».proof.Proof.Post.Spec
public import Idealize.ShloMosaic.Lib.Pointwise

@[expose] public section

noncomputable section

namespace Cert.Proof.Post

open Idealize.ShloMosaic

/-- The arrays the step takes. -/
structure Args where
  x : Fin 16384 → Fin 1024 → EReal
  of : Fin 16384 → Fin 256 → EReal
  ol : Fin 16384 → Fin 512 → EReal
  ob : Fin 16384 → Fin 256 → EReal
  hg : Fin 4 → Fin 8 → Fin 3072 → EReal
  w : Weights

variable (A : Args)

/-- A row after the mixing. -/
def Args.row (r : Fin 16384) : Fin 1024 → EReal := first A.w (A.x r) (mixed A.w (A.of r) (A.ol r) (A.ob r))

/-- A row's gates. -/
def Args.gate (r : Fin 16384) (n : Fin 3072) : EReal := gates A.w (A.row r) n

/-- The gates `d` rows before a row, from the history at the front of a stream. -/
def Args.before (d : Fin 8) (r : Fin 16384) (n : Fin 3072) : EReal :=
  if d.val ≤ r.val % 4096 then A.gate ⟨r.val - d.val, by omega⟩ n
  else A.hg ⟨r.val / 4096, by omega⟩ (Fin.ofNat 8 (8 + r.val % 4096 - d.val)) n

/-- A row of the first result. -/
def Args.result (r : Fin 16384) (j : Fin 1024) : EReal :=
  second A.w (A.row r) (down A.w (act A.w (A.before 2 r) (A.before 1 r) (A.gate r) (values A.w (A.row r)))) j

/-- The second result: the gates of the last eight rows of each stream. -/
def Args.last (b : Fin 4) (a : Fin 8) (n : Fin 3072) : EReal := A.gate ⟨4096 * b.val + 4088 + a.val, by omega⟩ n

end Cert.Proof.Post

end
-- ==== Proof.Post.Ref.lean ====
/- The reference read at an index: its two results are the layer step of its arguments. -/
module

public import proofs.«01_k».proof.Proof.Gen.PostRefIdeal.Read
public import proofs.«01_k».proof.Proof.Post.Layer
public import Idealize.ShloMosaic.Lib.Pointwise

@[expose] public section

set_option maxRecDepth 16384

noncomputable section

namespace Cert.Proof.Post.Ref

open Cert.PostRefIdeal Cert.PostRefIdeal.Gen Cert.PostRefIdeal.Read Idealize.ShloMosaic Idealize.ShloMosaic.TcCoe Idealize.SL.Sem

variable (x0 : (⟨S16384x1024, .f32⟩ : BufTy).Contents (Elt Ideal)) (x1 : (⟨S16384x256, .bf16⟩ : BufTy).Contents (Elt Ideal))
  (x2 : (⟨S16384x512, .bf16⟩ : BufTy).Contents (Elt Ideal)) (x3 : (⟨S16384x256, .bf16⟩ : BufTy).Contents (Elt Ideal))
  (x4 : (⟨S4x8x3072, .f32⟩ : BufTy).Contents (Elt Ideal)) (x5 : (⟨S4x1024, .f32⟩ : BufTy).Contents (Elt Ideal))
  (x6 : (⟨S4x1024x1024, .f32⟩ : BufTy).Contents (Elt Ideal)) (x7 : (⟨S4x1024x6144, .f32⟩ : BufTy).Contents (Elt Ideal))
  (x8 : (⟨S3x3072, .f32⟩ : BufTy).Contents (Elt Ideal)) (x9 : (⟨S3072, .f32⟩ : BufTy).Contents (Elt Ideal))
  (x10 : (⟨S4x3072x1024, .f32⟩ : BufTy).Contents (Elt Ideal))

/-- The reference's arguments as arrays of numbers. -/
def args : Args where
  x r j := x0 (ix2 r j)
  of r k := x1 (ix2 r k)
  ol r k := x2 (ix2 r k)
  ob r k := x3 (ix2 r k)
  hg b a n := x4 (ix3 b a n)
  w := { mix := fun k j => x6 (ix3 (0 : Fin 4) k j), up := fun k n => x7 (ix3 (0 : Fin 4) k n), down := fun n j => x10 (ix3 (0 : Fin 4) n j),
         g1 := fun j => x5 (ix2 (1 : Fin 4) j), g2 := fun j => x5 (ix2 (2 : Fin 4) j), g3 := fun j => x5 (ix2 (3 : Fin 4) j),
         conv := fun k n => x8 (ix2 k n), bias := fun n => x9 (ix1 n) }

/-- The mixers' results set side by side. -/
theorem joined_at (r : Fin 16384) (k : Fin 1024) :
    (val_main_v0 (F := Ideal) x1 x2 x3) (ix2 r k) = joined ((args x0 x1 x2 x3 x4 x5 x6 x7 x8 x9 x10).of r) ((args x0 x1 x2 x3 x4 x5 x6 x7 x8 x9 x10).ol r) ((args x0 x1 x2 x3 x4 x5 x6 x7 x8 x9 x10).ob r) k := by
  pointwise [val_main_v0]
  unfold joined
  by_cases h : k.val < 256
  · refine (dif_pos h).trans ?_
    symm
    exact dif_pos h
  · refine (dif_neg h).trans ?_
    symm
    refine (dif_neg h).trans ?_
    by_cases h' : k.val < 768
    · refine (dif_pos h').trans ?_
      symm
      exact dif_pos (by omega)
    · refine (dif_neg h').trans ?_
      symm
      refine (dif_neg (by omega)).trans ?_
      exact congrArg (fun z => x3 (ix2 r z)) (Fin.ext (by simp only; omega))

/-- The mixing. -/
theorem mixed_at (r : Fin 16384) (j : Fin 1024) :
    (val_main_v4 (F := Ideal) x1 x2 x3 x6) (ix2 r j) = mixed (args x0 x1 x2 x3 x4 x5 x6 x7 x8 x9 x10).w ((args x0 x1 x2 x3 x4 x5 x6 x7 x8 x9 x10).of r) ((args x0 x1 x2 x3 x4 x5 x6 x7 x8 x9 x10).ol r) ((args x0 x1 x2 x3 x4 x5 x6 x7 x8 x9 x10).ob r) j := by
  rw [mixed_joined]
  pointwise [val_main_v4, val_main_v3, val_main_v2, val_main_v1]
  refine Finset.sum_congr rfl fun k _ => congrArg₂ (· * ·) (joined_at x0 x1 x2 x3 x4 x5 x6 x7 x8 x9 x10 r k) rfl

/-- A row after the mixing. -/
theorem first_at (r : Fin 16384) (j : Fin 1024) : (val_main_v20 (F := Ideal) x0 x1 x2 x3 x5 x6) (ix2 r j) = (args x0 x1 x2 x3 x4 x5 x6 x7 x8 x9 x10).row r j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [mixed_at x0 x1 x2 x3 x4 x5 x6 x7 x8 x9 x10, Ideal.ofBits_zero_f32, zero_add]
  rfl

/-- The row that enters the feed-forward block. -/
theorem hidden_at (r : Fin 16384) (j : Fin 1024) : (val_main_v35 (F := Ideal) x0 x1 x2 x3 x5 x6) (ix2 r j) = hidden (args x0 x1 x2 x3 x4 x5 x6 x7 x8 x9 x10).w ((args x0 x1 x2 x3 x4 x5 x6 x7 x8 x9 x10).row r) j := by
  pointwise [val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  simp only [first_at x0 x1 x2 x3 x4 x5 x6 x7 x8 x9 x10, Ideal.ofBits_zero_f32, zero_add]
  rfl

theorem up_at (r : Fin 16384) (n : Fin 6144) : (val_main_v38 (F := Ideal) x0 x1 x2 x3 x5 x6 x7) (ix2 r n) = ∑ k, hidden (args x0 x1 x2 x3 x4 x5 x6 x7 x8 x9 x10).w ((args x0 x1 x2 x3 x4 x5 x6 x7 x8 x9 x10).row r) k * (args x0 x1 x2 x3 x4 x5 x6 x7 x8 x9 x10).w.up k n := by
  pointwise [val_main_v38, val_main_v37, val_main_v36]
  exact Finset.sum_congr rfl fun k _ => congrArg₂ (· * ·) (hidden_at x0 x1 x2 x3 x4 x5 x6 x7 x8 x9 x10 r k) rfl

theorem value_at (r : Fin 16384) (n : Fin 3072) : (val_main_v40 (F := Ideal) x0 x1 x2 x3 x5 x6 x7) (ix2 r n) = values (args x0 x1 x2 x3 x4 x5 x6 x7 x8 x9 x10).w ((args x0 x1 x2 x3 x4 x5 x6 x7 x8 x9 x10).row r) n := by
  pointwise [val_main_v40]
  exact up_at x0 x1 x2 x3 x4 x5 x6 x7 x8 x9 x10 r _

/-- The gates of a stream, after the last two rows of its history. -/
theorem gate_at (b : Fin 4) (s : Fin 4098) (n : Fin 3072) :
    (val_main_v43 (F := Ideal) x0 x1 x2 x3 x4 x5 x6 x7) (ix3 b s n) = if h : s.val < 2 then x4 (ix3 b (⟨6 + s.val, by omega⟩ : Fin 8) n)
      else (args x0 x1 x2 x3 x4 x5 x6 x7 x8 x9 x10).gate ⟨4096 * b.val + (s.val - 2), by omega⟩ n := by
  pointwise [val_main_v43, val_main_v42, val_main_v41, val_main_v39]
  by_cases h : s.val < 2
  · rw [dif_pos h, dif_pos h]
  · refine (dif_neg h).trans ?_
    symm
    refine (dif_neg h).trans ?_
    symm
    refine (up_at x0 x1 x2 x3 x4 x5 x6 x7 x8 x9 x10 _ _).trans ?_
    exact congrArg (fun z => gates (args x0 x1 x2 x3 x4 x5 x6 x7 x8 x9 x10).w ((args x0 x1 x2 x3 x4 x5 x6 x7 x8 x9 x10).row z) n) (Fin.ext (by simp only; omega))

/-- The rows before a row, read from the padded gates. -/
theorem before_at (d : Fin 3) (r : Fin 16384) (n : Fin 3072) (s : Fin 4098) (hs : s.val = r.val % 4096 + 2 - d.val) :
    (val_main_v43 (F := Ideal) x0 x1 x2 x3 x4 x5 x6 x7) (ix3 (⟨r.val / 4096, by omega⟩ : Fin 4) s n)
      = (args x0 x1 x2 x3 x4 x5 x6 x7 x8 x9 x10).before ⟨d.val, by omega⟩ r n := by
  rw [gate_at x0 x1 x2 x3 x4 x5 x6 x7 x8 x9 x10]
  unfold Args.before
  by_cases h : d.val ≤ r.val % 4096
  · refine (dif_neg (by omega)).trans ?_
    symm
    refine (if_pos h).trans ?_
    exact congrArg (fun z => (args x0 x1 x2 x3 x4 x5 x6 x7 x8 x9 x10).gate z n) (Fin.ext (by simp only; omega))
  · refine (dif_pos (by omega)).trans ?_
    symm
    refine (if_neg h).trans ?_
    refine congrArg (fun z => x4 (ix3 (⟨r.val / 4096, by omega⟩ : Fin 4) z n)) (Fin.ext ?_)
    simp only [Fin.ofNat]
    omega

/-- The weighted gates of three rows. -/
theorem conv_at (r : Fin 16384) (n : Fin 3072) :
    (val_main_v67 (F := Ideal) x0 x1 x2 x3 x4 x5 x6 x7 x8 x9) (ix2 r n) = conv (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) n := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44]
  have e0 : (args x0 x1 x2 x3 x4 x5 x6 x7 x8 x9 x10).before 0 r n = (args x0 x1 x2 x3 x4 x5 x6 x7 x8 x9 x10).gate r n := by
    unfold Args.before
    exact (if_pos (Nat.zero_le _)).trans (congrArg (fun z => (args x0 x1 x2 x3 x4 x5 x6 x7 x8 x9 x10).gate z n) (Fin.ext (Nat.sub_zero _)))
  unfold conv
  rw [← e0]
  refine congrArg₂ (· + ·) (congrArg₂ (· + ·) (congrArg₂ (· + ·) (congrArg₂ (· * ·) ?_ rfl) (congrArg₂ (· * ·) ?_ rfl)) (congrArg₂ (· * ·) ?_ rfl)) rfl
  · exact before_at x0 x1 x2 x3 x4 x5 x6 x7 x8 x9 x10 2 r n _ (by show r.val % 4096 = r.val % 4096 + 2 - 2; omega)
  · exact before_at x0 x1 x2 x3 x4 x5 x6 x7 x8 x9 x10 1 r n _ (by show 1 + r.val % 4096 = r.val % 4096 + 2 - 1; omega)
  · exact before_at x0 x1 x2 x3 x4 x5 x6 x7 x8 x9 x10 0 r n _ (by show 2 + r.val % 4096 = r.val % 4096 + 2 - 0; omega)

/-- What the last matrix is applied to. -/
theorem act_at (r : Fin 16384) (n : Fin 3072) :
    (val_main_v81 (F := Ideal) x0 x1 x2 x3 x4 x5 x6 x7 x8 x9) (ix2 r n) = act (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) (values (args x0 x1 x2 x3 x4 x5 x6 x7 x8 x9 x10).w ((args x0 x1 x2 x3 x4 x5 x6 x7 x8 x9 x10).row r)) n := by
  pointwise [val_main_v81, val_main_v80, val_main_v79, val_main_v78, val_main_v77, val_main_v76, val_main_v75, val_main_v74, val_main_v73, val_main_v72, val_main_v71, val_main_v70, val_main_v69, val_main_v68, val_main_cst_5, val_main_cst_6, val_main_cst_7, val_main_cst_8]
  rw [conv_at x0 x1 x2 x3 x4 x5 x6 x7 x8 x9 x10, value_at x0 x1 x2 x3 x4 x5 x6 x7 x8 x9 x10]
  unfold act gelu
  generalize conv (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) n = z
  rw [mul_comm z (z * z)]

theorem down_at (r : Fin 16384) (j : Fin 1024) :
    (val_main_v84 (F := Ideal) x0 x1 x2 x3 x4 x5 x6 x7 x8 x9 x10) (ix2 r j) = down (args x0 x1 x2 x3 x4 x5 x6 x7 x8 x9 x10).w (act (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) (values (args x0 x1 x2 x3 x4 x5 x6 x7 x8 x9 x10).w ((args x0 x1 x2 x3 x4 x5 x6 x7 x8 x9 x10).row r))) j := by
  pointwise [val_main_v84, val_main_v83, val_main_v82]
  exact Finset.sum_congr rfl fun k _ => congrArg₂ (· * ·) (act_at x0 x1 x2 x3 x4 x5 x6 x7 x8 x9 x10 r k) rfl

/-- The reference's first result. -/
theorem result (r : Fin 16384) (j : Fin 1024) : (val_main_v100 (F := Ideal) x0 x1 x2 x3 x4 x5 x6 x7 x8 x9 x10) (ix2 r j) = (args x0 x1 x2 x3 x4 x5 x6 x7 x8 x9 x10).result r j := by
  pointwise [val_main_v100, val_main_v99, val_main_v98, val_main_v97, val_main_v96, val_main_v95, val_main_v94, val_main_v93, val_main_v92, val_main_v91, val_main_v90, val_main_v89, val_main_v88, val_main_v87, val_main_v86, val_main_v85, val_main_cst_9, val_main_cst_10, val_main_cst_11]
  simp only [first_at x0 x1 x2 x3 x4 x5 x6 x7 x8 x9 x10, down_at x0 x1 x2 x3 x4 x5 x6 x7 x8 x9 x10, Ideal.ofBits_zero_f32, zero_add]
  rfl

/-- The reference's second result. -/
theorem last (b : Fin 4) (a : Fin 8) (n : Fin 3072) : (val_main_v101 (F := Ideal) x0 x1 x2 x3 x4 x5 x6 x7) (ix3 b a n) = (args x0 x1 x2 x3 x4 x5 x6 x7 x8 x9 x10).last b a n := by
  pointwise [val_main_v101]
  rw [gate_at x0 x1 x2 x3 x4 x5 x6 x7 x8 x9 x10]
  refine (dif_neg (by simp only; omega)).trans ?_
  exact congrArg (fun z => (args x0 x1 x2 x3 x4 x5 x6 x7 x8 x9 x10).gate z n) (Fin.ext (by simp only; omega))

end Cert.Proof.Post.Ref

end
-- ==== Proof.Post.Tile.lean ====
/- What one grid point of the kernel computes: 512 rows of one stream, over the eight gate rows carried from the tile before. -/
module

public import proofs.«01_k».proof.Proof.Gen.PostIdeal.Value
public import proofs.«01_k».proof.Proof.Post.Spec
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Proof.Post.Tile

open Cert.PostIdeal Cert.PostIdeal.Gen Idealize.ShloMosaic Idealize.ShloMosaic.TcCoe Idealize.SL.Sem

variable (X0 : Vec Ideal S512x1024 .f32) (X1 : Vec Ideal S512x256 .bf16) (X2 : Vec Ideal S512x512 .bf16) (X3 : Vec Ideal S512x256 .bf16)
  (X5 : Vec Ideal S4x1024 .f32) (X6 : Vec Ideal S1x1024x1024 .bf16) (X7 : Vec Ideal S1x1024x6144 .bf16) (X8 : Vec Ideal S3x3072 .f32)
  (X9 : Vec Ideal S1x3072 .f32) (X10 : Vec Ideal S1x3072x1024 .bf16)

/-- The weights, as the blocks hold them. -/
def weights : Weights where
  mix k j := X6 (ix3 (0 : Fin 1) k j)
  up k n := X7 (ix3 (0 : Fin 1) k n)
  down n j := X10 (ix3 (0 : Fin 1) n j)
  g1 j := X5 (ix2 (1 : Fin 4) j)
  g2 j := X5 (ix2 (2 : Fin 4) j)
  g3 j := X5 (ix2 (3 : Fin 4) j)
  conv k n := X8 (ix2 k n)
  bias n := X9 (ix2 (0 : Fin 1) n)

/-- Row `p` of the tile after the mixing. -/
def row (w : Weights) (p : Fin 512) : Fin 1024 → EReal :=
  first w (fun j => X0 (ix2 p j)) (mixed w (fun k => X1 (ix2 p k)) (fun k => X2 (ix2 p k)) (fun k => X3 (ix2 p k)))

/-- A gate row of the tile, or of the eight rows before it. -/
def prior (tail : Fin 8 → Fin 3072 → EReal) (g : Fin 512 → Fin 3072 → EReal) (d : Fin 8) (p : Fin 512) (n : Fin 3072) : EReal :=
  if h : d.val ≤ p.val then g ⟨p.val - d.val, by omega⟩ n else tail ⟨8 + p.val - d.val, by omega⟩ n

/-! ## The kernel's steps at an entry -/

omit X0 X1 X2 X3 X5 X6 X7 X8 X9 X10 in
theorem mix_step (v1 v2 v3 v4 v5 v6) (p : Fin 512) (u : Fin 1024 → EReal)
    (hu : ∀ j, (∑ x, v1 (ix2 p x) * v2 (ix3 (0 : Fin 1) x j)) + (∑ x, v3 (ix2 p x) * v4 (ix3 (0 : Fin 1) x j))
      + (∑ x, v5 (ix2 p x) * v6 (ix3 (0 : Fin 1) x j)) = u j) (j : Fin 1024) :
    k0_pay2 (F := Ideal) v1 v2 v3 v4 v5 v6 (ix2 p j) = u j * scale u := by
  pointwise [k0_pay2]
  unfold scale
  simp only [hu]

omit X0 X1 X2 X3 X5 X6 X7 X8 X9 X10 in
theorem first_step (v1 : Vec Ideal S512x1024 .f32) (v2 v3 : FVec Ideal S512x1024 .f32) (p : Fin 512) (j : Fin 1024) :
    k0_pay4 v1 v2 v3 (ix2 p j) = v1 (ix2 p j) + v2 (ix2 p j) * v3 (ix2 p j) := by
  pointwise [k0_pay4]

omit X0 X1 X2 X3 X5 X6 X7 X8 X9 X10 in
theorem hidden_step (v1 : Vec Ideal S1x1024 .f32) (v2 : Vec Ideal S512x1024 .f32) (v3 v4 : FVec Ideal S512x1024 .f32) (p : Fin 512)
    (f : Fin 1024 → EReal) (hf : ∀ j, v2 (ix2 p j) + v3 (ix2 p j) * v4 (ix2 p j) = f j) (j : Fin 1024) :
    k0_pay5 v1 v2 v3 v4 (ix2 p j) = f j * scale f * v1 (ix2 (0 : Fin 1) j) := by
  pointwise [k0_pay5, k0_pay4]
  unfold scale
  simp only [hf]

omit X0 X1 X2 X3 X5 X6 X7 X8 X9 X10 in
theorem up_step (v1 : Vec Ideal S1x1024 .f32) (v2 : Vec Ideal S512x1024 .f32) (v3 v4 : FVec Ideal S512x1024 .f32)
    (v5 : Vec Ideal S1x1024x1536 .bf16) (p : Fin 512) (n : Fin 1536) :
    k0_pay8 v1 v2 v3 v4 v5 (ix2 p n) = ∑ x, k0_pay5 v1 v2 v3 v4 (ix2 p x) * v5 (ix3 (0 : Fin 1) x n) := by
  pointwise [k0_pay8]

omit X0 X1 X2 X3 X5 X6 X7 X8 X9 X10 in
theorem act_step0 (v1 : FVec Ideal S512x1024 .f32) (v2 v3 : FVec Ideal S512x1536 .f32) (v4 : FVec Ideal S1x1536 .f32)
    (v5 : Vec Ideal S1x1536x1024 .bf16) (p : Fin 512) (j : Fin 1024) :
    k0_pay18 v1 v2 v3 v4 v5 (ix2 p j)
      = v1 (ix2 p j) + ∑ x, gelu (v3 (ix2 p x) + v4 (ix2 (0 : Fin 1) x)) * v2 (ix2 p x) * v5 (ix3 (0 : Fin 1) x j) := by
  pointwise [k0_pay18]
  rfl

omit X0 X1 X2 X3 X5 X6 X7 X8 X9 X10 in
theorem act_step1 (v1 v2 v3 v4 : FVec Ideal S512x1536 .f32) (v5 v6 v7 v8 : Vec Ideal S1x1536 .f32) (p : Fin 512) (n : Fin 1536) :
    k0_pay25 v1 v2 v3 v4 v5 v6 v7 v8 (ix2 p n)
      = gelu (v4 (ix2 p n) * v5 (ix2 (0 : Fin 1) n) + v3 (ix2 p n) * v6 (ix2 (0 : Fin 1) n) + v1 (ix2 p n) * v7 (ix2 (0 : Fin 1) n)
          + v8 (ix2 (0 : Fin 1) n)) * v2 (ix2 p n) := by
  pointwise [k0_pay25]
  rfl

omit X0 X1 X2 X3 X5 X6 X7 X8 X9 X10 in
theorem second_step (v1 : Vec Ideal S1x1024 .f32) (v2 v3 : FVec Ideal S512x1024 .f32) (v4 : FVec Ideal S512x1536 .bf16)
    (v5 : Vec Ideal S1x1536x1024 .bf16) (p : Fin 512) (u : Fin 1024 → EReal)
    (hu : ∀ j, v3 (ix2 p j) + (∑ x, v4 (ix2 p x) * v5 (ix3 (0 : Fin 1) x j)) = u j) (j : Fin 1024) :
    k0_pay1 v1 v2 v3 v4 v5 (ix2 p j) = v2 (ix2 p j) + u j * scale u * v1 (ix2 (0 : Fin 1) j) := by
  pointwise [k0_pay1]
  unfold scale
  simp only [hu]

/-- An entry of a half tile `d` rows up, from the half's own rows or from the eight rows before them. -/
def shifted (G : FVec Ideal S512x1536 .f32) (T : Vec Ideal S8x1536 .f32) (d : Fin 8) (p : Fin 512) (n : Fin 1536) : EReal :=
  if h : d.val ≤ p.val then G (ix2 (⟨p.val - d.val, by omega⟩ : Fin 512) n) else T (ix2 (⟨8 + p.val - d.val, by omega⟩ : Fin 8) n)

omit X0 X1 X2 X3 X5 X6 X7 X8 X9 X10 in
/-- The kernel picks by a row's place in its group of eight. -/
theorem pick_one (q : Fin 8) (a b : EReal) :
    Scalar.select (α := EReal) (IntOp.cmpi CmpIPredicate.sge (BitVec.ofNat 32 q.val) 1#32) a b = if 1 ≤ q.val then a else b := by
  fin_cases q <;> rfl

omit X0 X1 X2 X3 X5 X6 X7 X8 X9 X10 in
theorem pick_two (q : Fin 8) (a b : EReal) :
    Scalar.select (α := EReal) (IntOp.cmpi CmpIPredicate.sge (BitVec.ofNat 32 q.val) 2#32) a b = if 2 ≤ q.val then a else b := by
  fin_cases q <;> rfl

omit X0 X1 X2 X3 X5 X6 X7 X8 X9 X10 in
theorem shift_one (G : FVec Ideal S512x1536 .f32) (T : Vec Ideal S8x1536 .f32) (p : Fin 512) (n : Fin 1536) :
    k0_pay20 G T (ix2 p n) = shifted G T 1 p n := by
  pointwise [k0_pay20, k0_pay19]
  refine (pick_one ⟨p.val % 8, by omega⟩ _ _).trans ?_
  unfold shifted
  dsimp only
  have d1 : ((1 : Fin 8) : ℕ) = 1 := rfl
  by_cases h1 : 1 ≤ p.val % 8
  · have h2 : ((1 : Fin 8) : ℕ) ≤ p.val := by omega
    refine (if_pos h1).trans ?_
    symm
    refine (dif_pos h2).trans ?_
    exact congrArg (fun z => G (ix2 z n)) (Fin.ext (by dsimp only; omega))
  · refine (if_neg h1).trans ?_
    by_cases h3 : p.val / 8 < 1
    · have h2 : ¬ ((1 : Fin 8) : ℕ) ≤ p.val := by omega
      refine (dif_pos h3).trans ?_
      symm
      refine (dif_neg h2).trans ?_
      exact congrArg (fun z => T (ix2 z n)) (Fin.ext (by dsimp only; omega))
    · have h2 : ((1 : Fin 8) : ℕ) ≤ p.val := by omega
      refine (dif_neg h3).trans ?_
      symm
      refine (dif_pos h2).trans ?_
      exact congrArg (fun z => G (ix2 z n)) (Fin.ext (by dsimp only; omega))

omit X0 X1 X2 X3 X5 X6 X7 X8 X9 X10 in
theorem shift_two (G : FVec Ideal S512x1536 .f32) (T : Vec Ideal S8x1536 .f32) (p : Fin 512) (n : Fin 1536) :
    k0_pay21 G T (ix2 p n) = shifted G T 2 p n := by
  pointwise [k0_pay21, k0_pay19]
  refine (pick_two ⟨p.val % 8, by omega⟩ _ _).trans ?_
  unfold shifted
  dsimp only
  have d1 : ((2 : Fin 8) : ℕ) = 2 := rfl
  by_cases h1 : 2 ≤ p.val % 8
  · have h2 : ((2 : Fin 8) : ℕ) ≤ p.val := by omega
    refine (if_pos h1).trans ?_
    symm
    refine (dif_pos h2).trans ?_
    exact congrArg (fun z => G (ix2 z n)) (Fin.ext (by dsimp only; omega))
  · refine (if_neg h1).trans ?_
    by_cases h3 : p.val / 8 < 1
    · have h2 : ¬ ((2 : Fin 8) : ℕ) ≤ p.val := by omega
      refine (dif_pos h3).trans ?_
      symm
      refine (dif_neg h2).trans ?_
      exact congrArg (fun z => T (ix2 z n)) (Fin.ext (by dsimp only; omega))
    · have h2 : ((2 : Fin 8) : ℕ) ≤ p.val := by omega
      refine (dif_neg h3).trans ?_
      symm
      refine (dif_pos h2).trans ?_
      exact congrArg (fun z => G (ix2 z n)) (Fin.ext (by dsimp only; omega))

omit X0 X1 X2 X3 X5 X6 X7 X8 X9 X10 in
/-- The first half's weighted gates are written with the same two shifts as the second half's. -/
theorem conv_step0 (G : FVec Ideal S512x1536 .f32) (T : Vec Ideal S8x1536 .f32) (c0 c1 c2 : Vec Ideal S1x1536 .f32) (p : Fin 512) (n : Fin 1536) :
    k0_pay16 G (k0_pay19 G) T (dynamicRotate 1 1#32 none (k0_pay19 G) rotates_S64x8x1536_d1) c0 c1 c2 (ix2 p n)
      = shifted G T 2 p n * c0 (ix2 (0 : Fin 1) n) + shifted G T 1 p n * c1 (ix2 (0 : Fin 1) n) + G (ix2 p n) * c2 (ix2 (0 : Fin 1) n) := by
  have e : k0_pay16 G (k0_pay19 G) T (dynamicRotate 1 1#32 none (k0_pay19 G) rotates_S64x8x1536_d1) c0 c1 c2
      = addf (addf (mulf (k0_pay21 G T) (broadcastTo S512x1536 c0 broadcasts_S1x1536_S512x1536))
        (mulf (k0_pay20 G T) (broadcastTo S512x1536 c1 broadcasts_S1x1536_S512x1536)))
        (mulf G (broadcastTo S512x1536 c2 broadcasts_S1x1536_S512x1536)) := rfl
  rw [e, ← shift_one, ← shift_two]
  generalize k0_pay20 G T = A
  generalize k0_pay21 G T = B
  pointwise

/-- The mixing scaled to unit mean square. -/
def mixV : FVec Ideal S512x1024 .f32 :=
  k0_pay2 X1 (View.ld X6 (Rect.unit (s := S1x1024x1024) ![0, 0, 0] S1x256x1024.size inb_S1x1024x1024_S1x256x1024_0_0_0)) X2
    (View.ld X6 (Rect.unit (s := S1x1024x1024) ![0, 256, 0] S1x512x1024.size inb_S1x1024x1024_S1x512x1024_0_256_0)) X3
    (View.ld X6 (Rect.unit (s := S1x1024x1024) ![0, 768, 0] S1x256x1024.size inb_S1x1024x1024_S1x256x1024_0_768_0))

def g1V : FVec Ideal S512x1024 .f32 := k0_pay3 (View.ld X5 (Rect.unit (s := S4x1024) ![1, 0] S1x1024.size inb_S4x1024_S1x1024_1_0))
def g2V : Vec Ideal S1x1024 .f32 := View.ld X5 (Rect.unit (s := S4x1024) ![2, 0] S1x1024.size inb_S4x1024_S1x1024_2_0)

/-- The gates and the values of the tile, each in two halves. -/
def gate0 : FVec Ideal S512x1536 .f32 := k0_pay8 (g2V X5) X0 (mixV X1 X2 X3 X6) (g1V X5)
  (View.ld X7 (Rect.unit (s := S1x1024x6144) ![0, 0, 0] S1x1024x1536.size inb_S1x1024x6144_S1x1024x1536_0_0_0))
def value0 : FVec Ideal S512x1536 .f32 := k0_pay9 (g2V X5) X0 (mixV X1 X2 X3 X6) (g1V X5)
  (View.ld X7 (Rect.unit (s := S1x1024x6144) ![0, 0, 3072] S1x1024x1536.size inb_S1x1024x6144_S1x1024x1536_0_0_3072))
def gate1 : FVec Ideal S512x1536 .f32 := k0_pay10 (g2V X5) X0 (mixV X1 X2 X3 X6) (g1V X5)
  (View.ld X7 (Rect.unit (s := S1x1024x6144) ![0, 0, 1536] S1x1024x1536.size inb_S1x1024x6144_S1x1024x1536_0_0_1536))
def value1 : FVec Ideal S512x1536 .f32 := k0_pay11 (g2V X5) X0 (mixV X1 X2 X3 X6) (g1V X5)
  (View.ld X7 (Rect.unit (s := S1x1024x6144) ![0, 0, 4608] S1x1024x1536.size inb_S1x1024x6144_S1x1024x1536_0_0_4608))

/-- The tile's result, over the two halves of the eight gate rows before it. -/
def out (T0 T1 : Vec Ideal S8x1536 .f32) : FVec Ideal S512x1024 .f32 :=
  k0_pay1 (View.ld X5 (Rect.unit (s := S4x1024) ![3, 0] S1x1024.size inb_S4x1024_S1x1024_3_0)) (k0_pay4 X0 (mixV X1 X2 X3 X6) (g1V X5))
    (k0_pay18 k0_pay7 (value0 X0 X1 X2 X3 X5 X6 X7)
      (k0_pay16 (gate0 X0 X1 X2 X3 X5 X6 X7) (k0_pay12 (g2V X5) X0 (mixV X1 X2 X3 X6) (g1V X5)
          (View.ld X7 (Rect.unit (s := S1x1024x6144) ![0, 0, 0] S1x1024x1536.size inb_S1x1024x6144_S1x1024x1536_0_0_0))) T0
        (k0_pay13 (g2V X5) X0 (mixV X1 X2 X3 X6) (g1V X5)
          (View.ld X7 (Rect.unit (s := S1x1024x6144) ![0, 0, 0] S1x1024x1536.size inb_S1x1024x6144_S1x1024x1536_0_0_0)))
        (View.ld X8 (Rect.unit (s := S3x3072) ![0, 0] S1x1536.size inb_S3x3072_S1x1536_0_0))
        (View.ld X8 (Rect.unit (s := S3x3072) ![1, 0] S1x1536.size inb_S3x3072_S1x1536_1_0))
        (View.ld X8 (Rect.unit (s := S3x3072) ![2, 0] S1x1536.size inb_S3x3072_S1x1536_2_0)))
      (k0_pay17 (View.ld X9 (Rect.unit (s := S1x3072) ![0, 0] S1x1536.size inb_S1x3072_S1x1536_0_0)))
      (View.ld X10 (Rect.unit (s := S1x3072x1024) ![0, 0, 0] S1x1536x1024.size inb_S1x3072x1024_S1x1536x1024_0_0_0)))
    (k0_pay25 (gate1 X0 X1 X2 X3 X5 X6 X7) (value1 X0 X1 X2 X3 X5 X6 X7) (k0_pay20 (gate1 X0 X1 X2 X3 X5 X6 X7) T1)
      (k0_pay21 (gate1 X0 X1 X2 X3 X5 X6 X7) T1)
      (View.ld X8 (Rect.unit (s := S3x3072) ![0, 1536] S1x1536.size inb_S3x3072_S1x1536_0_1536))
      (View.ld X8 (Rect.unit (s := S3x3072) ![1, 1536] S1x1536.size inb_S3x3072_S1x1536_1_1536))
      (View.ld X8 (Rect.unit (s := S3x3072) ![2, 1536] S1x1536.size inb_S3x3072_S1x1536_2_1536))
      (View.ld X9 (Rect.unit (s := S1x3072) ![0, 1536] S1x1536.size inb_S1x3072_S1x1536_0_1536)))
    (View.ld X10 (Rect.unit (s := S1x3072x1024) ![0, 1536, 0] S1x1536x1024.size inb_S1x3072x1024_S1x1536x1024_0_1536_0))

/-! ## The tile over the weights -/

omit X8 X9 X10 in
theorem ld_at {S : Shape} {e : EltTy} (X : Vec Ideal S e) (off size : Fin S.rank → ℕ) (inb) (x : (Rect.unit off size inb).shape.Idx)
    (i : S.Idx) (hi : ∀ a, (i a : ℕ) = off a + x a) : View.ld X (Rect.unit off size inb) x = X i :=
  View.ld_unit_apply_of X off size inb x i hi

theorem mixV_at (p : Fin 512) (j : Fin 1024) :
    mixV X1 X2 X3 X6 (ix2 p j)
      = mixed (weights X5 X6 X7 X8 X9 X10) (fun k => X1 (ix2 p k)) (fun k => X2 (ix2 p k)) (fun k => X3 (ix2 p k)) j
        * scale (mixed (weights X5 X6 X7 X8 X9 X10) (fun k => X1 (ix2 p k)) (fun k => X2 (ix2 p k)) (fun k => X3 (ix2 p k))) := by
  refine mix_step _ _ _ _ _ _ p _ (fun j => ?_) j
  refine congrArg₂ (· + ·) (congrArg₂ (· + ·) ?_ ?_) ?_
  · refine Finset.sum_congr rfl fun x _ => congrArg (X1 (ix2 p x) * ·) ?_
    exact ld_at X6 _ _ _ _ _ (fun a => by fin_cases a <;> simp)
  · refine Finset.sum_congr rfl fun x _ => congrArg (X2 (ix2 p x) * ·) ?_
    exact ld_at X6 _ _ _ _ _ (fun a => by fin_cases a <;> simp)
  · refine Finset.sum_congr rfl fun x _ => congrArg (X3 (ix2 p x) * ·) ?_
    exact ld_at X6 _ _ _ _ _ (fun a => by fin_cases a <;> simp)

theorem row_at (p : Fin 512) (j : Fin 1024) :
    X0 (ix2 p j) + mixV X1 X2 X3 X6 (ix2 p j) * g1V X5 (ix2 p j) = row X0 X1 X2 X3 (weights X5 X6 X7 X8 X9 X10) p j := by
  rw [mixV_at X1 X2 X3 X5 X6 X7 X8 X9 X10 p j]
  unfold row first
  refine congrArg₂ (· + ·) rfl (congrArg₂ (· * ·) rfl ?_)
  unfold g1V
  refine Eq.trans (b := View.ld X5 (Rect.unit (s := S4x1024) ![1, 0] S1x1024.size inb_S4x1024_S1x1024_1_0) (ix2 (0 : Fin 1) j)) ?_ ?_
  · generalize View.ld X5 (Rect.unit (s := S4x1024) ![1, 0] S1x1024.size inb_S4x1024_S1x1024_1_0) = A
    pointwise [k0_pay3]
  exact ld_at X5 _ _ _ _ _ (fun a => by fin_cases a <;> simp)

theorem hidden_at (p : Fin 512) (j : Fin 1024) :
    k0_pay5 (g2V X5) X0 (mixV X1 X2 X3 X6) (g1V X5) (ix2 p j) = hidden (weights X5 X6 X7 X8 X9 X10) (row X0 X1 X2 X3 (weights X5 X6 X7 X8 X9 X10) p) j := by
  rw [hidden_step _ _ _ _ p (row X0 X1 X2 X3 (weights X5 X6 X7 X8 X9 X10) p) (row_at X0 X1 X2 X3 X5 X6 X7 X8 X9 X10 p) j]
  refine congrArg (fun z => row X0 X1 X2 X3 (weights X5 X6 X7 X8 X9 X10) p j * scale (row X0 X1 X2 X3 (weights X5 X6 X7 X8 X9 X10) p) * z) ?_
  exact ld_at X5 _ _ _ _ _ (fun a => by fin_cases a <;> simp)

theorem gate0_at (p : Fin 512) (n : Fin 1536) :
    gate0 X0 X1 X2 X3 X5 X6 X7 (ix2 p n) = gates (weights X5 X6 X7 X8 X9 X10) (row X0 X1 X2 X3 (weights X5 X6 X7 X8 X9 X10) p) ⟨n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

theorem gate1_at (p : Fin 512) (n : Fin 1536) :
    gate1 X0 X1 X2 X3 X5 X6 X7 (ix2 p n) = gates (weights X5 X6 X7 X8 X9 X10) (row X0 X1 X2 X3 (weights X5 X6 X7 X8 X9 X10) p) ⟨1536 + n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

theorem value0_at (p : Fin 512) (n : Fin 1536) :
    value0 X0 X1 X2 X3 X5 X6 X7 (ix2 p n) = values (weights X5 X6 X7 X8 X9 X10) (row X0 X1 X2 X3 (weights X5 X6 X7 X8 X9 X10) p) ⟨n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

theorem value1_at (p : Fin 512) (n : Fin 1536) :
    value1 X0 X1 X2 X3 X5 X6 X7 (ix2 p n) = values (weights X5 X6 X7 X8 X9 X10) (row X0 X1 X2 X3 (weights X5 X6 X7 X8 X9 X10) p) ⟨1536 + n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp [← Nat.add_assoc])

variable (tail : Fin 8 → Fin 3072 → EReal)

theorem shifted0 (T : Vec Ideal S8x1536 .f32) (hT : ∀ a n, T (ix2 a n) = tail a ⟨n.val, by omega⟩) (d : Fin 8) (p : Fin 512) (n : Fin 1536) :
    shifted (gate0 X0 X1 X2 X3 X5 X6 X7) T d p n = prior tail (fun p => gates (weights X5 X6 X7 X8 X9 X10) (row X0 X1 X2 X3 (weights X5 X6 X7 X8 X9 X10) p)) d p ⟨n.val, by omega⟩ := by
  unfold shifted prior
  split
  · exact gate0_at X0 X1 X2 X3 X5 X6 X7 X8 X9 X10 _ n
  · exact hT _ n

theorem shifted1 (T : Vec Ideal S8x1536 .f32) (hT : ∀ a n, T (ix2 a n) = tail a ⟨1536 + n.val, by omega⟩) (d : Fin 8) (p : Fin 512) (n : Fin 1536) :
    shifted (gate1 X0 X1 X2 X3 X5 X6 X7) T d p n = prior tail (fun p => gates (weights X5 X6 X7 X8 X9 X10) (row X0 X1 X2 X3 (weights X5 X6 X7 X8 X9 X10) p)) d p ⟨1536 + n.val, by omega⟩ := by
  unfold shifted prior
  split
  · exact gate1_at X0 X1 X2 X3 X5 X6 X7 X8 X9 X10 _ n
  · exact hT _ n

/-- The tile's result: each row after the feed-forward block, its gates taken together with those of the two rows before it. -/
theorem out_at (T0 T1 : Vec Ideal S8x1536 .f32) (hT0 : ∀ a n, T0 (ix2 a n) = tail a ⟨n.val, by omega⟩)
    (hT1 : ∀ a n, T1 (ix2 a n) = tail a ⟨1536 + n.val, by omega⟩) (p : Fin 512) (j : Fin 1024) :
    out X0 X1 X2 X3 X5 X6 X7 X8 X9 X10 T0 T1 (ix2 p j)
      = second (weights X5 X6 X7 X8 X9 X10) (row X0 X1 X2 X3 (weights X5 X6 X7 X8 X9 X10) p) (down (weights X5 X6 X7 X8 X9 X10) (act (weights X5 X6 X7 X8 X9 X10) (prior tail (fun p => gates (weights X5 X6 X7 X8 X9 X10) (row X0 X1 X2 X3 (weights X5 X6 X7 X8 X9 X10) p)) 2 p) (prior tail (fun p => gates (weights X5 X6 X7 X8 X9 X10) (row X0 X1 X2 X3 (weights X5 X6 X7 X8 X9 X10) p)) 1 p)
          (gates (weights X5 X6 X7 X8 X9 X10) (row X0 X1 X2 X3 (weights X5 X6 X7 X8 X9 X10) p)) (values (weights X5 X6 X7 X8 X9 X10) (row X0 X1 X2 X3 (weights X5 X6 X7 X8 X9 X10) p)))) j := by
  refine (second_step _ _ _ _ _ p (down (weights X5 X6 X7 X8 X9 X10) (act (weights X5 X6 X7 X8 X9 X10) (prior tail (fun p => gates (weights X5 X6 X7 X8 X9 X10) (row X0 X1 X2 X3 (weights X5 X6 X7 X8 X9 X10) p)) 2 p) (prior tail (fun p => gates (weights X5 X6 X7 X8 X9 X10) (row X0 X1 X2 X3 (weights X5 X6 X7 X8 X9 X10) p)) 1 p)
          (gates (weights X5 X6 X7 X8 X9 X10) (row X0 X1 X2 X3 (weights X5 X6 X7 X8 X9 X10) p)) (values (weights X5 X6 X7 X8 X9 X10) (row X0 X1 X2 X3 (weights X5 X6 X7 X8 X9 X10) p)))) (fun j => ?_) j).trans ?_
  · rw [down_halves, act_step0]
    refine congrArg₂ (· + ·) ?_ ?_
    · refine Eq.trans (b := 0 + ∑ n : Fin 1536, _) (congrArg₂ (· + ·) ?_ (Finset.sum_congr rfl fun n _ => ?_)) (zero_add _)
      · pointwise [k0_pay7]
      · refine congrArg₂ (· * ·) (congrArg₂ (· * ·) (congrArg gelu (congrArg₂ (· + ·) ?_ ?_)) ?_) ?_
        · refine (conv_step0 (gate0 X0 X1 X2 X3 X5 X6 X7) T0 _ _ _ p n).trans ?_
          refine congrArg₂ (· + ·) (congrArg₂ (· + ·) (congrArg₂ (· * ·) ?_ ?_) (congrArg₂ (· * ·) ?_ ?_)) (congrArg₂ (· * ·) ?_ ?_)
          · exact shifted0 X0 X1 X2 X3 X5 X6 X7 X8 X9 X10 tail T0 hT0 2 p n
          · exact ld_at X8 _ _ _ _ _ (fun a => by fin_cases a <;> simp)
          · exact shifted0 X0 X1 X2 X3 X5 X6 X7 X8 X9 X10 tail T0 hT0 1 p n
          · exact ld_at X8 _ _ _ _ _ (fun a => by fin_cases a <;> simp)
          · exact gate0_at X0 X1 X2 X3 X5 X6 X7 X8 X9 X10 p n
          · exact ld_at X8 _ _ _ _ _ (fun a => by fin_cases a <;> simp)
        · pointwise [k0_pay17]
          rfl
        · exact value0_at X0 X1 X2 X3 X5 X6 X7 X8 X9 X10 p n
        · exact ld_at X10 _ _ _ _ _ (fun a => by fin_cases a <;> simp)
    · refine Finset.sum_congr rfl fun n _ => congrArg₂ (· * ·) ?_ ?_
      · refine (act_step1 _ _ _ _ _ _ _ _ p n).trans ?_
        refine congrArg₂ (· * ·) (congrArg gelu (congrArg₂ (· + ·) ?_ ?_)) ?_
        · refine congrArg₂ (· + ·) (congrArg₂ (· + ·) (congrArg₂ (· * ·) ?_ ?_) (congrArg₂ (· * ·) ?_ ?_)) (congrArg₂ (· * ·) ?_ ?_)
          · exact (shift_two _ T1 p n).trans (shifted1 X0 X1 X2 X3 X5 X6 X7 X8 X9 X10 tail T1 hT1 2 p n)
          · exact ld_at X8 _ _ _ _ _ (fun a => by fin_cases a <;> simp)
          · exact (shift_one _ T1 p n).trans (shifted1 X0 X1 X2 X3 X5 X6 X7 X8 X9 X10 tail T1 hT1 1 p n)
          · exact ld_at X8 _ _ _ _ _ (fun a => by fin_cases a <;> simp)
          · exact gate1_at X0 X1 X2 X3 X5 X6 X7 X8 X9 X10 p n
          · exact ld_at X8 _ _ _ _ _ (fun a => by fin_cases a <;> simp)
        · exact ld_at X9 _ _ _ _ _ (fun a => by fin_cases a <;> simp)
        · exact value1_at X0 X1 X2 X3 X5 X6 X7 X8 X9 X10 p n
      · exact ld_at X10 _ _ _ _ _ (fun a => by fin_cases a <;> simp)
  · unfold second
    refine congrArg₂ (· + ·) ?_ (congrArg₂ (· * ·) rfl ?_)
    · exact (first_step _ _ _ p j).trans (row_at X0 X1 X2 X3 X5 X6 X7 X8 X9 X10 p j)
    · exact ld_at X5 _ _ _ _ _ (fun a => by fin_cases a <;> simp)

end Cert.Proof.Post.Tile

end
-- ==== Proof.Post.Point.lean ====
/- What a grid point leaves: its block of the result, and the gates of its last eight rows for the next point and for the second result. -/
module

public import proofs.«01_k».proof.Proof.Post.Tile
public import Idealize.ShloMosaic.Lib.Pipeline.ReadBack
public import Idealize.ShloMosaic.Lib.Pipeline.ValueKit.Tiles

@[expose] public section

set_option maxRecDepth 16384

noncomputable section

namespace Cert.Proof.Post.Point

open Cert.PostIdeal Cert.PostIdeal.Gen Idealize.ShloMosaic Idealize.ShloMosaic.TcCoe Idealize.SL.Sem Cert.Proof.Post.Tile

variable (m : (ℓ : Loc nD τ sig) → Buf (Elt Ideal) ℓ) (c : Dev nD) (t : Fin cfg0.N)

/-- The weights the point's blocks hold. -/
abbrev wts : Weights := weights (iblk m c 5 t) (iblk m c 6 t) (iblk m c 7 t) (iblk m c 8 t) (iblk m c 9 t) (iblk m c 10 t)

/-- A row of the point's tile after the mixing. -/
abbrev rw' (p : Fin 512) : Fin 1024 → EReal := row (iblk m c 0 t) (iblk m c 1 t) (iblk m c 2 t) (iblk m c 3 t) (wts m c t) p

/-- The gates of the tile's last eight rows. -/
def lastRows (a : Fin 8) (n : Fin 3072) : EReal := gates (wts m c t) (rw' m c t ⟨504 + a.val, by omega⟩) n

/-- The block of the result at the first point of a stream, over the history. -/
theorem first_point (y : S512x1024.Idx) (h0 : t.val % 8 = 0) :
    (outsAt0 m c t.val t.isLt).1 y = out (iblk m c 0 t) (iblk m c 1 t) (iblk m c 2 t) (iblk m c 3 t) (iblk m c 5 t) (iblk m c 6 t) (iblk m c 7 t)
      (iblk m c 8 t) (iblk m c 9 t) (iblk m c 10 t)
      (View.ld (k0_pay6 (iblk m c 4 t)) (Rect.unit (s := S8x3072) ![0, 0] S8x1536.size inb_S8x3072_S8x1536_0_0))
      (View.ld (k0_pay6 (iblk m c 4 t)) (Rect.unit (s := S8x3072) ![0, 1536] S8x1536.size inb_S8x3072_S8x1536_0_1536)) y := by
  rw [outsAt0_A m c t h0]
  dsimp only
  frame_out
  refine congrFun (congrArg₂ (out (iblk m c 0 t) (iblk m c 1 t) (iblk m c 2 t) (iblk m c 3 t) (iblk m c 5 t) (iblk m c 6 t) (iblk m c 7 t)
      (iblk m c 8 t) (iblk m c 9 t) (iblk m c 10 t)) ?_ ?_) y
  · exact View.readCov_fill _ _ _ [] _ (fun a => by fin_cases a <;> rfl)
  · refine (View.readCov_skip _ _ _ _ _ (by decide)).trans ?_
    exact View.readCov_fill _ _ _ [] _ (fun a => by fin_cases a <;> rfl)

/-- The block of the result at a later point, over what the point before left. -/
theorem later_point (y : S512x1024.Idx) (h0 : ¬ t.val % 8 = 0) :
    (outsAt0 m c t.val t.isLt).1 y = out (iblk m c 0 t) (iblk m c 1 t) (iblk m c 2 t) (iblk m c 3 t) (iblk m c 5 t) (iblk m c 6 t) (iblk m c 7 t)
      (iblk m c 8 t) (iblk m c 9 t) (iblk m c 10 t)
      (View.ld (outsAt0 m c (t.val - 1) (Nat.lt_of_le_of_lt (Nat.sub_le _ _) t.isLt)).2.2 (Rect.unit (s := S8x3072) ![0, 0] S8x1536.size inb_S8x3072_S8x1536_0_0))
      (View.ld (outsAt0 m c (t.val - 1) (Nat.lt_of_le_of_lt (Nat.sub_le _ _) t.isLt)).2.2 (Rect.unit (s := S8x3072) ![0, 1536] S8x1536.size inb_S8x3072_S8x1536_0_1536)) y := by
  rw [outsAt0_B m c t h0]
  dsimp only
  frame_out
  refine congrFun (congrArg₂ (out (iblk m c 0 t) (iblk m c 1 t) (iblk m c 2 t) (iblk m c 3 t) (iblk m c 5 t) (iblk m c 6 t) (iblk m c 7 t)
      (iblk m c 8 t) (iblk m c 9 t) (iblk m c 10 t)) ?_ ?_) y
  · rw [read_unread_whole]
  · rw [read_unread_whole]

/-- The halves of a point's last eight gate rows. -/
theorem last0 (a : Fin 8) (n : Fin 1536) :
    gate0 (iblk m c 0 t) (iblk m c 1 t) (iblk m c 2 t) (iblk m c 3 t) (iblk m c 5 t) (iblk m c 6 t) (iblk m c 7 t) (ix2 (⟨504 + a.val, by omega⟩ : Fin 512) n)
      = lastRows m c t a ⟨n.val, by omega⟩ :=
  gate0_at (iblk m c 0 t) (iblk m c 1 t) (iblk m c 2 t) (iblk m c 3 t) (iblk m c 5 t) (iblk m c 6 t) (iblk m c 7 t) (iblk m c 8 t) (iblk m c 9 t) (iblk m c 10 t) _ n

theorem last1 (a : Fin 8) (n : Fin 1536) :
    gate1 (iblk m c 0 t) (iblk m c 1 t) (iblk m c 2 t) (iblk m c 3 t) (iblk m c 5 t) (iblk m c 6 t) (iblk m c 7 t) (ix2 (⟨504 + a.val, by omega⟩ : Fin 512) n)
      = lastRows m c t a ⟨1536 + n.val, by omega⟩ :=
  gate1_at (iblk m c 0 t) (iblk m c 1 t) (iblk m c 2 t) (iblk m c 3 t) (iblk m c 5 t) (iblk m c 6 t) (iblk m c 7 t) (iblk m c 8 t) (iblk m c 9 t) (iblk m c 10 t) _ n

/-- The second half is stored to the right of the first. -/
theorem part1 (x : S8x1536.Idx) :
    k0_pay24 (gate1 (iblk m c 0 t) (iblk m c 1 t) (iblk m c 2 t) (iblk m c 3 t) (iblk m c 5 t) (iblk m c 6 t) (iblk m c 7 t)) x
      = (fun y : S8x3072.Idx => lastRows m c t (y 0) (y 1)) ((Rect.unit (s := S8x3072) ![0, 1536] ![8, 1536] inb_S8x3072_S8x1536_0_1536).emb x) := by
  obtain ⟨a, n, rfl⟩ : ∃ (a : Fin 8) (n : Fin 1536), x = ix2 a n := ⟨x 0, x 1, eq_ix2 x⟩
  have e := last1 m c t a n
  generalize gate1 (iblk m c 0 t) (iblk m c 1 t) (iblk m c 2 t) (iblk m c 3 t) (iblk m c 5 t) (iblk m c 6 t) (iblk m c 7 t) = G at e
  pointwise [k0_pay24]
  refine e.trans (congrArg₂ (lastRows m c t) (Fin.ext ?_) (Fin.ext ?_))
  · exact (Nat.zero_add a.val).symm.trans (Rect.idx_unit_val (s := S8x3072) ![0, 1536] ![8, 1536] inb_S8x3072_S8x1536_0_1536 (ix2 a n) 0).symm
  · exact (Rect.idx_unit_val (s := S8x3072) ![0, 1536] ![8, 1536] inb_S8x3072_S8x1536_0_1536 (ix2 a n) 1).symm

theorem part0 (x : S8x1536.Idx) :
    k0_pay15 (gate0 (iblk m c 0 t) (iblk m c 1 t) (iblk m c 2 t) (iblk m c 3 t) (iblk m c 5 t) (iblk m c 6 t) (iblk m c 7 t)) x
      = (fun y : S8x3072.Idx => lastRows m c t (y 0) (y 1)) ((Rect.unit (s := S8x3072) ![0, 0] ![8, 1536] inb_S8x3072_S8x1536_0_0).emb x) := by
  obtain ⟨a, n, rfl⟩ : ∃ (a : Fin 8) (n : Fin 1536), x = ix2 a n := ⟨x 0, x 1, eq_ix2 x⟩
  have e := last0 m c t a n
  generalize gate0 (iblk m c 0 t) (iblk m c 1 t) (iblk m c 2 t) (iblk m c 3 t) (iblk m c 5 t) (iblk m c 6 t) (iblk m c 7 t) = G at e
  pointwise [k0_pay15]
  refine e.trans (congrArg₂ (lastRows m c t) (Fin.ext ?_) (Fin.ext ?_))
  · exact (Nat.zero_add a.val).symm.trans (Rect.idx_unit_val (s := S8x3072) ![0, 0] ![8, 1536] inb_S8x3072_S8x1536_0_0 (ix2 a n) 0).symm
  · exact (Nat.zero_add n.val).symm.trans (Rect.idx_unit_val (s := S8x3072) ![0, 0] ![8, 1536] inb_S8x3072_S8x1536_0_0 (ix2 a n) 1).symm

/-- Two stores that are parts of one array, over an earlier store, leave that array wherever they cover. -/
theorem two_over_one {S : Shape} (G : S.Idx → EReal) (p1 p2 p3 : View.Piece (Elt Ideal) S .f32) (y : S.Idx)
    (h1 : ∀ x, p1.2 x = G (p1.1.emb x)) (h2 : ∀ x, p2.2 x = G (p2.1.emb x)) (hc : ∃ p ∈ [p1, p2], y ∈ p.1.set) :
    View.canon (Val := Elt Ideal) (e := .f32) [p1, p2, p3] y = G y :=
  View.canon_append_of_piecesOf (Val := Elt Ideal) (e := .f32) G [p3] [p1, p2] ⟨h1, h2, trivial⟩ y hc

/-- What a point carries to the next one. -/
theorem carried (y : S8x3072.Idx) : (outsAt0 m c t.val t.isLt).2.2 y = lastRows m c t (y 0) (y 1) := by
  by_cases h0 : t.val % 8 = 0
  · rw [outsAt0_A m c t h0]
    dsimp only
    frame_out
    refine two_over_one (S := S8x3072) (fun y : S8x3072.Idx => lastRows m c t (y 0) (y 1)) _ _ _ y (part1 m c t) (part0 m c t) ?_
    exact View.cover_of_tiledL (s := S8x3072) _ ![8, 1536] (by sl_kernel_rfl) y
  · rw [outsAt0_B m c t h0]
    dsimp only
    frame_out
    refine (congrFun (congrArg View.canon (List.append_nil _).symm) y).trans ?_
    refine View.canon_append_of_piecesOf (Val := Elt Ideal) (e := .f32) (fun y : S8x3072.Idx => lastRows m c t (y 0) (y 1)) [] _ ?_ y ?_
    · exact ⟨part1 m c t, part0 m c t, trivial⟩
    · exact View.cover_of_tiledL (s := S8x3072) _ ![8, 1536] (by sl_kernel_rfl) y

theorem piece1 (x : S1x8x1536.Idx) :
    k0_pay23 (k0_pay22 (gate1 (iblk m c 0 t) (iblk m c 1 t) (iblk m c 2 t) (iblk m c 3 t) (iblk m c 5 t) (iblk m c 6 t) (iblk m c 7 t))) x
      = (fun y : S1x8x3072.Idx => lastRows m c t (y 1) (y 2)) ((Rect.unit (s := S1x8x3072) ![0, 0, 1536] ![1, 8, 1536] inb_S1x8x3072_S1x8x1536_0_0_1536).emb x) := by
  obtain ⟨a, n, rfl⟩ : ∃ (a : Fin 8) (n : Fin 1536), x = ix3 (0 : Fin 1) a n :=
    ⟨x 1, x 2, (eq_ix3 x).trans (congrArg (fun z : Fin 1 => (ix3 z (x 1 : Fin 8) (x 2 : Fin 1536) : S1x8x1536.Idx)) (Fin.ext (by have h : (x 0).val < 1 := (x 0).isLt; simp only [Fin.val_zero]; omega) : (x 0 : Fin 1) = (0 : Fin 1)))⟩
  have e := last1 m c t a n
  generalize gate1 (iblk m c 0 t) (iblk m c 1 t) (iblk m c 2 t) (iblk m c 3 t) (iblk m c 5 t) (iblk m c 6 t) (iblk m c 7 t) = G at e
  pointwise [k0_pay23, k0_pay22]
  refine e.trans (congrArg₂ (lastRows m c t) (Fin.ext ?_) (Fin.ext ?_))
  · exact (Nat.zero_add a.val).symm.trans (Rect.idx_unit_val (s := S1x8x3072) ![0, 0, 1536] ![1, 8, 1536] inb_S1x8x3072_S1x8x1536_0_0_1536 (ix3 (0 : Fin 1) a n) 1).symm
  · exact (Rect.idx_unit_val (s := S1x8x3072) ![0, 0, 1536] ![1, 8, 1536] inb_S1x8x3072_S1x8x1536_0_0_1536 (ix3 (0 : Fin 1) a n) 2).symm

theorem piece0 (x : S1x8x1536.Idx) :
    k0_pay14 (gate0 (iblk m c 0 t) (iblk m c 1 t) (iblk m c 2 t) (iblk m c 3 t) (iblk m c 5 t) (iblk m c 6 t) (iblk m c 7 t)) x
      = (fun y : S1x8x3072.Idx => lastRows m c t (y 1) (y 2)) ((Rect.unit (s := S1x8x3072) ![0, 0, 0] ![1, 8, 1536] inb_S1x8x3072_S1x8x1536_0_0_0).emb x) := by
  obtain ⟨a, n, rfl⟩ : ∃ (a : Fin 8) (n : Fin 1536), x = ix3 (0 : Fin 1) a n :=
    ⟨x 1, x 2, (eq_ix3 x).trans (congrArg (fun z : Fin 1 => (ix3 z (x 1 : Fin 8) (x 2 : Fin 1536) : S1x8x1536.Idx)) (Fin.ext (by have h : (x 0).val < 1 := (x 0).isLt; simp only [Fin.val_zero]; omega) : (x 0 : Fin 1) = (0 : Fin 1)))⟩
  have e := last0 m c t a n
  generalize gate0 (iblk m c 0 t) (iblk m c 1 t) (iblk m c 2 t) (iblk m c 3 t) (iblk m c 5 t) (iblk m c 6 t) (iblk m c 7 t) = G at e
  pointwise [k0_pay14]
  refine e.trans (congrArg₂ (lastRows m c t) (Fin.ext ?_) (Fin.ext ?_))
  · exact (Nat.zero_add a.val).symm.trans (Rect.idx_unit_val (s := S1x8x3072) ![0, 0, 0] ![1, 8, 1536] inb_S1x8x3072_S1x8x1536_0_0_0 (ix3 (0 : Fin 1) a n) 1).symm
  · exact (Nat.zero_add n.val).symm.trans (Rect.idx_unit_val (s := S1x8x3072) ![0, 0, 0] ![1, 8, 1536] inb_S1x8x3072_S1x8x1536_0_0_0 (ix3 (0 : Fin 1) a n) 2).symm

/-- What a later point leaves in its block of the second result. -/
theorem second_block (y : S1x8x3072.Idx) (h0 : ¬ t.val % 8 = 0) : (outsAt0 m c t.val t.isLt).2.1 y = lastRows m c t (y 1) (y 2) := by
  rw [outsAt0_B m c t h0]
  dsimp only
  frame_out
  refine (congrFun (congrArg View.canon (List.append_nil _).symm) y).trans ?_
  refine View.canon_append_of_piecesOf (Val := Elt Ideal) (e := .f32) (fun y : S1x8x3072.Idx => lastRows m c t (y 1) (y 2)) [] _ ?_ y ?_
  · exact ⟨piece1 m c t, piece0 m c t, trivial⟩
  · exact View.cover_of_tiledL (s := S1x8x3072) _ ![1, 8, 1536] (by sl_kernel_rfl) y

/-- The history's rows, or the last rows of the tile before. -/
def tail (a : Fin 8) (n : Fin 3072) : EReal :=
  if t.val % 8 = 0 then iblk m c 4 t (ix3 (0 : Fin 1) a n)
  else lastRows m c ⟨t.val - 1, Nat.lt_of_le_of_lt (Nat.sub_le _ _) t.isLt⟩ a n

/-- The block of the result over any rows before the tile. -/
theorem over_tail (T0 T1 : Vec Ideal S8x1536 .f32) (tl : Fin 8 → Fin 3072 → EReal) (hT0 : ∀ a n, T0 (ix2 a n) = tl a ⟨n.val, by omega⟩)
    (hT1 : ∀ a n, T1 (ix2 a n) = tl a ⟨1536 + n.val, by omega⟩) (p : Fin 512) (j : Fin 1024) :
    out (iblk m c 0 t) (iblk m c 1 t) (iblk m c 2 t) (iblk m c 3 t) (iblk m c 5 t) (iblk m c 6 t) (iblk m c 7 t)
        (iblk m c 8 t) (iblk m c 9 t) (iblk m c 10 t) T0 T1 (ix2 p j)
      = second (wts m c t) (rw' m c t p) (down (wts m c t) (act (wts m c t) (prior tl (fun p => gates (wts m c t) (rw' m c t p)) 2 p)
          (prior tl (fun p => gates (wts m c t) (rw' m c t p)) 1 p) (gates (wts m c t) (rw' m c t p)) (values (wts m c t) (rw' m c t p)))) j :=
  out_at (iblk m c 0 t) (iblk m c 1 t) (iblk m c 2 t) (iblk m c 3 t) (iblk m c 5 t) (iblk m c 6 t) (iblk m c 7 t) (iblk m c 8 t) (iblk m c 9 t)
    (iblk m c 10 t) tl T0 T1 hT0 hT1 p j

/-- The block of the result at any point. -/
theorem result_block (p : Fin 512) (j : Fin 1024) :
    (outsAt0 m c t.val t.isLt).1 (ix2 p j)
      = second (wts m c t) (rw' m c t p) (down (wts m c t) (act (wts m c t) (prior (tail m c t) (fun p => gates (wts m c t) (rw' m c t p)) 2 p)
          (prior (tail m c t) (fun p => gates (wts m c t) (rw' m c t p)) 1 p) (gates (wts m c t) (rw' m c t p)) (values (wts m c t) (rw' m c t p)))) j := by
  by_cases h0 : t.val % 8 = 0
  · refine (first_point m c t _ h0).trans ?_
    have e : ∀ a n, k0_pay6 (iblk m c 4 t) (ix2 a n) = tail m c t a n := by
      intro a n
      unfold tail
      rw [if_pos h0]
      generalize iblk m c 4 t = X
      pointwise [k0_pay6]
    refine over_tail m c t _ _ (tail m c t) (fun a n => ?_) (fun a n => ?_) p j
    · exact (ld_at (S := S8x3072) (e := .f32) (k0_pay6 (iblk m c 4 t)) ![0, 0] S8x1536.size inb_S8x3072_S8x1536_0_0 (ix2 a n) (ix2 a (⟨n.val, by omega⟩ : Fin 3072)) (fun a => by fin_cases a <;> simp)).trans (e _ _)
    · exact (ld_at (S := S8x3072) (e := .f32) (k0_pay6 (iblk m c 4 t)) ![0, 1536] S8x1536.size inb_S8x3072_S8x1536_0_1536 (ix2 a n) (ix2 a (⟨1536 + n.val, by omega⟩ : Fin 3072)) (fun a => by fin_cases a <;> simp)).trans (e _ _)
  · refine (later_point m c t _ h0).trans ?_
    have e : ∀ a n, (outsAt0 m c (t.val - 1) (Nat.lt_of_le_of_lt (Nat.sub_le _ _) t.isLt)).2.2 (ix2 a n) = tail m c t a n := by
      intro a n
      unfold tail
      rw [if_neg h0]
      exact carried m c ⟨t.val - 1, Nat.lt_of_le_of_lt (Nat.sub_le _ _) t.isLt⟩ (ix2 a n)
    refine over_tail m c t _ _ (tail m c t) (fun a n => ?_) (fun a n => ?_) p j
    · exact (ld_at (S := S8x3072) (e := .f32) (outsAt0 m c (t.val - 1) (Nat.lt_of_le_of_lt (Nat.sub_le _ _) t.isLt)).2.2 ![0, 0] S8x1536.size inb_S8x3072_S8x1536_0_0 (ix2 a n) (ix2 a (⟨n.val, by omega⟩ : Fin 3072)) (fun a => by fin_cases a <;> simp)).trans (e _ _)
    · exact (ld_at (S := S8x3072) (e := .f32) (outsAt0 m c (t.val - 1) (Nat.lt_of_le_of_lt (Nat.sub_le _ _) t.isLt)).2.2 ![0, 1536] S8x1536.size inb_S8x3072_S8x1536_0_1536 (ix2 a n) (ix2 a (⟨1536 + n.val, by omega⟩ : Fin 3072)) (fun a => by fin_cases a <;> simp)).trans (e _ _)

end Cert.Proof.Post.Point

end
-- ==== Proof.Post.Array.lean ====
/- The two arrays the kernel leaves: the layer step of the arguments. -/
module

public import proofs.«01_k».proof.Proof.Post.Point
public import proofs.«01_k».proof.Proof.Post.Layer
public import Idealize.ShloMosaic.Lib.StableHlo.ReadAt
public import Idealize.ShloMosaic.Lib.Pipeline.ValueKit.Point

@[expose] public section

set_option maxRecDepth 16384

noncomputable section

namespace Cert.Proof.Post.Array

open Cert.PostIdeal Cert.PostIdeal.Gen Idealize.ShloMosaic Idealize.ShloMosaic.TcCoe Idealize.SL.Sem Cert.Proof.Post.Tile Cert.Proof.Post.Point

/-- The step's arguments as arrays of numbers. -/
def argsOf (a0 : Vec Ideal S16384x1024 .f32) (a1 : Vec Ideal S16384x256 .bf16) (a2 : Vec Ideal S16384x512 .bf16) (a3 : Vec Ideal S16384x256 .bf16)
    (a4 : Vec Ideal S4x8x3072 .f32) (a5 : Vec Ideal S4x1024 .f32) (a6 : Vec Ideal S4x1024x1024 .f32) (a7 : Vec Ideal S4x1024x6144 .f32)
    (a8 : Vec Ideal S3x3072 .f32) (a9 : Vec Ideal S3072 .f32) (a10 : Vec Ideal S4x3072x1024 .f32) : Args where
  x r j := a0 (ix2 r j)
  of r k := a1 (ix2 r k)
  ol r k := a2 (ix2 r k)
  ob r k := a3 (ix2 r k)
  hg b a n := a4 (ix3 b a n)
  w := { mix := fun k j => a6 (ix3 (0 : Fin 4) k j), up := fun k n => a7 (ix3 (0 : Fin 4) k n), down := fun n j => a10 (ix3 (0 : Fin 4) n j),
         g1 := fun j => a5 (ix2 (1 : Fin 4) j), g2 := fun j => a5 (ix2 (2 : Fin 4) j), g3 := fun j => a5 (ix2 (3 : Fin 4) j),
         conv := fun k n => a8 (ix2 k n), bias := fun n => a9 (ix1 n) }

variable (m : (ℓ : Loc nD τ sig) → Buf (Elt Ideal) ℓ) (c : Dev nD) (t : Fin cfg0.N)

/-- The program's arguments. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

/-! ## What the host steps before the kernel hand to it -/

theorem bias_row (n : Fin 3072) : V m c main_v0 (ix2 (0 : Fin 1) n) = (args m c).w.bias n := by
  unfold V
  after_reads_at
  rfl

theorem mix_matrix (l : Fin 4) (k j : Fin 1024) : V m c main_v1 (ix3 l k j) = m ((c : Thread nD τ).loc main_arg6) (ix3 l k j) := by
  unfold V
  after_reads_at

theorem up_matrix (l : Fin 4) (k : Fin 1024) (n : Fin 6144) : V m c main_v2 (ix3 l k n) = m ((c : Thread nD τ).loc main_arg7) (ix3 l k n) := by
  unfold V
  after_reads_at

theorem down_matrix (l : Fin 4) (n : Fin 3072) (j : Fin 1024) : V m c main_v3 (ix3 l n j) = m ((c : Thread nD τ).loc main_arg10) (ix3 l n j) := by
  unfold V
  after_reads_at

/-! ## The blocks of a grid point -/

/-- The block index of each window at a grid point. -/
theorem index : ∀ t : Fin cfg0.N, win0_0.index t = ![t.val, 0] ∧ win0_1.index t = ![t.val, 0] ∧ win0_2.index t = ![t.val, 0]
    ∧ win0_3.index t = ![t.val, 0] ∧ win0_4.index t = ![t.val / 8, 0, 0] ∧ win0_5.index t = ![0, 0] ∧ win0_6.index t = ![0, 0, 0]
    ∧ win0_7.index t = ![0, 0, 0] ∧ win0_8.index t = ![0, 0] ∧ win0_9.index t = ![0, 0] ∧ win0_10.index t = ![0, 0, 0]
    ∧ win0_11.index t = ![t.val, 0] ∧ win0_12.index t = ![t.val / 8, 0, 0] := by decide +kernel

theorem points : cfg0.N = 32 := by decide +kernel

/-- The stream a grid point belongs to. -/
def stream : Fin 4 := ⟨t.val / 8, by have := t.isLt; have e := points; omega⟩

/-- The row of the arrays that is row `p` of the point's blocks. -/
def at' (p : Fin 512) : Fin 16384 := ⟨512 * t.val + p.val, by have := t.isLt; have e := points; omega⟩

theorem block_x (p : Fin 512) (j : Fin 1024) : iblk m c 0 t (ix2 p j) = V m c main_arg0 (ix2 (at' t p) j) := by
  unfold at'
  blk_ext [iblk, (index t).1]

theorem block_of (p : Fin 512) (j : Fin 256) : iblk m c 1 t (ix2 p j) = V m c main_arg1 (ix2 (at' t p) j) := by
  unfold at'
  blk_ext [iblk, (index t).2.1]

theorem block_ol (p : Fin 512) (j : Fin 512) : iblk m c 2 t (ix2 p j) = V m c main_arg2 (ix2 (at' t p) j) := by
  unfold at'
  blk_ext [iblk, (index t).2.2.1]

theorem block_ob (p : Fin 512) (j : Fin 256) : iblk m c 3 t (ix2 p j) = V m c main_arg3 (ix2 (at' t p) j) := by
  unfold at'
  blk_ext [iblk, (index t).2.2.2.1]

theorem block_hg (a : Fin 8) (n : Fin 3072) : iblk m c 4 t (ix3 (0 : Fin 1) a n)
    = V m c main_arg4 (ix3 (stream t) a n) := by
  unfold stream
  blk_ext [iblk, (index t).2.2.2.2.1]

theorem block_g (a : Fin 4) (j : Fin 1024) : iblk m c 5 t (ix2 a j) = V m c main_arg5 (ix2 a j) := by
  blk_ext [iblk, (index t).2.2.2.2.2.1]

theorem block_mix (k j : Fin 1024) : iblk m c 6 t (ix3 (0 : Fin 1) k j) = V m c main_v1 (ix3 (0 : Fin 4) k j) := by
  blk_ext [iblk, (index t).2.2.2.2.2.2.1]

theorem block_up (k : Fin 1024) (n : Fin 6144) : iblk m c 7 t (ix3 (0 : Fin 1) k n) = V m c main_v2 (ix3 (0 : Fin 4) k n) := by
  blk_ext [iblk, (index t).2.2.2.2.2.2.2.1]

theorem block_conv (k : Fin 3) (n : Fin 3072) : iblk m c 8 t (ix2 k n) = V m c main_arg8 (ix2 k n) := by
  blk_ext [iblk, (index t).2.2.2.2.2.2.2.2.1]

theorem block_bias (n : Fin 3072) : iblk m c 9 t (ix2 (0 : Fin 1) n) = V m c main_v0 (ix2 (0 : Fin 1) n) := by
  blk_ext [iblk, (index t).2.2.2.2.2.2.2.2.2.1]

theorem block_down (n : Fin 3072) (j : Fin 1024) : iblk m c 10 t (ix3 (0 : Fin 1) n j) = V m c main_v3 (ix3 (0 : Fin 4) n j) := by
  blk_ext [iblk, (index t).2.2.2.2.2.2.2.2.2.2.1]

/-- Every point holds the same weights, the arguments'. -/
theorem weights_eq : wts m c t = (args m c).w := by
  refine Weights.ext ?_ ?_ ?_ ?_ ?_ ?_ ?_ ?_
  · exact funext fun k => funext fun j => (block_mix m c t k j).trans (mix_matrix m c 0 k j)
  · exact funext fun k => funext fun n => (block_up m c t k n).trans (up_matrix m c 0 k n)
  · exact funext fun n => funext fun j => (block_down m c t n j).trans (down_matrix m c 0 n j)
  · exact funext fun j => block_g m c t 1 j
  · exact funext fun j => block_g m c t 2 j
  · exact funext fun j => block_g m c t 3 j
  · exact funext fun k => funext fun n => block_conv m c t k n
  · exact funext fun n => (block_bias m c t n).trans (bias_row m c n)

/-- A row of a tile is a row of the whole. -/
theorem row_eq (p : Fin 512) : rw' m c t p = (args m c).row (at' t p) := by
  unfold rw' Args.row row
  rw [weights_eq]
  simp only [block_x, block_of, block_ol, block_ob]
  rfl

theorem gate_eq (p : Fin 512) (n : Fin 3072) : gates (wts m c t) (rw' m c t p) n = (args m c).gate (at' t p) n := by
  rw [weights_eq, row_eq]
  rfl

/-- The rows before a tile are the history at the front of a stream, else the end of the tile before. -/
theorem prior_eq (d : Fin 8) (p : Fin 512) (n : Fin 3072) :
    prior (tail m c t) (fun p => gates (wts m c t) (rw' m c t p)) d p n = (args m c).before d (at' t p) n := by
  have ht := t.isLt
  have e := points
  have hd := d.isLt
  unfold prior Args.before
  by_cases h : d.val ≤ p.val
  · refine (dif_pos h).trans ?_
    symm
    refine (if_pos (by simp only [at']; omega)).trans ?_
    symm
    refine (gate_eq m c t _ n).trans ?_
    exact congrArg (fun z => (args m c).gate z n) (Fin.ext (by simp only [at']; omega))
  · refine (dif_neg h).trans ?_
    unfold tail
    by_cases h0 : t.val % 8 = 0
    · refine (if_pos h0).trans ?_
      symm
      refine (if_neg (by simp only [at']; omega)).trans ?_
      symm
      rw [block_hg]
      refine Eq.trans (b := (args m c).hg (stream t) (⟨8 + p.val - d.val, by omega⟩ : Fin 8) n) rfl ?_
      refine congrArg₂ (fun b a => (args m c).hg b a n) (Fin.ext (by simp only [at', stream]; omega)) (Fin.ext ?_)
      simp only [at', Fin.ofNat]
      omega
    · refine (if_neg h0).trans ?_
      symm
      refine (if_pos (by simp only [at']; omega)).trans ?_
      symm
      unfold lastRows
      refine (gate_eq m c _ _ n).trans ?_
      exact congrArg (fun z => (args m c).gate z n) (Fin.ext (by simp only [at']; omega))

/-- A point's block of the first result. -/
theorem block_result (p : Fin 512) (j : Fin 1024) : (outsAt0 m c t.val t.isLt).1 (ix2 p j) = (args m c).result (at' t p) j := by
  rw [result_block]
  have e2 : prior (tail m c t) (fun p => gates (wts m c t) (rw' m c t p)) 2 p = (args m c).before 2 (at' t p) := funext (prior_eq m c t 2 p)
  have e1 : prior (tail m c t) (fun p => gates (wts m c t) (rw' m c t p)) 1 p = (args m c).before 1 (at' t p) := funext (prior_eq m c t 1 p)
  have e0 : gates (wts m c t) (rw' m c t p) = (args m c).gate (at' t p) := funext (gate_eq m c t p)
  rw [e2, e1, e0, weights_eq, row_eq]
  rfl

/-- A point's block of the second result. -/
theorem block_last (a : Fin 8) (n : Fin 3072) (h7 : t.val % 8 = 7) :
    lastRows m c t a n = (args m c).last (stream t) a n := by
  unfold lastRows Args.last
  refine (gate_eq m c t _ n).trans ?_
  exact congrArg (fun z => (args m c).gate z n) (Fin.ext (by simp only [at', stream]; omega))

/-! ## The arrays after the run -/

def resultArray (A : Args) : S16384x1024.Idx → EReal := fun y => A.result (y 0) (y 1)
def lastArray (A : Args) : S4x8x3072.Idx → EReal := fun y => A.last (y 0) (y 1) (y 2)

theorem final_result : (dats m 0 c).arrAt 11 cfg0.N = resultArray (args m c) := by
  refine (dats m 0 c).arrAt_eq_of_covers 11 _ (by decide +kernel) fun t hf y => ?_
  blk_simp
  rw [after0_11]
  obtain ⟨p, j, rfl⟩ : ∃ (p : Fin 512) (j : Fin 1024), y = ix2 p j := ⟨y 0, y 1, eq_ix2 y⟩
  refine (block_result m c t p j).trans ?_
  have e0 : (((win0_11.blk t).view.emb (ix2 p j) 0).val : ℕ) = t.val * 512 + p.val := by
    refine (Pipeline.Window.rect_emb_val win0_11 t (ix2 p j) 0).trans ?_
    rw [(index t).2.2.2.2.2.2.2.2.2.2.2.1]; rfl
  have e1 : (((win0_11.blk t).view.emb (ix2 p j) 1).val : ℕ) = j.val := by
    refine (Pipeline.Window.rect_emb_val win0_11 t (ix2 p j) 1).trans ?_
    rw [(index t).2.2.2.2.2.2.2.2.2.2.2.1]; simp
  unfold resultArray
  refine congrArg₂ (args m c).result (Fin.ext ?_) (Fin.ext e1.symm)
  rw [e0]
  simp only [at']
  omega

theorem final_last : (dats m 0 c).arrAt 12 cfg0.N = lastArray (args m c) := by
  refine (dats m 0 c).arrAt_eq_of_covers 12 _ (by decide +kernel) fun t hf y => ?_
  have h7 : t.val % 8 = 7 := (by decide +kernel : ∀ t : Fin cfg0.N, (cfg0.win 12).flush t = true → t.val % 8 = 7) t hf
  blk_simp
  rw [after0_12]
  refine (second_block m c t y (by omega)).trans ((block_last m c t _ _ h7).trans ?_)
  have e0 : (((win0_12.blk t).view.emb y 0).val : ℕ) = t.val / 8 := by
    refine (Pipeline.Window.rect_emb_val win0_12 t y 0).trans ?_
    rw [(index t).2.2.2.2.2.2.2.2.2.2.2.2]
    have hy : (y 0).val < 1 := (y 0).isLt
    show t.val / 8 * 1 + (y 0).val = t.val / 8
    omega
  have e1 : (((win0_12.blk t).view.emb y 1).val : ℕ) = (y 1).val := by
    refine (Pipeline.Window.rect_emb_val win0_12 t y 1).trans ?_
    rw [(index t).2.2.2.2.2.2.2.2.2.2.2.2]; simp
  have e2 : (((win0_12.blk t).view.emb y 2).val : ℕ) = (y 2).val := by
    refine (Pipeline.Window.rect_emb_val win0_12 t y 2).trans ?_
    rw [(index t).2.2.2.2.2.2.2.2.2.2.2.2]; simp
  unfold lastArray
  have f0 : stream t = (win0_12.blk t).view.emb y 0 := Fin.ext e0.symm
  have f1 : (y 1 : Fin 8) = (win0_12.blk t).view.emb y 1 := Fin.ext e1.symm
  have f2 : (y 2 : Fin 3072) = (win0_12.blk t).view.emb y 2 := Fin.ext e2.symm
  exact congr (congrArg₂ (args m c).last f0 f1) f2

end Cert.Proof.Post.Array

end
-- ==== Proof.Post.Claims.lean ====
/- The claims about the output mixing and the feed-forward block: the frames, and that the idealized kernel and the reference leave equal results. -/
module

public import proofs.«01_k».proof.Defs
public import proofs.«01_k».proof.Proof.Gen.Post.Frame
public import proofs.«01_k».proof.Proof.Gen.PostIdeal.Value
public import proofs.«01_k».proof.Proof.Gen.PostRefIdeal.Run
public import proofs.«01_k».proof.Proof.Post.Ref
public import proofs.«01_k».proof.Proof.Post.Array

@[expose] public section

set_option maxRecDepth 16384

noncomputable section

namespace Cert.Proof.Post

open Idealize.ShloMosaic Idealize.ShloMosaic.StableHlo Idealize.ShloMosaic.TcCoe Idealize.SL.Sem

theorem frame_kernel : Cert.quiescent_Post := fun m ρ _ => Cert.Post.Gen.frame m ρ

theorem frame_ideal : Cert.quiescent_PostIdeal := fun m ρ _ => Cert.PostIdeal.Gen.frame m ρ

/-- The reference runs, leaves its arguments unchanged, and has no semaphore. -/
theorem frame_reference : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

/-- The reference's first result is the layer step's. -/
theorem reference_result (x0 x1 x2 x3 x4 x5 x6 x7 x8 x9 x10) :
    Cert.PostRefIdeal.Read.val_main_v100 (F := Ideal) x0 x1 x2 x3 x4 x5 x6 x7 x8 x9 x10
      = Array.resultArray (Array.argsOf x0 x1 x2 x3 x4 x5 x6 x7 x8 x9 x10) := by
  funext y
  obtain ⟨r, j, rfl⟩ : ∃ (r : Fin 16384) (j : Fin 1024), y = ix2 r j := ⟨y 0, y 1, eq_ix2 y⟩
  exact Ref.result x0 x1 x2 x3 x4 x5 x6 x7 x8 x9 x10 r j

/-- The reference's second result is the layer step's. -/
theorem reference_last (x0 x1 x2 x3 x4 x5 x6 x7 x8 x9 x10) :
    Cert.PostRefIdeal.Read.val_main_v101 (F := Ideal) x0 x1 x2 x3 x4 x5 x6 x7
      = Array.lastArray (Array.argsOf x0 x1 x2 x3 x4 x5 x6 x7 x8 x9 x10) := by
  funext y
  obtain ⟨b, a, n, rfl⟩ : ∃ (b : Fin 4) (a : Fin 8) (n : Fin 3072), y = ix3 b a n := ⟨y 0, y 1, y 2, eq_ix3 y⟩
  exact Ref.last x0 x1 x2 x3 x4 x5 x6 x7 x8 x9 x10 b a n

/-- Equal arrays make the same arguments of the layer step. -/
theorem args_congr {x0 x1 x2 x3 x4 x5 x6 x7 x8 x9 x10 y0 y1 y2 y3 y4 y5 y6 y7 y8 y9 y10} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    Array.argsOf x0 x1 x2 x3 x4 x5 x6 x7 x8 x9 x10 = Array.argsOf y0 y1 y2 y3 y4 y5 y6 y7 y8 y9 y10 := by
  subst h0 h1 h2 h3 h4 h5 h6 h7 h8 h9 h10
  rfl

/-- The idealized kernel and the reference leave the same two arrays. -/
theorem equal : Cert.algebraic_PostIdeal_PostRefIdeal := by
  intro m g m' g' _ ha
  refine ⟨fun c => Array.resultArray (Array.args m c), fun c => Array.lastArray (Array.args m c), ?_, ?_⟩
  · refine (θ_run Cert.PostIdeal.defs _ _).mono (fun r h c => ?_) (Cert.PostIdeal.Value.run_blocks (F := Ideal) m g)
    exact ⟨(h c).1.trans (Array.final_result m c), (h c).2.1.trans (Array.final_last m c), (h c).2.2⟩
  · refine (θ_run Cert.PostRefIdeal.defs _ _).mono (fun r h c => ?_) (Cert.PostRefIdeal.Value.run (F := Ideal) m' g')
    obtain ⟨h0, h1, h2, h3, h4, h5, h6, h7, h8, h9, h10⟩ := ha c
    have hr := (h c).1.trans (Cert.PostRefIdeal.Read.val_main_v100_eq (launchContents m' c))
    have hl := (h c).2.1.trans (Cert.PostRefIdeal.Read.val_main_v101_eq (launchContents m' c))
    refine ⟨hr.trans ?_, hl.trans ?_, (h c).2.2⟩
    · refine (reference_result _ _ _ _ _ _ _ _ _ _ _).trans (congrArg Array.resultArray ?_)
      exact args_congr h0 h1 h2 h3 h4 h5 h6 h7 h8 h9 h10
    · refine (reference_last _ _ _ _ _ _ _ _ (m' ((c.tc : Thread Cert.PostRefIdeal.nD Cert.PostRefIdeal.τ).loc Cert.PostRefIdeal.main_arg8))
        (m' ((c.tc : Thread Cert.PostRefIdeal.nD Cert.PostRefIdeal.τ).loc Cert.PostRefIdeal.main_arg9))
        (m' ((c.tc : Thread Cert.PostRefIdeal.nD Cert.PostRefIdeal.τ).loc Cert.PostRefIdeal.main_arg10))).trans (congrArg Array.lastArray ?_)
      exact args_congr h0 h1 h2 h3 h4 h5 h6 h7 h8 h9 h10

end Cert.Proof.Post

end
-- ==== Proof.PreS.Spec.lean ====
/- The layer's projection of the sample's rows and the parts of it that the layer keeps as state, as formulas over the arguments. -/
module

public import proofs.«01_k».proof.Proof.Post.Spec

@[expose] public section

noncomputable section

namespace Cert.Proof.PreS

open Idealize.ShloMosaic Cert.Proof.Post

/-- The logarithm of the logistic function, in the form that never raises e to a positive number. -/
def logSigmoid (x : EReal) : EReal :=
  min x 0 - Ideal.log1p (Ideal.exp (-max x (-x)))

/-- The softplus's logarithm is not minus infinity. -/
theorem log1p_exp_ne_bot (y : EReal) : Ideal.log1p (Ideal.exp y) ≠ ⊥ := by
  have hr : ∀ r : ℝ, 0 < r → Ideal.log (r : EReal) ≠ ⊥ := fun r h e => by
    have e' : (if r ≤ 0 then (⊥ : EReal) else (Real.log r : EReal)) = ⊥ := e
    rw [if_neg (not_le.2 h)] at e'
    exact EReal.coe_ne_bot _ e'
  unfold Ideal.log1p
  induction y with
  | bot =>
    have e : (1 : EReal) + Ideal.exp ⊥ = ((1 : ℝ) : EReal) := add_zero _
    rw [e]
    exact hr 1 one_pos
  | top =>
    have e : (1 : EReal) + Ideal.exp ⊤ = ⊤ := EReal.add_top_of_ne_bot (EReal.coe_ne_bot 1)
    rw [e]
    exact (by simp : (⊤ : EReal) ≠ ⊥)
  | coe r =>
    have e : (1 : EReal) + Ideal.exp (r : EReal) = ((1 + Real.exp r : ℝ) : EReal) := (EReal.coe_add 1 (Real.exp r)).symm
    rw [e]
    exact hr _ (by have := Real.exp_pos r; linarith)

/-- The same logarithm as minus a softplus. -/
theorem logSigmoid_softplus (x : EReal) :
    -(max (-x) 0 + Ideal.log1p (Ideal.exp (-max (-x) (- -x)))) = logSigmoid x := by
  unfold logSigmoid
  have e : max (-x) (- -x) = max x (-x) := by rw [neg_neg, max_comm]
  have hz : (0 : EReal) ≤ max (-x) 0 := le_max_right _ _
  rw [e, EReal.neg_add (Or.inl (fun h => by rw [h] at hz; exact absurd hz (by simp))) (Or.inr (log1p_exp_ne_bot _))]
  refine congrArg₂ (· - ·) ?_ rfl
  rcases le_total x 0 with h | h
  · have h' : (0 : EReal) ≤ -x := by simpa using EReal.neg_le_neg_iff.2 h
    rw [max_eq_left h', min_eq_left h, neg_neg]
  · have h' : -x ≤ (0 : EReal) := by simpa using EReal.neg_le_neg_iff.2 h
    rw [max_eq_right h', min_eq_right h, neg_zero]

/-- The projection's arguments: rows, norm weights, the matrix, and the forget gate's bias. -/
structure Args where
  x : Fin 256 → Fin 1024 → EReal
  g : Fin 1024 → EReal
  w : Fin 1024 → Fin 2564 → EReal
  b : Fin 4 → EReal

namespace Args

variable (A : Args)

/-- A row after the norm. -/
def hidden (r : Fin 256) (j : Fin 1024) : EReal := A.x r j * scale (A.x r) * A.g j

/-- A row times a column of the matrix. -/
def proj (r : Fin 256) (n : Fin 2564) : EReal := ∑ k, A.hidden r k * A.w k n

/-- The forget gate's input, with zeros for the heads that pad four to eight. -/
def gateIn (r : Fin 256) (a : Fin 8) : EReal :=
  if h : a.val < 4 then A.proj r ⟨768 + a.val, by omega⟩ + A.b ⟨a.val, h⟩ else 0

/-- The forget gate, as a logarithm. -/
def forget (r : Fin 256) (a : Fin 8) : EReal := logSigmoid (A.gateIn r a)

end Args

end Cert.Proof.PreS

end
-- ==== Proof.PreS.Ref.lean ====
/- The reference read at an index: its results are the parts of the projection that the layer keeps. -/
module

public import proofs.«01_k».proof.Proof.Gen.PreSRefIdeal.Read
public import proofs.«01_k».proof.Proof.PreS.Spec
public import Idealize.ShloMosaic.Lib.Pointwise

@[expose] public section

set_option maxRecDepth 256

noncomputable section

namespace Cert.Proof.PreS.Ref

open Cert.PreSRefIdeal Cert.PreSRefIdeal.Gen Cert.PreSRefIdeal.Read Cert.Proof.Post Idealize.ShloMosaic Idealize.ShloMosaic.TcCoe Idealize.SL.Sem

variable (x0 : (⟨S256x1024, .f32⟩ : BufTy).Contents (Elt Ideal)) (x1 : (⟨S4x1024, .f32⟩ : BufTy).Contents (Elt Ideal))
  (x2 : (⟨S1024x2564, .f32⟩ : BufTy).Contents (Elt Ideal)) (x3 : (⟨S4, .f32⟩ : BufTy).Contents (Elt Ideal))

/-- The reference's arguments as arrays of numbers. -/
def args : Args where
  x r j := x0 (ix2 r j)
  g j := x1 (ix2 (0 : Fin 4) j)
  w k n := x2 (ix2 k n)
  b a := x3 (ix1 a)

/-- The projection. -/
theorem proj_at (r : Fin 256) (n : Fin 2564) : val_main_v15 (F := Ideal) x0 x1 x2 (ix2 r n) = (args x0 x1 x2 x3).proj r n := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The keys of the forgetting attention. -/
theorem key (r : Fin 256) (n : Fin 256) : val_main_v17 (F := Ideal) x0 x1 x2 (ix2 r n) = (args x0 x1 x2 x3).proj r ⟨256 + n.val, by omega⟩ := by
  pointwise [val_main_v17]
  exact proj_at x0 x1 x2 x3 _ _

/-- Its values. -/
theorem value (r : Fin 256) (n : Fin 256) : val_main_v18 (F := Ideal) x0 x1 x2 (ix2 r n) = (args x0 x1 x2 x3).proj r ⟨512 + n.val, by omega⟩ := by
  pointwise [val_main_v18]
  exact proj_at x0 x1 x2 x3 _ _

/-- The recurrence's inputs. -/
theorem inputs (r : Fin 256) (n : Fin 512) : val_main_v20 (F := Ideal) x0 x1 x2 (ix2 r n) = (args x0 x1 x2 x3).proj r ⟨772 + n.val, by omega⟩ := by
  pointwise [val_main_v20]
  exact proj_at x0 x1 x2 x3 _ _

/-- The chunk-band attention's keys. -/
theorem bandKey (r : Fin 256) (n : Fin 256) : val_main_v23 (F := Ideal) x0 x1 x2 (ix2 r n) = (args x0 x1 x2 x3).proj r ⟨2052 + n.val, by omega⟩ := by
  pointwise [val_main_v23]
  exact proj_at x0 x1 x2 x3 _ _

/-- Its values. -/
theorem bandValue (r : Fin 256) (n : Fin 256) : val_main_v24 (F := Ideal) x0 x1 x2 (ix2 r n) = (args x0 x1 x2 x3).proj r ⟨2308 + n.val, by omega⟩ := by
  pointwise [val_main_v24]
  exact proj_at x0 x1 x2 x3 _ _

/-- The forget gate's input. -/
theorem gateIn_at (r : Fin 256) (a : Fin 8) :
    val_main_v29 (F := Ideal) x0 x1 x2 x3 (ix2 r a) = (args x0 x1 x2 x3).gateIn r a := by
  have z : (FloatOps.sitofp FTy.f32 0#32 : Ideal .f32) = 0 := by
    show (((0#32 : BitVec 32).toInt : ℝ) : EReal) = 0
    simp
  pointwise [val_main_v29, val_main_v28, val_main_v27, val_main_v26, val_main_v25, val_main_v19, val_main_call1_v0, val_main_call0_v0, val_main_c_2, val_main_c]
  unfold Args.gateIn
  by_cases h : a.val < 4
  · refine Eq.trans ?_ (dif_pos h).symm
    exact congrArg₂ (· + ·) ((dif_pos h).trans (proj_at x0 x1 x2 x3 _ _)) (dif_pos h)
  · refine Eq.trans ?_ (dif_neg h).symm
    refine (congrArg₂ (· + ·) ((dif_neg h).trans z) ((dif_neg h).trans z)).trans ?_
    exact add_zero _

/-- The forget gate. -/
theorem gate (a : Fin 8) (r : Fin 256) : val_main_v31 (F := Ideal) x0 x1 x2 x3 (ix2 a r) = (args x0 x1 x2 x3).forget r a := by
  pointwise [val_main_v31, val_main_v30, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst, val_main_call2_v0]
  simp only [gateIn_at x0 x1 x2 x3]
  refine Eq.trans ?_ (logSigmoid_softplus _)
  exact congrArg Neg.neg (if_neg (fun h => h rfl))

end Cert.Proof.PreS.Ref

end
-- ==== Proof.PreS.Steps.lean ====
/- What the one grid point of the kernel computes from its blocks, and what its blocks hold. -/
module

public import proofs.«01_k».proof.Proof.Gen.PreSIdeal.Value
public import proofs.«01_k».proof.Proof.PreS.Spec
public import Idealize.ShloMosaic.Lib.Pointwise
public import Idealize.ShloMosaic.Lib.StableHlo.ReadAt
public import Idealize.ShloMosaic.Lib.Pipeline.ReadBack
public import Idealize.ShloMosaic.Lib.Pipeline.ValueKit.Acc
public import Idealize.ShloMosaic.Lib.Pipeline.ValueKit.Point
public import Idealize.ShloMosaic.Lib.Pipeline.ValueKit.Tiles

@[expose] public section

set_option maxRecDepth 16384

noncomputable section

namespace Cert.Proof.PreS.Steps

open Cert.PreSIdeal Cert.PreSIdeal.Gen Idealize.ShloMosaic Idealize.ShloMosaic.TcCoe Idealize.SL.Sem Cert.Proof.Post

/-- The projection's arguments as arrays of numbers. -/
def argsOf (a0 : Vec Ideal S256x1024 .f32) (a1 : Vec Ideal S4x1024 .f32) (a2 : Vec Ideal S1024x2564 .f32) (a3 : Vec Ideal S4 .f32) : Args where
  x r j := a0 (ix2 r j)
  g j := a1 (ix2 (0 : Fin 4) j)
  w k n := a2 (ix2 k n)
  b a := a3 (ix1 a)

variable (m : (ℓ : Loc nD τ sig) → Buf (Elt Ideal) ℓ) (c : Dev nD) (t : Fin cfg0.N)

/-- The program's arguments. -/
def args : Args := argsOf (m ((c : Thread nD τ).loc main_arg0)) (m ((c : Thread nD τ).loc main_arg1)) (m ((c : Thread nD τ).loc main_arg2))
  (m ((c : Thread nD τ).loc main_arg3))

/-! ## The kernel's steps at an entry -/

/-- The row after the norm. -/
theorem hidden_step (X : Vec Ideal S256x1024 .f32) (G : Vec Ideal S1x1024 .f32) (r : Fin 256) (j : Fin 1024) :
    k0_pay3 X G (ix2 r j) = X (ix2 r j) * scale (fun k => X (ix2 r k)) * G (ix2 (0 : Fin 1) j) := by
  pointwise [k0_pay3]
  rfl

/-- A row times a row of 256 columns' weights. -/
theorem product_step (H : FVec Ideal S256x1024 .bf16) (W : Vec Ideal S256x1024 .bf16) (r n : Fin 256) :
    k0_pay11 H W (ix2 r n) = ∑ k, H (ix2 r k) * W (ix2 n k) := by
  pointwise [k0_pay11]

/-- A row times a row of the recurrence's weights; the first half of the columns. -/
theorem inputs_step (H : FVec Ideal S256x1024 .bf16) (W : Vec Ideal S1024x1024 .bf16) (r : Fin 256) (n : Fin 512) :
    k0_pay9 H W (ix2 r n) = ∑ k, H (ix2 r k) * W (ix2 (⟨n.val, by omega⟩ : Fin 1024) k) := by
  pointwise [k0_pay9, k0_pay8]

/-- The forget gate's product, heads first. -/
theorem gateIn_step (X : Vec Ideal S256x1024 .f32) (G : Vec Ideal S1x1024 .f32) (W : Vec Ideal S8x1024 .bf16) (a : Fin 8) (r : Fin 256) :
    k0_pay6 X G W (ix2 a r) = ∑ k, W (ix2 a k) * k0_pay3 X G (ix2 r k) := by
  pointwise [k0_pay6]

/-- The logarithm of the logistic function of the product and the bias. -/
theorem gate_step (U : FVec Ideal S8x256 .f32) (B : Vec Ideal S8x1 .f32) (a : Fin 8) (r : Fin 256) :
    k0_pay7 U B (ix2 a r) = logSigmoid (U (ix2 a r) + B (ix2 a (0 : Fin 1))) := by
  pointwise [k0_pay7]
  unfold logSigmoid
  simp only [Ideal.ofBits_zero_f32, zero_sub]
  rfl

/-! ## What the host steps before the kernel hand to it -/

/-- The rows themselves. -/
theorem arg_rows (r : Fin 256) (j : Fin 1024) : V m c main_arg0 (ix2 r j) = (args m c).x r j := by
  unfold V
  after_reads_at
  rfl

/-- The layer's norm weights, the first of four rows. -/
theorem norm_row (j : Fin 1024) : V m c main_v14 (ix2 (0 : Fin 1) j) = (args m c).g j := by
  unfold V
  after_reads_at
  rfl

/-- The keys' weights as the host prepares them: columns of the projection, transposed. -/
theorem key_matrix (n : Fin 256) (k : Fin 1024) : V m c main_v3 (ix2 n k) = (args m c).w k ⟨256 + n.val, by omega⟩ := by
  unfold V
  after_reads_at
  rfl

/-- The values' weights. -/
theorem value_matrix (n : Fin 256) (k : Fin 1024) : V m c main_v4 (ix2 n k) = (args m c).w k ⟨512 + n.val, by omega⟩ := by
  unfold V
  after_reads_at
  rfl

/-- The recurrence's weights. -/
theorem inputs_matrix (n : Fin 1024) (k : Fin 1024) : V m c main_v6 (ix2 n k) = (args m c).w k ⟨772 + n.val, by omega⟩ := by
  unfold V
  after_reads_at
  rfl

/-- The weights of the chunk-band attention's keys. -/
theorem bandKey_matrix (n : Fin 256) (k : Fin 1024) : V m c main_v8 (ix2 n k) = (args m c).w k ⟨2052 + n.val, by omega⟩ := by
  unfold V
  after_reads_at
  rfl

/-- The weights of its values. -/
theorem bandValue_matrix (n : Fin 256) (k : Fin 1024) : V m c main_v9 (ix2 n k) = (args m c).w k ⟨2308 + n.val, by omega⟩ := by
  unfold V
  after_reads_at
  rfl

/-- The padding value is zero. -/
theorem zero_f32 : (FloatOps.sitofp FTy.f32 0#32 : Ideal .f32) = 0 := by
  show (((0#32 : BitVec 32).toInt : ℝ) : EReal) = 0
  simp

/-- The padding value is zero. -/
theorem zero_bf16 : (FloatOps.sitofp FTy.bf16 0#32 : Ideal .bf16) = 0 := by
  show (((0#32 : BitVec 32).toInt : ℝ) : EReal) = 0
  simp

/-- The forget gate's weights: four heads, and zeros. -/
theorem gate_matrix (a : Fin 8) (k : Fin 1024) :
    V m c main_v10 (ix2 a k) = if h : a.val < 4 then (args m c).w k ⟨768 + a.val, by omega⟩ else 0 := by
  unfold V
  after_reads_at
  by_cases h : a.val < 4
  · refine (dif_pos h).trans (Eq.trans ?_ (dif_pos h).symm)
    rfl
  · refine (dif_neg h).trans (zero_bf16.trans ?_)
    symm
    exact dif_neg h

/-- Its bias: four heads, and zeros. -/
theorem gate_bias (a : Fin 8) (l : Fin 128) : V m c main_v13 (ix2 a l) = if h : a.val < 4 then (args m c).b ⟨a.val, h⟩ else 0 := by
  unfold V
  after_reads_at
  by_cases h : a.val < 4
  · refine (dif_pos h).trans (Eq.trans ?_ (dif_pos h).symm)
    rfl
  · refine (dif_neg h).trans (zero_f32.trans ?_)
    symm
    exact dif_neg h

/-! ## The one grid point's blocks are whole arrays -/

/-- The block index of each window. -/
theorem index : ∀ t : Fin cfg0.N, win0_0.index t = ![0, 0] ∧ win0_1.index t = ![0, 0] ∧ win0_3.index t = ![0, 0] ∧ win0_4.index t = ![0, 0]
    ∧ win0_5.index t = ![0, 0] ∧ win0_6.index t = ![0, 0] ∧ win0_7.index t = ![0, 0] ∧ win0_9.index t = ![0, 0] ∧ win0_10.index t = ![0, 0]
    ∧ win0_12.index t = ![0, 0] ∧ win0_13.index t = ![0, 0] ∧ win0_16.index t = ![0, 0] ∧ win0_17.index t = ![0, 0]
    ∧ win0_20.index t = ![0, 0] ∧ win0_21.index t = ![0, 0] := by decide +kernel

/-- The block of the rows is the array of the rows. -/
theorem block_x (r : Fin 256) (j : Fin 1024) : iblk m c 0 t (ix2 r j) = V m c main_arg0 (ix2 r j) := by
  blk_ext [iblk, (index t).1]

/-- The block of the norm weights is their row. -/
theorem block_g (j : Fin 1024) : iblk m c 1 t (ix2 (0 : Fin 1) j) = V m c main_v14 (ix2 (0 : Fin 1) j) := by
  blk_ext [iblk, (index t).2.1]

/-- The block of the keys' weights. -/
theorem block_key (n : Fin 256) (k : Fin 1024) : iblk m c 3 t (ix2 n k) = V m c main_v3 (ix2 n k) := by
  blk_ext [iblk, (index t).2.2.1]

/-- The block of the values' weights. -/
theorem block_value (n : Fin 256) (k : Fin 1024) : iblk m c 4 t (ix2 n k) = V m c main_v4 (ix2 n k) := by
  blk_ext [iblk, (index t).2.2.2.1]

/-- The block of the forget gate's weights. -/
theorem block_gate (a : Fin 8) (k : Fin 1024) : iblk m c 5 t (ix2 a k) = V m c main_v10 (ix2 a k) := by
  blk_ext [iblk, (index t).2.2.2.2.1]

/-- The block of its bias. -/
theorem block_bias (a : Fin 8) (l : Fin 128) : iblk m c 6 t (ix2 a l) = V m c main_v13 (ix2 a l) := by
  blk_ext [iblk, (index t).2.2.2.2.2.1]

/-- The block of the recurrence's weights. -/
theorem block_inputs (n : Fin 1024) (k : Fin 1024) : iblk m c 7 t (ix2 n k) = V m c main_v6 (ix2 n k) := by
  blk_ext [iblk, (index t).2.2.2.2.2.2.1]

/-- The block of the weights of the chunk-band attention's keys. -/
theorem block_bandKey (n : Fin 256) (k : Fin 1024) : iblk m c 9 t (ix2 n k) = V m c main_v8 (ix2 n k) := by
  blk_ext [iblk, (index t).2.2.2.2.2.2.2.1]

/-- The block of the weights of its values. -/
theorem block_bandValue (n : Fin 256) (k : Fin 1024) : iblk m c 10 t (ix2 n k) = V m c main_v9 (ix2 n k) := by
  blk_ext [iblk, (index t).2.2.2.2.2.2.2.2.1]

/-- The rows after the norm, as the point computes them. -/
theorem hidden_eq (r : Fin 256) (j : Fin 1024) : k0_pay3 (iblk m c 0 t) (iblk m c 1 t) (ix2 r j) = (args m c).hidden r j := by
  refine (hidden_step _ _ r j).trans ?_
  unfold Args.hidden
  refine congrArg₂ (· * ·) (congrArg₂ (· * ·) ?_ (congrArg scale (funext fun k => ?_))) ((block_g m c t j).trans (norm_row m c j))
  · exact (block_x m c t r j).trans (arg_rows m c r j)
  · exact (block_x m c t r k).trans (arg_rows m c r k)

/-- A product over 256 columns' weights. -/
theorem product_eq (W : Vec Ideal S256x1024 .bf16) (n : Fin 256) (n' : Fin 2564) (h : ∀ k, W (ix2 n k) = (args m c).w k n') (r : Fin 256) :
    k0_pay11 (k0_pay3 (iblk m c 0 t) (iblk m c 1 t)) W (ix2 r n) = (args m c).proj r n' := by
  refine (product_step _ _ r n).trans ?_
  unfold Args.proj
  exact Finset.sum_congr rfl fun k _ => congrArg₂ (· * ·) (hidden_eq m c t r k) (h k)

/-- The recurrence's inputs. -/
theorem inputs_eq (r : Fin 256) (n : Fin 512) :
    k0_pay9 (k0_pay3 (iblk m c 0 t) (iblk m c 1 t)) (iblk m c 7 t) (ix2 r n) = (args m c).proj r ⟨772 + n.val, by omega⟩ := by
  refine (inputs_step _ _ r n).trans ?_
  unfold Args.proj
  exact Finset.sum_congr rfl fun k _ => congrArg₂ (· * ·) (hidden_eq m c t r k) ((block_inputs m c t _ k).trans (inputs_matrix m c _ k))

/-- The forget gate's input; the padding rows are zero. -/
theorem gateIn_eq (a : Fin 8) (r : Fin 256) :
    k0_pay6 (iblk m c 0 t) (iblk m c 1 t) (iblk m c 5 t) (ix2 a r) + iblk m c 6 t (ix2 a (0 : Fin 128)) = (args m c).gateIn r a := by
  unfold Args.gateIn Args.proj
  by_cases h : a.val < 4
  · symm
    refine (dif_pos h).trans ?_
    symm
    refine congrArg₂ (· + ·) ((gateIn_step _ _ _ a r).trans (Finset.sum_congr rfl fun k _ => ?_)) ?_
    · refine Eq.trans (congrArg₂ (· * ·) ?_ (hidden_eq m c t r k)) (mul_comm _ _)
      exact (block_gate m c t a k).trans ((gate_matrix m c a k).trans (dif_pos h))
    · exact (block_bias m c t a 0).trans ((gate_bias m c a 0).trans (dif_pos h))
  · refine Eq.trans (b := (∑ k : Fin 1024, (0 : EReal) * (args m c).hidden r k) + 0) (congrArg₂ (· + ·) ((gateIn_step _ _ _ a r).trans (Finset.sum_congr rfl fun k _ => ?_)) ?_) ?_
    · refine congrArg₂ (· * ·) ?_ (hidden_eq m c t r k)
      exact (block_gate m c t a k).trans ((gate_matrix m c a k).trans (dif_neg h))
    · exact (block_bias m c t a 0).trans ((gate_bias m c a 0).trans (dif_neg h))
    · symm
      refine (dif_neg h).trans ?_
      simp only [zero_mul, Finset.sum_const_zero, add_zero]

end Cert.Proof.PreS.Steps

end
-- ==== Proof.PreS.Array.lean ====
/- The arrays the kernel leaves: the parts of the projection that the layer keeps as state. -/
module

public import proofs.«01_k».proof.Proof.PreS.Steps

@[expose] public section

set_option maxRecDepth 16384

noncomputable section

namespace Cert.Proof.PreS.Array

open Cert.PreSIdeal Cert.PreSIdeal.Gen Idealize.ShloMosaic Idealize.ShloMosaic.TcCoe Idealize.SL.Sem Cert.Proof.Post Cert.Proof.PreS.Steps

/-! ## What the kernel stores, over any blocks -/

/-- The forgetting attention's keys. -/
theorem open_key (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_12 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay11 (k0_pay3 x0 x1) x3 := by
  frame_out

/-- The forgetting attention's values. -/
theorem open_value (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_13 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay32 (k0_pay3 x0 x1) x4 := by
  frame_out

/-- The forget gate. -/
theorem open_gate (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_16 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay7 (k0_pay6 x0 x1 x5) (View.ld x6 (Rect.unit (s := S8x128) ![0, 0] S8x1.size inb_S8x128_S8x1_0_0)) := by
  frame_out

/-- The recurrence's inputs. -/
theorem open_inputs (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_17 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay9 (k0_pay3 x0 x1) x7 := by
  frame_out

/-- The chunk-band attention's keys. -/
theorem open_bandKey (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_20 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay52 (k0_pay3 x0 x1) x9 := by
  frame_out

/-- The chunk-band attention's values. -/
theorem open_bandValue (c : Dev nD) (a0) (h0) (a1) (h1) (a2) (h2) (a3) (h3) (a4) (h4) (a5) (h5) (a6) (h6) (a7) (h7) (a8) (h8) (a9) (h9) (a10) (h10) (a11) (h11) (a12) (h12) (a13) (h13) (a14) (h14) (a15) (h15) (a16) (h16) (a17) (h17) (a18) (h18) (a19) (h19) (a20) (h20) (a21) (h21) (a22) (h22) (a23) (h23) (x0) (x1) (x2) (x3) (x4) (x5) (x6) (x7) (x8) (x9) (x10) :
    out0_A_21 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10
      = k0_pay73 (k0_pay3 x0 x1) x10 := by
  frame_out

variable (m : (ℓ : Loc nD τ sig) → Buf (Elt Ideal) ℓ) (c : Dev nD) (t : Fin cfg0.N)

/-! ## What the point leaves -/

set_option maxHeartbeats 1000000 in
/-- What the one grid point stores as the keys, from its blocks of the operands. -/
theorem stored_key : (outsAt0 m c t).2.1 = k0_pay11 (k0_pay3 (iblk m c 0 t) (iblk m c 1 t)) (iblk m c 3 t) := by
  have e : (outsAt0 m c t).2.1 = out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_key]

set_option maxHeartbeats 1000000 in
/-- What the one grid point stores as the values, from its blocks of the operands. -/
theorem stored_value : (outsAt0 m c t).2.2.1 = k0_pay32 (k0_pay3 (iblk m c 0 t) (iblk m c 1 t)) (iblk m c 4 t) := by
  have e : (outsAt0 m c t).2.2.1 = out0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_value]

set_option maxHeartbeats 1000000 in
/-- What the one grid point stores as the forget gate, from its blocks of the operands. -/
theorem stored_gate : (outsAt0 m c t).2.2.2.2.2.1 = k0_pay7 (k0_pay6 (iblk m c 0 t) (iblk m c 1 t) (iblk m c 5 t)) (View.ld (iblk m c 6 t) (Rect.unit (s := S8x128) ![0, 0] S8x1.size inb_S8x128_S8x1_0_0)) := by
  have e : (outsAt0 m c t).2.2.2.2.2.1 = out0_A_16 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_gate]
  rfl

set_option maxHeartbeats 1000000 in
/-- What the one grid point stores as the recurrence's inputs, from its blocks of the operands. -/
theorem stored_inputs : (outsAt0 m c t).2.2.2.2.2.2.1 = k0_pay9 (k0_pay3 (iblk m c 0 t) (iblk m c 1 t)) (iblk m c 7 t) := by
  have e : (outsAt0 m c t).2.2.2.2.2.2.1 = out0_A_17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_inputs]

set_option maxHeartbeats 1000000 in
/-- What the one grid point stores as the chunk-band attention's keys, from its blocks of the operands. -/
theorem stored_bandKey : (outsAt0 m c t).2.2.2.2.2.2.2.2.2.1 = k0_pay52 (k0_pay3 (iblk m c 0 t) (iblk m c 1 t)) (iblk m c 9 t) := by
  have e : (outsAt0 m c t).2.2.2.2.2.2.2.2.2.1 = out0_A_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_bandKey]

set_option maxHeartbeats 1000000 in
/-- What the one grid point stores as the chunk-band attention's values, from its blocks of the operands. -/
theorem stored_bandValue : (outsAt0 m c t).2.2.2.2.2.2.2.2.2.2.1 = k0_pay73 (k0_pay3 (iblk m c 0 t) (iblk m c 1 t)) (iblk m c 10 t) := by
  have e : (outsAt0 m c t).2.2.2.2.2.2.2.2.2.2.1 = out0_A_21 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    unfold outsAt0
    rfl
  rw [e, open_bandValue]

/-- Each entry of the keys that the point stores. -/
theorem point_key (r n : Fin 256) : (outsAt0 m c t).2.1 (ix2 r n) = (args m c).proj r ⟨256 + n.val, by omega⟩ := by
  rw [stored_key]
  exact product_eq m c t _ n _ (fun k => (block_key m c t n k).trans (key_matrix m c n k)) r

/-- Each entry of the values that the point stores. -/
theorem point_value (r n : Fin 256) : (outsAt0 m c t).2.2.1 (ix2 r n) = (args m c).proj r ⟨512 + n.val, by omega⟩ := by
  rw [stored_value]
  exact product_eq m c t _ n _ (fun k => (block_value m c t n k).trans (value_matrix m c n k)) r

/-- Each entry of the forget gate that the point stores. -/
theorem point_gate (a : Fin 8) (r : Fin 256) : (outsAt0 m c t).2.2.2.2.2.1 (ix2 a r) = (args m c).forget r a := by
  rw [stored_gate]
  refine (gate_step _ _ a r).trans (congrArg logSigmoid ?_)
  refine Eq.trans (congrArg₂ (· + ·) rfl ?_) (gateIn_eq m c t a r)
  exact View.ld_unit_apply_of _ _ _ _ _ _ (fun a => by fin_cases a <;> simp)

/-- Each entry of the recurrence's inputs that the point stores. -/
theorem point_inputs (r : Fin 256) (n : Fin 512) : (outsAt0 m c t).2.2.2.2.2.2.1 (ix2 r n) = (args m c).proj r ⟨772 + n.val, by omega⟩ := by
  rw [stored_inputs]
  exact inputs_eq m c t r n

/-- Each entry of the chunk-band attention's keys that the point stores. -/
theorem point_bandKey (r n : Fin 256) : (outsAt0 m c t).2.2.2.2.2.2.2.2.2.1 (ix2 r n) = (args m c).proj r ⟨2052 + n.val, by omega⟩ := by
  rw [stored_bandKey]
  exact product_eq m c t _ n _ (fun k => (block_bandKey m c t n k).trans (bandKey_matrix m c n k)) r

/-- Each entry of the chunk-band attention's values that the point stores. -/
theorem point_bandValue (r n : Fin 256) : (outsAt0 m c t).2.2.2.2.2.2.2.2.2.2.1 (ix2 r n) = (args m c).proj r ⟨2308 + n.val, by omega⟩ := by
  rw [stored_bandValue]
  exact product_eq m c t _ n _ (fun k => (block_bandValue m c t n k).trans (bandValue_matrix m c n k)) r

/-! ## The arrays after the run -/

def keyArray (A : Args) : S256x256.Idx → EReal := fun y => A.proj (y 0) ⟨256 + (y 1).val, by have h : (y 1).val < 256 := (y 1).isLt; omega⟩
def valueArray (A : Args) : S256x256.Idx → EReal := fun y => A.proj (y 0) ⟨512 + (y 1).val, by have h : (y 1).val < 256 := (y 1).isLt; omega⟩
def gateArray (A : Args) : S8x256.Idx → EReal := fun y => A.forget (y 1) (y 0)
def inputsArray (A : Args) : S256x512.Idx → EReal := fun y => A.proj (y 0) ⟨772 + (y 1).val, by have h : (y 1).val < 512 := (y 1).isLt; omega⟩
def bandKeyArray (A : Args) : S256x256.Idx → EReal := fun y => A.proj (y 0) ⟨2052 + (y 1).val, by have h : (y 1).val < 256 := (y 1).isLt; omega⟩
def bandValueArray (A : Args) : S256x256.Idx → EReal := fun y => A.proj (y 0) ⟨2308 + (y 1).val, by have h : (y 1).val < 256 := (y 1).isLt; omega⟩

/-- The array of the keys after the run. -/
theorem final_key : (dats m 0 c).arrAt 12 cfg0.N = keyArray (args m c) := by
  refine (dats m 0 c).arrAt_eq_of_covers 12 _ (by decide +kernel) fun t hf y => ?_
  blk_simp
  rw [after0_12]
  obtain ⟨p, j, rfl⟩ : ∃ (p : Fin 256) (j : Fin 256), y = ix2 p j := ⟨y 0, y 1, eq_ix2 y⟩
  refine (point_key m c t p j).trans ?_
  have e : (win0_12.blk t).view.emb (ix2 p j) = ix2 p j := by
    funext a
    refine Fin.ext ((Pipeline.Window.rect_emb_val win0_12 t (ix2 p j) a).trans ?_)
    rw [(index t).2.2.2.2.2.2.2.2.2.1]
    fin_cases a <;> simp
  exact (congrArg (keyArray (args m c)) e).symm

/-- The array of the values after the run. -/
theorem final_value : (dats m 0 c).arrAt 13 cfg0.N = valueArray (args m c) := by
  refine (dats m 0 c).arrAt_eq_of_covers 13 _ (by decide +kernel) fun t hf y => ?_
  blk_simp
  rw [after0_13]
  obtain ⟨p, j, rfl⟩ : ∃ (p : Fin 256) (j : Fin 256), y = ix2 p j := ⟨y 0, y 1, eq_ix2 y⟩
  refine (point_value m c t p j).trans ?_
  have e : (win0_13.blk t).view.emb (ix2 p j) = ix2 p j := by
    funext a
    refine Fin.ext ((Pipeline.Window.rect_emb_val win0_13 t (ix2 p j) a).trans ?_)
    rw [(index t).2.2.2.2.2.2.2.2.2.2.1]
    fin_cases a <;> simp
  exact (congrArg (valueArray (args m c)) e).symm

/-- The array of the forget gate after the run. -/
theorem final_gate : (dats m 0 c).arrAt 16 cfg0.N = gateArray (args m c) := by
  refine (dats m 0 c).arrAt_eq_of_covers 16 _ (by decide +kernel) fun t hf y => ?_
  blk_simp
  rw [after0_16]
  obtain ⟨p, j, rfl⟩ : ∃ (p : Fin 8) (j : Fin 256), y = ix2 p j := ⟨y 0, y 1, eq_ix2 y⟩
  refine (point_gate m c t p j).trans ?_
  have e : (win0_16.blk t).view.emb (ix2 p j) = ix2 p j := by
    funext a
    refine Fin.ext ((Pipeline.Window.rect_emb_val win0_16 t (ix2 p j) a).trans ?_)
    rw [(index t).2.2.2.2.2.2.2.2.2.2.2.1]
    fin_cases a <;> simp
  exact (congrArg (gateArray (args m c)) e).symm

/-- The array of the recurrence's inputs after the run. -/
theorem final_inputs : (dats m 0 c).arrAt 17 cfg0.N = inputsArray (args m c) := by
  refine (dats m 0 c).arrAt_eq_of_covers 17 _ (by decide +kernel) fun t hf y => ?_
  blk_simp
  rw [after0_17]
  obtain ⟨p, j, rfl⟩ : ∃ (p : Fin 256) (j : Fin 512), y = ix2 p j := ⟨y 0, y 1, eq_ix2 y⟩
  refine (point_inputs m c t p j).trans ?_
  have e : (win0_17.blk t).view.emb (ix2 p j) = ix2 p j := by
    funext a
    refine Fin.ext ((Pipeline.Window.rect_emb_val win0_17 t (ix2 p j) a).trans ?_)
    rw [(index t).2.2.2.2.2.2.2.2.2.2.2.2.1]
    fin_cases a <;> simp
  exact (congrArg (inputsArray (args m c)) e).symm

/-- The array of the chunk-band attention's keys after the run. -/
theorem final_bandKey : (dats m 0 c).arrAt 20 cfg0.N = bandKeyArray (args m c) := by
  refine (dats m 0 c).arrAt_eq_of_covers 20 _ (by decide +kernel) fun t hf y => ?_
  blk_simp
  rw [after0_20]
  obtain ⟨p, j, rfl⟩ : ∃ (p : Fin 256) (j : Fin 256), y = ix2 p j := ⟨y 0, y 1, eq_ix2 y⟩
  refine (point_bandKey m c t p j).trans ?_
  have e : (win0_20.blk t).view.emb (ix2 p j) = ix2 p j := by
    funext a
    refine Fin.ext ((Pipeline.Window.rect_emb_val win0_20 t (ix2 p j) a).trans ?_)
    rw [(index t).2.2.2.2.2.2.2.2.2.2.2.2.2.1]
    fin_cases a <;> simp
  exact (congrArg (bandKeyArray (args m c)) e).symm

/-- The array of the chunk-band attention's values after the run. -/
theorem final_bandValue : (dats m 0 c).arrAt 21 cfg0.N = bandValueArray (args m c) := by
  refine (dats m 0 c).arrAt_eq_of_covers 21 _ (by decide +kernel) fun t hf y => ?_
  blk_simp
  rw [after0_21]
  obtain ⟨p, j, rfl⟩ : ∃ (p : Fin 256) (j : Fin 256), y = ix2 p j := ⟨y 0, y 1, eq_ix2 y⟩
  refine (point_bandValue m c t p j).trans ?_
  have e : (win0_21.blk t).view.emb (ix2 p j) = ix2 p j := by
    funext a
    refine Fin.ext ((Pipeline.Window.rect_emb_val win0_21 t (ix2 p j) a).trans ?_)
    rw [(index t).2.2.2.2.2.2.2.2.2.2.2.2.2.2]
    fin_cases a <;> simp
  exact (congrArg (bandValueArray (args m c)) e).symm

end Cert.Proof.PreS.Array

end
-- ==== Proof.PreS.Claims.lean ====
/- The claims about the projection of the sample's rows: the frames, and that the idealized kernel and the reference leave equal results. -/
module

public import proofs.«01_k».proof.Defs
public import proofs.«01_k».proof.Proof.Gen.PreS.Frame
public import proofs.«01_k».proof.Proof.Gen.PreSIdeal.Value
public import proofs.«01_k».proof.Proof.Gen.PreSRefIdeal.Run
public import proofs.«01_k».proof.Proof.PreS.Ref
public import proofs.«01_k».proof.Proof.PreS.Array

@[expose] public section

set_option maxRecDepth 16384

noncomputable section

namespace Cert.Proof.PreS

open Idealize.ShloMosaic Idealize.ShloMosaic.StableHlo Idealize.ShloMosaic.TcCoe Idealize.SL.Sem

/-- The kernel runs, leaves its arguments unchanged, and ends with no semaphore raised. -/
theorem frame_kernel : Cert.quiescent_PreS := fun m ρ _ => Cert.PreS.Gen.frame m ρ

/-- The same of its idealized form. -/
theorem frame_ideal : Cert.quiescent_PreSIdeal := fun m ρ _ => Cert.PreSIdeal.Gen.frame m ρ

/-- The reference runs, leaves its arguments unchanged, and has no semaphore. -/
theorem frame_reference : Cert.quiescent_PreSRefIdeal := fun m ρ _ =>
  (θ_run Cert.PreSRefIdeal.defs _ _).mono (fun r h => ⟨fun c => (h c).2.2.2.2.2.2, sem_eq_zero_of_no_sems (by decide) r.2⟩)
    (Cert.PreSRefIdeal.Value.run (F := Ideal) m ρ)

/-- The reference's array of the keys of the forgetting attention. -/
theorem reference_key (x0 x1 x2 x3) :
    Cert.PreSRefIdeal.Read.val_main_v17 (F := Ideal) x0 x1 x2 = Array.keyArray (Steps.argsOf x0 x1 x2 x3) := by
  funext y
  obtain ⟨r, n, rfl⟩ : ∃ (r : Fin 256) (n : Fin 256), y = ix2 r n := ⟨y 0, y 1, eq_ix2 y⟩
  exact Ref.key x0 x1 x2 x3 r n

/-- The reference's array of its values. -/
theorem reference_value (x0 x1 x2 x3) :
    Cert.PreSRefIdeal.Read.val_main_v18 (F := Ideal) x0 x1 x2 = Array.valueArray (Steps.argsOf x0 x1 x2 x3) := by
  funext y
  obtain ⟨r, n, rfl⟩ : ∃ (r : Fin 256) (n : Fin 256), y = ix2 r n := ⟨y 0, y 1, eq_ix2 y⟩
  exact Ref.value x0 x1 x2 x3 r n

/-- The reference's array of the forget gate. -/
theorem reference_gate (x0 x1 x2 x3) :
    Cert.PreSRefIdeal.Read.val_main_v31 (F := Ideal) x0 x1 x2 x3 = Array.gateArray (Steps.argsOf x0 x1 x2 x3) := by
  funext y
  obtain ⟨a, r, rfl⟩ : ∃ (a : Fin 8) (r : Fin 256), y = ix2 a r := ⟨y 0, y 1, eq_ix2 y⟩
  exact Ref.gate x0 x1 x2 x3 a r

/-- The reference's array of the recurrence's inputs. -/
theorem reference_inputs (x0 x1 x2 x3) :
    Cert.PreSRefIdeal.Read.val_main_v20 (F := Ideal) x0 x1 x2 = Array.inputsArray (Steps.argsOf x0 x1 x2 x3) := by
  funext y
  obtain ⟨r, n, rfl⟩ : ∃ (r : Fin 256) (n : Fin 512), y = ix2 r n := ⟨y 0, y 1, eq_ix2 y⟩
  exact Ref.inputs x0 x1 x2 x3 r n

/-- The reference's array of the chunk-band attention's keys. -/
theorem reference_bandKey (x0 x1 x2 x3) :
    Cert.PreSRefIdeal.Read.val_main_v23 (F := Ideal) x0 x1 x2 = Array.bandKeyArray (Steps.argsOf x0 x1 x2 x3) := by
  funext y
  obtain ⟨r, n, rfl⟩ : ∃ (r : Fin 256) (n : Fin 256), y = ix2 r n := ⟨y 0, y 1, eq_ix2 y⟩
  exact Ref.bandKey x0 x1 x2 x3 r n

/-- The reference's array of its values. -/
theorem reference_bandValue (x0 x1 x2 x3) :
    Cert.PreSRefIdeal.Read.val_main_v24 (F := Ideal) x0 x1 x2 = Array.bandValueArray (Steps.argsOf x0 x1 x2 x3) := by
  funext y
  obtain ⟨r, n, rfl⟩ : ∃ (r : Fin 256) (n : Fin 256), y = ix2 r n := ⟨y 0, y 1, eq_ix2 y⟩
  exact Ref.bandValue x0 x1 x2 x3 r n

/-- Equal arrays make the same arguments of the projection. -/
theorem args_congr {x0 x1 x2 x3 y0 y1 y2 y3} (h0 : x0 = y0) (h1 : x1 = y1) (h2 : x2 = y2) (h3 : x3 = y3) :
    Steps.argsOf x0 x1 x2 x3 = Steps.argsOf y0 y1 y2 y3 := by
  subst h0 h1 h2 h3
  rfl

/-- The idealized kernel and the reference leave the same six arrays. -/
theorem equal : Cert.algebraic_PreSIdeal_PreSRefIdeal := by
  intro m g m' g' _ ha
  refine ⟨fun c => Array.keyArray (Steps.args m c), fun c => Array.valueArray (Steps.args m c), fun c => Array.gateArray (Steps.args m c), fun c => Array.inputsArray (Steps.args m c), fun c => Array.bandKeyArray (Steps.args m c), fun c => Array.bandValueArray (Steps.args m c), ?_, ?_⟩
  · refine (θ_run Cert.PreSIdeal.defs _ _).mono (fun r h c => ?_) (Cert.PreSIdeal.Value.run_blocks (F := Ideal) m g)
    obtain ⟨_, k1, k2, _, _, k5, k6, _, _, k9, k10, _, _, k⟩ := h c
    exact ⟨k1.trans (Array.final_key m c), k2.trans (Array.final_value m c), k5.trans (Array.final_gate m c), k6.trans (Array.final_inputs m c),
      k9.trans (Array.final_bandKey m c), k10.trans (Array.final_bandValue m c), k⟩
  · refine (θ_run Cert.PreSRefIdeal.defs _ _).mono (fun r h c => ?_) (Cert.PreSRefIdeal.Value.run (F := Ideal) m' g')
    obtain ⟨h0, h1, h2, h3⟩ := ha c
    have e := args_congr h0 h1 h2 h3
    obtain ⟨k1, k2, k3, k4, k5, k6, k⟩ := h c
    refine ⟨k1.trans ?_, k2.trans ?_, k3.trans ?_, k4.trans ?_, k5.trans ?_, k6.trans ?_, k⟩
    · exact (Cert.PreSRefIdeal.Read.val_main_v17_eq _ _ _).trans ((reference_key _ _ _ (m' ((c.tc : Thread Cert.PreSRefIdeal.nD Cert.PreSRefIdeal.τ).loc Cert.PreSRefIdeal.main_arg3))).trans (congrArg Array.keyArray e))
    · exact (Cert.PreSRefIdeal.Read.val_main_v18_eq _ _ _).trans ((reference_value _ _ _ (m' ((c.tc : Thread Cert.PreSRefIdeal.nD Cert.PreSRefIdeal.τ).loc Cert.PreSRefIdeal.main_arg3))).trans (congrArg Array.valueArray e))
    · exact (Cert.PreSRefIdeal.Read.val_main_v31_eq m' c).trans ((reference_gate _ _ _ _).trans (congrArg Array.gateArray e))
    · exact (Cert.PreSRefIdeal.Read.val_main_v20_eq _ _ _).trans ((reference_inputs _ _ _ (m' ((c.tc : Thread Cert.PreSRefIdeal.nD Cert.PreSRefIdeal.τ).loc Cert.PreSRefIdeal.main_arg3))).trans (congrArg Array.inputsArray e))
    · exact (Cert.PreSRefIdeal.Read.val_main_v23_eq _ _ _).trans ((reference_bandKey _ _ _ (m' ((c.tc : Thread Cert.PreSRefIdeal.nD Cert.PreSRefIdeal.τ).loc Cert.PreSRefIdeal.main_arg3))).trans (congrArg Array.bandKeyArray e))
    · exact (Cert.PreSRefIdeal.Read.val_main_v24_eq _ _ _).trans ((reference_bandValue _ _ _ (m' ((c.tc : Thread Cert.PreSRefIdeal.nD Cert.PreSRefIdeal.τ).loc Cert.PreSRefIdeal.main_arg3))).trans (congrArg Array.bandValueArray e))

end Cert.Proof.PreS

end
-- ==== Proof.PostS.Layer.lean ====
/- The layer step over the sample: every row of the sixteen streams, each over the gates of the two rows before it in its stream. -/
module

public import proofs.«01_k».proof.Proof.Post.Spec
public import Idealize.ShloMosaic.Lib.Pointwise

@[expose] public section

noncomputable section

namespace Cert.Proof.PostS

open Idealize.ShloMosaic Cert.Proof.Post

/-- The arrays the step takes. -/
structure Args where
  x : Fin 256 → Fin 1024 → EReal
  of : Fin 256 → Fin 256 → EReal
  ol : Fin 256 → Fin 512 → EReal
  ob : Fin 256 → Fin 256 → EReal
  hist : Fin 16 → Fin 2 → Fin 3072 → EReal
  w : Weights

variable (A : Args)

/-- A row after the mixing. -/
def Args.row (r : Fin 256) : Fin 1024 → EReal := first A.w (A.x r) (mixed A.w (A.of r) (A.ol r) (A.ob r))

/-- A row's gates. -/
def Args.gate (r : Fin 256) (n : Fin 3072) : EReal := gates A.w (A.row r) n

/-- The gates `d` rows before a row, from the two rows of history at the front of a stream. -/
def Args.before (d : Fin 3) (r : Fin 256) (n : Fin 3072) : EReal :=
  if d.val ≤ r.val % 16 then A.gate ⟨r.val - d.val, by omega⟩ n
  else A.hist ⟨r.val / 16, by omega⟩ (Fin.ofNat 2 (r.val % 16 + 2 - d.val)) n

/-- A row of the first result. -/
def Args.result (r : Fin 256) (j : Fin 1024) : EReal :=
  second A.w (A.row r) (down A.w (act A.w (A.before 2 r) (A.before 1 r) (A.gate r) (values A.w (A.row r)))) j

end Cert.Proof.PostS

end
-- ==== Proof.PostS.Ref.lean ====
/- The reference over the sample, read at an index: its two results are the layer step of its arguments. -/
module

public import proofs.«01_k».proof.Proof.Gen.PostSRefIdeal.Read
public import proofs.«01_k».proof.Proof.PostS.Layer
public import Idealize.ShloMosaic.Lib.Pointwise

@[expose] public section

set_option maxRecDepth 16384

noncomputable section

namespace Cert.Proof.PostS.Ref

open Cert.PostSRefIdeal Cert.PostSRefIdeal.Gen Cert.PostSRefIdeal.Read Idealize.ShloMosaic Idealize.ShloMosaic.TcCoe Idealize.SL.Sem Cert.Proof.Post Cert.Proof.PostS

variable (x0 : (⟨S256x1024, .f32⟩ : BufTy).Contents (Elt Ideal)) (x1 : (⟨S256x256, .bf16⟩ : BufTy).Contents (Elt Ideal))
  (x2 : (⟨S256x512, .bf16⟩ : BufTy).Contents (Elt Ideal)) (x3 : (⟨S256x256, .bf16⟩ : BufTy).Contents (Elt Ideal))
  (x4 : (⟨S16x2x3072, .f32⟩ : BufTy).Contents (Elt Ideal)) (x5 : (⟨S4x1024, .f32⟩ : BufTy).Contents (Elt Ideal))
  (x6 : (⟨S4x1024x1024, .f32⟩ : BufTy).Contents (Elt Ideal)) (x7 : (⟨S4x1024x6144, .f32⟩ : BufTy).Contents (Elt Ideal))
  (x8 : (⟨S3x3072, .f32⟩ : BufTy).Contents (Elt Ideal)) (x9 : (⟨S3072, .f32⟩ : BufTy).Contents (Elt Ideal))
  (x10 : (⟨S4x3072x1024, .f32⟩ : BufTy).Contents (Elt Ideal))

/-- The reference's arguments as arrays of numbers. -/
def args : Args where
  x r j := x0 (ix2 r j)
  of r k := x1 (ix2 r k)
  ol r k := x2 (ix2 r k)
  ob r k := x3 (ix2 r k)
  hist b a n := x4 (ix3 b a n)
  w := { mix := fun k j => x6 (ix3 (0 : Fin 4) k j), up := fun k n => x7 (ix3 (0 : Fin 4) k n), down := fun n j => x10 (ix3 (0 : Fin 4) n j),
         g1 := fun j => x5 (ix2 (1 : Fin 4) j), g2 := fun j => x5 (ix2 (2 : Fin 4) j), g3 := fun j => x5 (ix2 (3 : Fin 4) j),
         conv := fun k n => x8 (ix2 k n), bias := fun n => x9 (ix1 n) }

/-- The mixers' results set side by side. -/
theorem joined_at (r : Fin 256) (k : Fin 1024) :
    (val_main_v0 (F := Ideal) x1 x2 x3) (ix2 r k) = joined ((args x0 x1 x2 x3 x4 x5 x6 x7 x8 x9 x10).of r) ((args x0 x1 x2 x3 x4 x5 x6 x7 x8 x9 x10).ol r) ((args x0 x1 x2 x3 x4 x5 x6 x7 x8 x9 x10).ob r) k := by
  pointwise [val_main_v0]
  unfold joined
  by_cases h : k.val < 256
  · refine (dif_pos h).trans ?_
    symm
    exact dif_pos h
  · refine (dif_neg h).trans ?_
    symm
    refine (dif_neg h).trans ?_
    by_cases h' : k.val < 768
    · refine (dif_pos h').trans ?_
      symm
      exact dif_pos (by omega)
    · refine (dif_neg h').trans ?_
      symm
      refine (dif_neg (by omega)).trans ?_
      exact congrArg (fun z => x3 (ix2 r z)) (Fin.ext (by simp only; omega))

/-- The mixing. -/
theorem mixed_at (r : Fin 256) (j : Fin 1024) :
    (val_main_v4 (F := Ideal) x1 x2 x3 x6) (ix2 r j) = mixed (args x0 x1 x2 x3 x4 x5 x6 x7 x8 x9 x10).w ((args x0 x1 x2 x3 x4 x5 x6 x7 x8 x9 x10).of r) ((args x0 x1 x2 x3 x4 x5 x6 x7 x8 x9 x10).ol r) ((args x0 x1 x2 x3 x4 x5 x6 x7 x8 x9 x10).ob r) j := by
  rw [mixed_joined]
  pointwise [val_main_v4, val_main_v3, val_main_v2, val_main_v1]
  refine Finset.sum_congr rfl fun k _ => congrArg₂ (· * ·) (joined_at x0 x1 x2 x3 x4 x5 x6 x7 x8 x9 x10 r k) rfl

/-- A row after the mixing. -/
theorem first_at (r : Fin 256) (j : Fin 1024) : (val_main_v20 (F := Ideal) x0 x1 x2 x3 x5 x6) (ix2 r j) = (args x0 x1 x2 x3 x4 x5 x6 x7 x8 x9 x10).row r j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [mixed_at x0 x1 x2 x3 x4 x5 x6 x7 x8 x9 x10, Ideal.ofBits_zero_f32, zero_add]
  rfl

/-- The row that enters the feed-forward block. -/
theorem hidden_at (r : Fin 256) (j : Fin 1024) : (val_main_v35 (F := Ideal) x0 x1 x2 x3 x5 x6) (ix2 r j) = hidden (args x0 x1 x2 x3 x4 x5 x6 x7 x8 x9 x10).w ((args x0 x1 x2 x3 x4 x5 x6 x7 x8 x9 x10).row r) j := by
  pointwise [val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  simp only [first_at x0 x1 x2 x3 x4 x5 x6 x7 x8 x9 x10, Ideal.ofBits_zero_f32, zero_add]
  rfl

/-- The product with the up matrix. -/
theorem up_at (r : Fin 256) (n : Fin 6144) : (val_main_v38 (F := Ideal) x0 x1 x2 x3 x5 x6 x7) (ix2 r n) = ∑ k, hidden (args x0 x1 x2 x3 x4 x5 x6 x7 x8 x9 x10).w ((args x0 x1 x2 x3 x4 x5 x6 x7 x8 x9 x10).row r) k * (args x0 x1 x2 x3 x4 x5 x6 x7 x8 x9 x10).w.up k n := by
  pointwise [val_main_v38, val_main_v37, val_main_v36]
  exact Finset.sum_congr rfl fun k _ => congrArg₂ (· * ·) (hidden_at x0 x1 x2 x3 x4 x5 x6 x7 x8 x9 x10 r k) rfl

/-- The values of a row. -/
theorem value_at (r : Fin 256) (n : Fin 3072) : (val_main_v40 (F := Ideal) x0 x1 x2 x3 x5 x6 x7) (ix2 r n) = values (args x0 x1 x2 x3 x4 x5 x6 x7 x8 x9 x10).w ((args x0 x1 x2 x3 x4 x5 x6 x7 x8 x9 x10).row r) n := by
  pointwise [val_main_v40]
  exact up_at x0 x1 x2 x3 x4 x5 x6 x7 x8 x9 x10 r _

/-- The gates, the reference's second result. -/
theorem gate (r : Fin 256) (n : Fin 3072) : (val_main_v39 (F := Ideal) x0 x1 x2 x3 x5 x6 x7) (ix2 r n) = (args x0 x1 x2 x3 x4 x5 x6 x7 x8 x9 x10).gate r n := by
  pointwise [val_main_v39]
  exact up_at x0 x1 x2 x3 x4 x5 x6 x7 x8 x9 x10 r _

/-- The gates of a stream, after the two rows of its history. -/
theorem gate_at (b : Fin 16) (s : Fin 18) (n : Fin 3072) :
    (val_main_v42 (F := Ideal) x0 x1 x2 x3 x4 x5 x6 x7) (ix3 b s n) = if h : s.val < 2 then x4 (ix3 b (⟨s.val, h⟩ : Fin 2) n)
      else (args x0 x1 x2 x3 x4 x5 x6 x7 x8 x9 x10).gate ⟨16 * b.val + (s.val - 2), by omega⟩ n := by
  pointwise [val_main_v42, val_main_v41, val_main_v39]
  by_cases h : s.val < 2
  · rw [dif_pos h, dif_pos h]
  · refine (dif_neg h).trans ?_
    symm
    refine (dif_neg h).trans ?_
    symm
    refine (up_at x0 x1 x2 x3 x4 x5 x6 x7 x8 x9 x10 _ _).trans ?_
    exact congrArg (fun z => gates (args x0 x1 x2 x3 x4 x5 x6 x7 x8 x9 x10).w ((args x0 x1 x2 x3 x4 x5 x6 x7 x8 x9 x10).row z) n) (Fin.ext (by simp only; omega))

/-- The rows before a row, read from the padded gates. -/
theorem before_at (d : Fin 3) (r : Fin 256) (n : Fin 3072) (s : Fin 18) (hs : s.val = r.val % 16 + 2 - d.val) :
    (val_main_v42 (F := Ideal) x0 x1 x2 x3 x4 x5 x6 x7) (ix3 (⟨r.val / 16, by omega⟩ : Fin 16) s n)
      = (args x0 x1 x2 x3 x4 x5 x6 x7 x8 x9 x10).before d r n := by
  rw [gate_at x0 x1 x2 x3 x4 x5 x6 x7 x8 x9 x10]
  unfold Args.before
  by_cases h : d.val ≤ r.val % 16
  · refine (dif_neg (by omega)).trans ?_
    symm
    refine (if_pos h).trans ?_
    exact congrArg (fun z => (args x0 x1 x2 x3 x4 x5 x6 x7 x8 x9 x10).gate z n) (Fin.ext (by simp only; omega))
  · refine (dif_pos (by omega)).trans ?_
    symm
    refine (if_neg h).trans ?_
    refine congrArg (fun z => x4 (ix3 (⟨r.val / 16, by omega⟩ : Fin 16) z n)) (Fin.ext ?_)
    simp only [Fin.ofNat]
    omega

/-- The weighted gates of three rows. -/
theorem conv_at (r : Fin 256) (n : Fin 3072) :
    (val_main_v66 (F := Ideal) x0 x1 x2 x3 x4 x5 x6 x7 x8 x9) (ix2 r n) = conv (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) n := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43]
  have e0 : (args x0 x1 x2 x3 x4 x5 x6 x7 x8 x9 x10).before 0 r n = (args x0 x1 x2 x3 x4 x5 x6 x7 x8 x9 x10).gate r n := by
    unfold Args.before
    exact (if_pos (Nat.zero_le _)).trans (congrArg (fun z => (args x0 x1 x2 x3 x4 x5 x6 x7 x8 x9 x10).gate z n) (Fin.ext (Nat.sub_zero _)))
  unfold conv
  rw [← e0]
  refine congrArg₂ (· + ·) (congrArg₂ (· + ·) (congrArg₂ (· + ·) (congrArg₂ (· * ·) ?_ rfl) (congrArg₂ (· * ·) ?_ rfl)) (congrArg₂ (· * ·) ?_ rfl)) rfl
  · exact before_at x0 x1 x2 x3 x4 x5 x6 x7 x8 x9 x10 2 r n _ (by show r.val % 16 = r.val % 16 + 2 - 2; omega)
  · exact before_at x0 x1 x2 x3 x4 x5 x6 x7 x8 x9 x10 1 r n _ (by show 1 + r.val % 16 = r.val % 16 + 2 - 1; omega)
  · exact before_at x0 x1 x2 x3 x4 x5 x6 x7 x8 x9 x10 0 r n _ (by show 2 + r.val % 16 = r.val % 16 + 2 - 0; omega)

/-- What the last matrix is applied to. -/
theorem act_at (r : Fin 256) (n : Fin 3072) :
    (val_main_v80 (F := Ideal) x0 x1 x2 x3 x4 x5 x6 x7 x8 x9) (ix2 r n) = act (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) (values (args x0 x1 x2 x3 x4 x5 x6 x7 x8 x9 x10).w ((args x0 x1 x2 x3 x4 x5 x6 x7 x8 x9 x10).row r)) n := by
  pointwise [val_main_v80, val_main_v79, val_main_v78, val_main_v77, val_main_v76, val_main_v75, val_main_v74, val_main_v73, val_main_v72, val_main_v71, val_main_v70, val_main_v69, val_main_v68, val_main_v67, val_main_cst_5, val_main_cst_6, val_main_cst_7, val_main_cst_8]
  rw [conv_at x0 x1 x2 x3 x4 x5 x6 x7 x8 x9 x10, value_at x0 x1 x2 x3 x4 x5 x6 x7 x8 x9 x10]
  unfold act gelu
  generalize conv (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) n = z
  rw [mul_comm z (z * z)]

/-- The feed-forward block's sum. -/
theorem down_at (r : Fin 256) (j : Fin 1024) :
    (val_main_v83 (F := Ideal) x0 x1 x2 x3 x4 x5 x6 x7 x8 x9 x10) (ix2 r j) = down (args x0 x1 x2 x3 x4 x5 x6 x7 x8 x9 x10).w (act (args x0 x1 x2 x3 x4 x5 x6 x7 x8 x9 x10).w ((args x0 x1 x2 x3 x4 x5 x6 x7 x8 x9 x10).before 2 r) ((args x0 x1 x2 x3 x4 x5 x6 x7 x8 x9 x10).before 1 r) ((args x0 x1 x2 x3 x4 x5 x6 x7 x8 x9 x10).gate r) (values (args x0 x1 x2 x3 x4 x5 x6 x7 x8 x9 x10).w ((args x0 x1 x2 x3 x4 x5 x6 x7 x8 x9 x10).row r))) j := by
  pointwise [val_main_v83, val_main_v82, val_main_v81]
  exact Finset.sum_congr rfl fun k _ => congrArg₂ (· * ·) (act_at x0 x1 x2 x3 x4 x5 x6 x7 x8 x9 x10 r k) rfl

/-- The reference's first result. -/
theorem result (r : Fin 256) (j : Fin 1024) : (val_main_v99 (F := Ideal) x0 x1 x2 x3 x4 x5 x6 x7 x8 x9 x10) (ix2 r j) = (args x0 x1 x2 x3 x4 x5 x6 x7 x8 x9 x10).result r j := by
  pointwise [val_main_v99, val_main_v98, val_main_v97, val_main_v96, val_main_v95, val_main_v94, val_main_v93, val_main_v92, val_main_v91, val_main_v90, val_main_v89, val_main_v88, val_main_v87, val_main_v86, val_main_v85, val_main_v84, val_main_cst_9, val_main_cst_10, val_main_cst_11]
  simp only [first_at x0 x1 x2 x3 x4 x5 x6 x7 x8 x9 x10, down_at x0 x1 x2 x3 x4 x5 x6 x7 x8 x9 x10, Ideal.ofBits_zero_f32, zero_add]
  rfl

end Cert.Proof.PostS.Ref

end
-- ==== Proof.PostS.Tile.lean ====
/- What the one grid point of the kernel computes: sixteen rows of each of sixteen streams, over two rows of gates before each stream. -/
module

public import proofs.«01_k».proof.Proof.Gen.PostSIdeal.Value
public import proofs.«01_k».proof.Proof.Post.Spec
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Proof.PostS.Tile

open Cert.PostSIdeal Cert.PostSIdeal.Gen Idealize.ShloMosaic Idealize.ShloMosaic.TcCoe Idealize.SL.Sem Cert.Proof.Post

variable (X0 : Vec Ideal S256x1024 .f32) (X1 : Vec Ideal S256x256 .bf16) (X2 : Vec Ideal S256x512 .bf16) (X3 : Vec Ideal S256x256 .bf16)
  (X4 : Vec Ideal S2x256x3072 .f32) (X5 : Vec Ideal S4x1024 .f32) (X6 : Vec Ideal S1x1024x1024 .bf16) (X7 : Vec Ideal S1x1024x6144 .bf16) (X8 : Vec Ideal S3x3072 .f32)
  (X9 : Vec Ideal S1x3072 .f32) (X10 : Vec Ideal S1x3072x1024 .bf16)

/-- The weights, as the blocks hold them. -/
def weights : Weights where
  mix k j := X6 (ix3 (0 : Fin 1) k j)
  up k n := X7 (ix3 (0 : Fin 1) k n)
  down n j := X10 (ix3 (0 : Fin 1) n j)
  g1 j := X5 (ix2 (1 : Fin 4) j)
  g2 j := X5 (ix2 (2 : Fin 4) j)
  g3 j := X5 (ix2 (3 : Fin 4) j)
  conv k n := X8 (ix2 k n)
  bias n := X9 (ix2 (0 : Fin 1) n)

/-- Row `p` of the tile after the mixing. -/
def row (w : Weights) (p : Fin 256) : Fin 1024 → EReal :=
  first w (fun j => X0 (ix2 p j)) (mixed w (fun k => X1 (ix2 p k)) (fun k => X2 (ix2 p k)) (fun k => X3 (ix2 p k)))

/-! ## The kernel's steps at an entry -/

omit X0 X1 X2 X3 X4 X5 X6 X7 X8 X9 X10 in
/-- The mixing scaled to unit mean square. -/
theorem mix_step (v1 v2 v3 v4 v5 v6) (p : Fin 256) (u : Fin 1024 → EReal)
    (hu : ∀ j, (∑ x, v1 (ix2 p x) * v2 (ix3 (0 : Fin 1) x j)) + (∑ x, v3 (ix2 p x) * v4 (ix3 (0 : Fin 1) x j))
      + (∑ x, v5 (ix2 p x) * v6 (ix3 (0 : Fin 1) x j)) = u j) (j : Fin 1024) :
    k0_pay2 (F := Ideal) v1 v2 v3 v4 v5 v6 (ix2 p j) = u j * scale u := by
  pointwise [k0_pay2]
  unfold scale
  simp only [hu]

omit X0 X1 X2 X3 X4 X5 X6 X7 X8 X9 X10 in
/-- A row after the mixing. -/
theorem first_step (v1 : Vec Ideal S256x1024 .f32) (v2 v3 : FVec Ideal S256x1024 .f32) (p : Fin 256) (j : Fin 1024) :
    k0_pay4 v1 v2 v3 (ix2 p j) = v1 (ix2 p j) + v2 (ix2 p j) * v3 (ix2 p j) := by
  pointwise [k0_pay4]

omit X0 X1 X2 X3 X4 X5 X6 X7 X8 X9 X10 in
/-- The row that enters the feed-forward block. -/
theorem hidden_step (v1 : Vec Ideal S1x1024 .f32) (v2 : Vec Ideal S256x1024 .f32) (v3 v4 : FVec Ideal S256x1024 .f32) (p : Fin 256)
    (f : Fin 1024 → EReal) (hf : ∀ j, v2 (ix2 p j) + v3 (ix2 p j) * v4 (ix2 p j) = f j) (j : Fin 1024) :
    k0_pay5 v1 v2 v3 v4 (ix2 p j) = f j * scale f * v1 (ix2 (0 : Fin 1) j) := by
  pointwise [k0_pay5, k0_pay4]
  unfold scale
  simp only [hf]

omit X0 X1 X2 X3 X4 X5 X6 X7 X8 X9 X10 in
/-- A product with a part of the up matrix. -/
theorem up_step (v1 : Vec Ideal S1x1024 .f32) (v2 : Vec Ideal S256x1024 .f32) (v3 v4 : FVec Ideal S256x1024 .f32)
    (v5 : Vec Ideal S1x1024x1536 .bf16) (p : Fin 256) (n : Fin 1536) :
    k0_pay8 v1 v2 v3 v4 v5 (ix2 p n) = ∑ x, k0_pay5 v1 v2 v3 v4 (ix2 p x) * v5 (ix3 (0 : Fin 1) x n) := by
  pointwise [k0_pay8]

/-- An entry of a half tile `d` rows up in its stream, from the half's own rows or from the history. -/
def back (G : FVec Ideal S256x1536 .f32) (T : Vec Ideal S1x256x1536 .f32) (d : Fin 3) (p : Fin 256) (n : Fin 1536) : EReal :=
  if d.val ≤ p.val % 16 then G (ix2 (⟨p.val - d.val, by omega⟩ : Fin 256) n) else T (ix3 (0 : Fin 1) p n)

omit X0 X1 X2 X3 X4 X5 X6 X7 X8 X9 X10 in
/-- The kernel picks by a row's place in its stream. -/
theorem pick_one (p : Fin 256) (a b : EReal) :
    Scalar.select (α := EReal) (IntOp.cmpi CmpIPredicate.sge (IntOp.andi (BitVec.ofNat 32 p.val) 15#32) 1#32) a b = if 1 ≤ p.val % 16 then a else b := by
  have e : ∀ p : Fin 256, IntOp.cmpi CmpIPredicate.sge (IntOp.andi (BitVec.ofNat 32 p.val) 15#32) 1#32 = if 1 ≤ p.val % 16 then 1#1 else 0#1 := by
    decide +kernel
  rw [e p]
  unfold Scalar.select
  by_cases h : 1 ≤ p.val % 16
  · rw [if_pos h, if_pos h]
    rfl
  · rw [if_neg h, if_neg h]
    rfl

omit X0 X1 X2 X3 X4 X5 X6 X7 X8 X9 X10 in
/-- The kernel picks by a row's place in its stream. -/
theorem pick_two (p : Fin 256) (a b : EReal) :
    Scalar.select (α := EReal) (IntOp.cmpi CmpIPredicate.sge (IntOp.andi (BitVec.ofNat 32 p.val) 15#32) 2#32) a b = if 2 ≤ p.val % 16 then a else b := by
  have e : ∀ p : Fin 256, IntOp.cmpi CmpIPredicate.sge (IntOp.andi (BitVec.ofNat 32 p.val) 15#32) 2#32 = if 2 ≤ p.val % 16 then 1#1 else 0#1 := by
    decide +kernel
  rw [e p]
  unfold Scalar.select
  by_cases h : 2 ≤ p.val % 16
  · rw [if_pos h, if_pos h]
    rfl
  · rw [if_neg h, if_neg h]
    rfl

omit X0 X1 X2 X3 X4 X5 X6 X7 X8 X9 X10 in
/-- The half tile moved down by one, and the history at the front of a stream. -/
theorem back_one (G : FVec Ideal S256x1536 .f32) (T : Vec Ideal S1x256x1536 .f32) (p : Fin 256) (n : Fin 1536) :
    select (cmpi .sge (k0_pay6) (broadcast S256x1536 1#32)) (dynamicRotate 0 1#32 none G rotates_S256x1536_d0)
      (shapeCast S256x1536 T shapeCasts_S1x256x1536_S256x1536) (ix2 p n) = back G T 1 p n := by
  pointwise [k0_pay6]
  refine (pick_one p _ _).trans ?_
  unfold back
  have d1 : ((1 : Fin 3) : ℕ) = 1 := rfl
  by_cases h : 1 ≤ p.val % 16
  · have h2 : ((1 : Fin 3) : ℕ) ≤ p.val % 16 := h
    refine (if_pos h).trans ?_
    symm
    refine (if_pos h2).trans ?_
    exact congrArg (fun z => G (ix2 z n)) (Fin.ext (by dsimp only; omega))
  · have h2 : ¬ ((1 : Fin 3) : ℕ) ≤ p.val % 16 := h
    refine (if_neg h).trans ?_
    symm
    exact if_neg h2

omit X0 X1 X2 X3 X4 X5 X6 X7 X8 X9 X10 in
/-- The half tile moved down by two, and the history at the front of a stream. -/
theorem back_two (G : FVec Ideal S256x1536 .f32) (T : Vec Ideal S1x256x1536 .f32) (p : Fin 256) (n : Fin 1536) :
    select (cmpi .sge (k0_pay6) (broadcast S256x1536 2#32)) (dynamicRotate 0 2#32 none G rotates_S256x1536_d0)
      (shapeCast S256x1536 T shapeCasts_S1x256x1536_S256x1536) (ix2 p n) = back G T 2 p n := by
  pointwise [k0_pay6]
  refine (pick_two p _ _).trans ?_
  unfold back
  have d1 : ((2 : Fin 3) : ℕ) = 2 := rfl
  by_cases h : 2 ≤ p.val % 16
  · have h2 : ((2 : Fin 3) : ℕ) ≤ p.val % 16 := h
    refine (if_pos h).trans ?_
    symm
    refine (if_pos h2).trans ?_
    exact congrArg (fun z => G (ix2 z n)) (Fin.ext (by dsimp only; omega))
  · have h2 : ¬ ((2 : Fin 3) : ℕ) ≤ p.val % 16 := h
    refine (if_neg h).trans ?_
    symm
    exact if_neg h2

omit X0 X1 X2 X3 X4 X5 X6 X7 X8 X9 X10 in
/-- The weighted gates of three rows. -/
theorem conv_step (G : FVec Ideal S256x1536 .f32) (T1 T2 : Vec Ideal S1x256x1536 .f32) (c0 c1 c2 b : Vec Ideal S1x1536 .f32) (p : Fin 256) (n : Fin 1536) :
    k0_pay16 k0_pay6 G T1 T2 c0 c1 c2 b (ix2 p n)
      = back G T2 2 p n * c0 (ix2 (0 : Fin 1) n) + back G T1 1 p n * c1 (ix2 (0 : Fin 1) n) + G (ix2 p n) * c2 (ix2 (0 : Fin 1) n)
        + b (ix2 (0 : Fin 1) n) := by
  have e : k0_pay16 k0_pay6 G T1 T2 c0 c1 c2 b
      = addf (addf (addf (mulf (select (cmpi .sge (k0_pay6) (broadcast S256x1536 2#32)) (dynamicRotate 0 2#32 none G rotates_S256x1536_d0)
            (shapeCast S256x1536 T2 shapeCasts_S1x256x1536_S256x1536)) (broadcastTo S256x1536 c0 broadcasts_S1x1536_S256x1536))
          (mulf (select (cmpi .sge (k0_pay6) (broadcast S256x1536 1#32)) (dynamicRotate 0 1#32 none G rotates_S256x1536_d0)
            (shapeCast S256x1536 T1 shapeCasts_S1x256x1536_S256x1536)) (broadcastTo S256x1536 c1 broadcasts_S1x1536_S256x1536)))
        (mulf G (broadcastTo S256x1536 c2 broadcasts_S1x1536_S256x1536)))
        (broadcastTo S256x1536 (shapeCast S1x1536 b shapeCasts_S1x1536_S1x1536) broadcasts_S1x1536_S256x1536) := rfl
  rw [e, ← back_one, ← back_two]
  generalize select (cmpi .sge (k0_pay6) (broadcast S256x1536 2#32)) (dynamicRotate 0 2#32 none G rotates_S256x1536_d0)
            (shapeCast S256x1536 T2 shapeCasts_S1x256x1536_S256x1536) = A
  generalize select (cmpi .sge (k0_pay6) (broadcast S256x1536 1#32)) (dynamicRotate 0 1#32 none G rotates_S256x1536_d0)
            (shapeCast S256x1536 T1 shapeCasts_S1x256x1536_S256x1536) = B
  pointwise

/-- The activation of a half tile times its values. -/
def actV (K V : FVec Ideal S256x1536 .f32) : FVec Ideal S256x1536 .bf16 :=
  truncf .bf16 (mulf (mulf K (mulf (broadcast S256x1536 (Scalar.ofBits .f32 0x3F000000#32)) (addf (broadcast S256x1536 (Scalar.ofBits .f32 0x3F800000#32))
    (tanh (mulf (broadcast S256x1536 (Scalar.ofBits .f32 0x3F4C422A#32)) (addf K (mulf (broadcast S256x1536 (Scalar.ofBits .f32 0x3D372713#32))
      (mulf K (mulf K K))))))))) V) bitsLt_bf16_f32

omit X0 X1 X2 X3 X4 X5 X6 X7 X8 X9 X10 in
/-- The kernel's activation of the first half, its weighted gates named. -/
theorem act_eq (G V : FVec Ideal S256x1536 .f32) (T1 T2 : Vec Ideal S1x256x1536 .f32) (c0 c1 c2 b : Vec Ideal S1x1536 .f32) :
    k0_pay14 k0_pay6 G V k0_pay12 (dynamicRotate 0 1#32 none G rotates_S256x1536_d0) T1 T2 c0 c1 c2 b
      = actV (k0_pay16 k0_pay6 G T1 T2 c0 c1 c2 b) V := rfl

omit X0 X1 X2 X3 X4 X5 X6 X7 X8 X9 X10 in
/-- The activation at an entry. -/
theorem actV_at (K V : FVec Ideal S256x1536 .f32) (p : Fin 256) (n : Fin 1536) : actV K V (ix2 p n) = gelu (K (ix2 p n)) * V (ix2 p n) := by
  pointwise [actV]
  rfl

omit X0 X1 X2 X3 X4 X5 X6 X7 X8 X9 X10 in
/-- The sum of the first half. -/
theorem half_step (v : FVec Ideal S256x1024 .f32) (A : FVec Ideal S256x1536 .bf16) (D : Vec Ideal S1x1536x1024 .bf16) (p : Fin 256) (j : Fin 1024) :
    k0_pay15 v A D (ix2 p j) = v (ix2 p j) + ∑ x, A (ix2 p x) * D (ix3 (0 : Fin 1) x j) := by
  pointwise [k0_pay15]

/-- The last step of the tile: the sum of both halves scaled to unit mean square and added. -/
def lastV (v2 : Vec Ideal S1x1024 .f32) (v30 v106 : FVec Ideal S256x1024 .f32) (A : FVec Ideal S256x1536 .bf16) (D : Vec Ideal S1x1536x1024 .bf16) :
    FVec Ideal S256x1024 .f32 :=
  have S : FVec Ideal S256x1024 .f32 := addf v106 (matmul dot_S256x1536_S1536x1024_S256x1024_1_0_0_1_n_n none A
    (shapeCast S1536x1024 D shapeCasts_S1x1536x1024_S1536x1024 : FVec Ideal S1536x1024 .bf16) (constant S256x1024 .f32 0x00000000#32))
  addf v30 (mulf (mulf S (broadcastTo S256x1024 (rsqrt (addf (divf (shapeCast S256x1 (multiReduction .add [1] S256 (mulf S S) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024)) (broadcastTo S256x1024 v2 broadcasts_S1x1024_S256x1024))

omit X0 X1 X2 X3 X4 X5 X6 X7 X8 X9 X10 in
/-- The kernel's last step, its activation named. -/
theorem last_eq (v2 : Vec Ideal S1x1024 .f32) (v30 v106 : FVec Ideal S256x1024 .f32) (V K : FVec Ideal S256x1536 .f32) (D : Vec Ideal S1x1536x1024 .bf16) :
    k0_pay1 v2 v30 V v106 K (mulf K (mulf K K)) (Scalar.ofBits .f32 0x3D372713#32) D = lastV v2 v30 v106 (actV K V) D := rfl

omit X0 X1 X2 X3 X4 X5 X6 X7 X8 X9 X10 in
/-- The last step at an entry. -/
theorem second_step (v1 : Vec Ideal S1x1024 .f32) (v2 v3 : FVec Ideal S256x1024 .f32) (v4 : FVec Ideal S256x1536 .bf16)
    (v5 : Vec Ideal S1x1536x1024 .bf16) (p : Fin 256) (u : Fin 1024 → EReal)
    (hu : ∀ j, v3 (ix2 p j) + (∑ x, v4 (ix2 p x) * v5 (ix3 (0 : Fin 1) x j)) = u j) (j : Fin 1024) :
    lastV v1 v2 v3 v4 v5 (ix2 p j) = v2 (ix2 p j) + u j * scale u * v1 (ix2 (0 : Fin 1) j) := by
  pointwise [lastV]
  unfold scale
  simp only [hu]

/-- The mixing scaled to unit mean square. -/
def mixV : FVec Ideal S256x1024 .f32 :=
  k0_pay2 X1 (View.ld X6 (Rect.unit (s := S1x1024x1024) ![0, 0, 0] S1x256x1024.size inb_S1x1024x1024_S1x256x1024_0_0_0)) X2
    (View.ld X6 (Rect.unit (s := S1x1024x1024) ![0, 256, 0] S1x512x1024.size inb_S1x1024x1024_S1x512x1024_0_256_0)) X3
    (View.ld X6 (Rect.unit (s := S1x1024x1024) ![0, 768, 0] S1x256x1024.size inb_S1x1024x1024_S1x256x1024_0_768_0))

/-- Two rows of the norms' weights. -/
def g1V : FVec Ideal S256x1024 .f32 := k0_pay3 (View.ld X5 (Rect.unit (s := S4x1024) ![1, 0] S1x1024.size inb_S4x1024_S1x1024_1_0))
def g2V : Vec Ideal S1x1024 .f32 := View.ld X5 (Rect.unit (s := S4x1024) ![2, 0] S1x1024.size inb_S4x1024_S1x1024_2_0)

/-- The gates and the values of the tile, each in two halves. -/
def gate0 : FVec Ideal S256x1536 .f32 := k0_pay8 (g2V X5) X0 (mixV X1 X2 X3 X6) (g1V X5)
  (View.ld X7 (Rect.unit (s := S1x1024x6144) ![0, 0, 0] S1x1024x1536.size inb_S1x1024x6144_S1x1024x1536_0_0_0))
def value0 : FVec Ideal S256x1536 .f32 := k0_pay9 (g2V X5) X0 (mixV X1 X2 X3 X6) (g1V X5)
  (View.ld X7 (Rect.unit (s := S1x1024x6144) ![0, 0, 3072] S1x1024x1536.size inb_S1x1024x6144_S1x1024x1536_0_0_3072))
def gate1 : FVec Ideal S256x1536 .f32 := k0_pay10 (g2V X5) X0 (mixV X1 X2 X3 X6) (g1V X5)
  (View.ld X7 (Rect.unit (s := S1x1024x6144) ![0, 0, 1536] S1x1024x1536.size inb_S1x1024x6144_S1x1024x1536_0_0_1536))
def value1 : FVec Ideal S256x1536 .f32 := k0_pay11 (g2V X5) X0 (mixV X1 X2 X3 X6) (g1V X5)
  (View.ld X7 (Rect.unit (s := S1x1024x6144) ![0, 0, 4608] S1x1024x1536.size inb_S1x1024x6144_S1x1024x1536_0_0_4608))

/-- The weighted gates of the tile, in two halves. -/
def conv0 : FVec Ideal S256x1536 .f32 := k0_pay16 k0_pay6 (gate0 X0 X1 X2 X3 X5 X6 X7) (View.ld X4 (Rect.unit (s := S2x256x3072) ![1, 0, 0] S1x256x1536.size inb_S2x256x3072_S1x256x1536_1_0_0)) (View.ld X4 (Rect.unit (s := S2x256x3072) ![0, 0, 0] S1x256x1536.size inb_S2x256x3072_S1x256x1536_0_0_0))
    (View.ld X8 (Rect.unit (s := S3x3072) ![0, 0] S1x1536.size inb_S3x3072_S1x1536_0_0)) (View.ld X8 (Rect.unit (s := S3x3072) ![1, 0] S1x1536.size inb_S3x3072_S1x1536_1_0))
    (View.ld X8 (Rect.unit (s := S3x3072) ![2, 0] S1x1536.size inb_S3x3072_S1x1536_2_0)) (View.ld X9 (Rect.unit (s := S1x3072) ![0, 0] S1x1536.size inb_S1x3072_S1x1536_0_0))
def conv1 : FVec Ideal S256x1536 .f32 := k0_pay16 k0_pay6 (gate1 X0 X1 X2 X3 X5 X6 X7) (View.ld X4 (Rect.unit (s := S2x256x3072) ![1, 0, 1536] S1x256x1536.size inb_S2x256x3072_S1x256x1536_1_0_1536)) (View.ld X4 (Rect.unit (s := S2x256x3072) ![0, 0, 1536] S1x256x1536.size inb_S2x256x3072_S1x256x1536_0_0_1536))
    (View.ld X8 (Rect.unit (s := S3x3072) ![0, 1536] S1x1536.size inb_S3x3072_S1x1536_0_1536)) (View.ld X8 (Rect.unit (s := S3x3072) ![1, 1536] S1x1536.size inb_S3x3072_S1x1536_1_1536))
    (View.ld X8 (Rect.unit (s := S3x3072) ![2, 1536] S1x1536.size inb_S3x3072_S1x1536_2_1536)) (View.ld X9 (Rect.unit (s := S1x3072) ![0, 1536] S1x1536.size inb_S1x3072_S1x1536_0_1536))

/-- The tile's result. -/
def out : FVec Ideal S256x1024 .f32 :=
  lastV (View.ld X5 (Rect.unit (s := S4x1024) ![3, 0] S1x1024.size inb_S4x1024_S1x1024_3_0)) (k0_pay4 X0 (mixV X1 X2 X3 X6) (g1V X5))
    (k0_pay15 k0_pay7 (actV (conv0 X0 X1 X2 X3 X4 X5 X6 X7 X8 X9) (value0 X0 X1 X2 X3 X5 X6 X7)) (View.ld X10 (Rect.unit (s := S1x3072x1024) ![0, 0, 0] S1x1536x1024.size inb_S1x3072x1024_S1x1536x1024_0_0_0)))
    (actV (conv1 X0 X1 X2 X3 X4 X5 X6 X7 X8 X9) (value1 X0 X1 X2 X3 X5 X6 X7)) (View.ld X10 (Rect.unit (s := S1x3072x1024) ![0, 1536, 0] S1x1536x1024.size inb_S1x3072x1024_S1x1536x1024_0_1536_0))

/-! ## The tile over the weights -/

/-- A load of a part of a block reads the block. -/
theorem ld_at {S : Shape} {e : EltTy} (X : Vec Ideal S e) (off size : Fin S.rank → ℕ) (inb) (x : (Rect.unit off size inb).shape.Idx)
    (i : S.Idx) (hi : ∀ a, (i a : ℕ) = off a + x a) : View.ld X (Rect.unit off size inb) x = X i :=
  View.ld_unit_apply_of X off size inb x i hi

/-- The mixing of a row, scaled. -/
theorem mixV_at (p : Fin 256) (j : Fin 1024) :
    mixV X1 X2 X3 X6 (ix2 p j)
      = mixed (weights X5 X6 X7 X8 X9 X10) (fun k => X1 (ix2 p k)) (fun k => X2 (ix2 p k)) (fun k => X3 (ix2 p k)) j
        * scale (mixed (weights X5 X6 X7 X8 X9 X10) (fun k => X1 (ix2 p k)) (fun k => X2 (ix2 p k)) (fun k => X3 (ix2 p k))) := by
  refine mix_step _ _ _ _ _ _ p _ (fun j => ?_) j
  refine congrArg₂ (· + ·) (congrArg₂ (· + ·) ?_ ?_) ?_
  · refine Finset.sum_congr rfl fun x _ => congrArg (X1 (ix2 p x) * ·) ?_
    exact ld_at X6 _ _ _ _ _ (fun a => by fin_cases a <;> simp)
  · refine Finset.sum_congr rfl fun x _ => congrArg (X2 (ix2 p x) * ·) ?_
    exact ld_at X6 _ _ _ _ _ (fun a => by fin_cases a <;> simp)
  · refine Finset.sum_congr rfl fun x _ => congrArg (X3 (ix2 p x) * ·) ?_
    exact ld_at X6 _ _ _ _ _ (fun a => by fin_cases a <;> simp)

/-- A row after the mixing. -/
theorem row_at (p : Fin 256) (j : Fin 1024) :
    X0 (ix2 p j) + mixV X1 X2 X3 X6 (ix2 p j) * g1V X5 (ix2 p j) = row X0 X1 X2 X3 (weights X5 X6 X7 X8 X9 X10) p j := by
  rw [mixV_at X1 X2 X3 X5 X6 X7 X8 X9 X10 p j]
  unfold row first
  refine congrArg₂ (· + ·) rfl (congrArg₂ (· * ·) rfl ?_)
  unfold g1V
  refine Eq.trans (b := View.ld X5 (Rect.unit (s := S4x1024) ![1, 0] S1x1024.size inb_S4x1024_S1x1024_1_0) (ix2 (0 : Fin 1) j)) ?_ ?_
  · generalize View.ld X5 (Rect.unit (s := S4x1024) ![1, 0] S1x1024.size inb_S4x1024_S1x1024_1_0) = A
    pointwise [k0_pay3]
  exact ld_at X5 _ _ _ _ _ (fun a => by fin_cases a <;> simp)

/-- A row that enters the feed-forward block. -/
theorem hidden_at (p : Fin 256) (j : Fin 1024) :
    k0_pay5 (g2V X5) X0 (mixV X1 X2 X3 X6) (g1V X5) (ix2 p j) = hidden (weights X5 X6 X7 X8 X9 X10) (row X0 X1 X2 X3 (weights X5 X6 X7 X8 X9 X10) p) j := by
  rw [hidden_step _ _ _ _ p (row X0 X1 X2 X3 (weights X5 X6 X7 X8 X9 X10) p) (row_at X0 X1 X2 X3 X5 X6 X7 X8 X9 X10 p) j]
  refine congrArg (fun z => row X0 X1 X2 X3 (weights X5 X6 X7 X8 X9 X10) p j * scale (row X0 X1 X2 X3 (weights X5 X6 X7 X8 X9 X10) p) * z) ?_
  exact ld_at X5 _ _ _ _ _ (fun a => by fin_cases a <;> simp)

/-- The gates of a row, first half. -/
theorem gate0_at (p : Fin 256) (n : Fin 1536) :
    gate0 X0 X1 X2 X3 X5 X6 X7 (ix2 p n) = gates (weights X5 X6 X7 X8 X9 X10) (row X0 X1 X2 X3 (weights X5 X6 X7 X8 X9 X10) p) ⟨n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

/-- The gates of a row, second half. -/
theorem gate1_at (p : Fin 256) (n : Fin 1536) :
    gate1 X0 X1 X2 X3 X5 X6 X7 (ix2 p n) = gates (weights X5 X6 X7 X8 X9 X10) (row X0 X1 X2 X3 (weights X5 X6 X7 X8 X9 X10) p) ⟨1536 + n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

/-- The values of a row, first half. -/
theorem value0_at (p : Fin 256) (n : Fin 1536) :
    value0 X0 X1 X2 X3 X5 X6 X7 (ix2 p n) = values (weights X5 X6 X7 X8 X9 X10) (row X0 X1 X2 X3 (weights X5 X6 X7 X8 X9 X10) p) ⟨n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp)

/-- The values of a row, second half. -/
theorem value1_at (p : Fin 256) (n : Fin 1536) :
    value1 X0 X1 X2 X3 X5 X6 X7 (ix2 p n) = values (weights X5 X6 X7 X8 X9 X10) (row X0 X1 X2 X3 (weights X5 X6 X7 X8 X9 X10) p) ⟨1536 + n.val, by omega⟩ := by
  refine (up_step _ _ _ _ _ p n).trans (Finset.sum_congr rfl fun k _ => congrArg₂ (· * ·) (hidden_at X0 X1 X2 X3 X5 X6 X7 X8 X9 X10 p k) ?_)
  exact ld_at X7 _ _ _ _ _ (fun a => by fin_cases a <;> simp [← Nat.add_assoc])

/-- The gates `d` rows before a row of the tile, from the tile or from the history. -/
def prior (d : Fin 3) (p : Fin 256) (n : Fin 3072) : EReal :=
  if d.val ≤ p.val % 16 then gates (weights X5 X6 X7 X8 X9 X10) (row X0 X1 X2 X3 (weights X5 X6 X7 X8 X9 X10) ⟨p.val - d.val, by omega⟩) n
  else X4 (ix3 (Fin.ofNat 2 (2 - d.val)) p n)

/-- The weighted gates of a row, first half. -/
theorem conv0_at (p : Fin 256) (n : Fin 1536) : conv0 X0 X1 X2 X3 X4 X5 X6 X7 X8 X9 (ix2 p n)
    = conv (weights X5 X6 X7 X8 X9 X10) (prior X0 X1 X2 X3 X4 X5 X6 X7 X8 X9 X10 2 p) (prior X0 X1 X2 X3 X4 X5 X6 X7 X8 X9 X10 1 p) (gates (weights X5 X6 X7 X8 X9 X10) (row X0 X1 X2 X3 (weights X5 X6 X7 X8 X9 X10) p)) ⟨n.val, by omega⟩ := by
  have b : ∀ (d : Fin 3) (T : Vec Ideal S1x256x1536 .f32), (∀ p n, T (ix3 (0 : Fin 1) p n) = X4 (ix3 (Fin.ofNat 2 (2 - d.val)) p ⟨n.val, by omega⟩))
      → back (gate0 X0 X1 X2 X3 X5 X6 X7) T d p n = prior X0 X1 X2 X3 X4 X5 X6 X7 X8 X9 X10 d p ⟨n.val, by omega⟩ := by
    intro d T hT
    unfold back prior
    split
    · exact gate0_at X0 X1 X2 X3 X5 X6 X7 X8 X9 X10 _ n
    · exact hT _ n
  refine (conv_step (gate0 X0 X1 X2 X3 X5 X6 X7) _ _ _ _ _ _ p n).trans ?_
  refine congrArg₂ (· + ·) (congrArg₂ (· + ·) (congrArg₂ (· + ·) (congrArg₂ (· * ·) ?_ ?_) (congrArg₂ (· * ·) ?_ ?_)) (congrArg₂ (· * ·) ?_ ?_)) ?_
  · exact b 2 _ fun p n => ld_at X4 _ _ _ _ _ (fun a => by fin_cases a <;> simp)
  · exact ld_at X8 _ _ _ _ _ (fun a => by fin_cases a <;> simp)
  · exact b 1 _ fun p n => ld_at X4 _ _ _ _ _ (fun a => by fin_cases a <;> simp)
  · exact ld_at X8 _ _ _ _ _ (fun a => by fin_cases a <;> simp)
  · exact gate0_at X0 X1 X2 X3 X5 X6 X7 X8 X9 X10 p n
  · exact ld_at X8 _ _ _ _ _ (fun a => by fin_cases a <;> simp)
  · exact ld_at X9 _ _ _ _ _ (fun a => by fin_cases a <;> simp)

/-- The weighted gates of a row, second half. -/
theorem conv1_at (p : Fin 256) (n : Fin 1536) : conv1 X0 X1 X2 X3 X4 X5 X6 X7 X8 X9 (ix2 p n)
    = conv (weights X5 X6 X7 X8 X9 X10) (prior X0 X1 X2 X3 X4 X5 X6 X7 X8 X9 X10 2 p) (prior X0 X1 X2 X3 X4 X5 X6 X7 X8 X9 X10 1 p) (gates (weights X5 X6 X7 X8 X9 X10) (row X0 X1 X2 X3 (weights X5 X6 X7 X8 X9 X10) p)) ⟨1536 + n.val, by omega⟩ := by
  have b : ∀ (d : Fin 3) (T : Vec Ideal S1x256x1536 .f32), (∀ p n, T (ix3 (0 : Fin 1) p n) = X4 (ix3 (Fin.ofNat 2 (2 - d.val)) p ⟨1536 + n.val, by omega⟩))
      → back (gate1 X0 X1 X2 X3 X5 X6 X7) T d p n = prior X0 X1 X2 X3 X4 X5 X6 X7 X8 X9 X10 d p ⟨1536 + n.val, by omega⟩ := by
    intro d T hT
    unfold back prior
    split
    · exact gate1_at X0 X1 X2 X3 X5 X6 X7 X8 X9 X10 _ n
    · exact hT _ n
  refine (conv_step (gate1 X0 X1 X2 X3 X5 X6 X7) _ _ _ _ _ _ p n).trans ?_
  refine congrArg₂ (· + ·) (congrArg₂ (· + ·) (congrArg₂ (· + ·) (congrArg₂ (· * ·) ?_ ?_) (congrArg₂ (· * ·) ?_ ?_)) (congrArg₂ (· * ·) ?_ ?_)) ?_
  · exact b 2 _ fun p n => ld_at X4 _ _ _ _ _ (fun a => by fin_cases a <;> simp)
  · exact ld_at X8 _ _ _ _ _ (fun a => by fin_cases a <;> simp)
  · exact b 1 _ fun p n => ld_at X4 _ _ _ _ _ (fun a => by fin_cases a <;> simp)
  · exact ld_at X8 _ _ _ _ _ (fun a => by fin_cases a <;> simp)
  · exact gate1_at X0 X1 X2 X3 X5 X6 X7 X8 X9 X10 p n
  · exact ld_at X8 _ _ _ _ _ (fun a => by fin_cases a <;> simp)
  · exact ld_at X9 _ _ _ _ _ (fun a => by fin_cases a <;> simp)

/-- The tile's result: each row after the feed-forward block, its gates taken together with those of the two rows before it. -/
theorem out_at (p : Fin 256) (j : Fin 1024) :
    out X0 X1 X2 X3 X4 X5 X6 X7 X8 X9 X10 (ix2 p j) = second (weights X5 X6 X7 X8 X9 X10) (row X0 X1 X2 X3 (weights X5 X6 X7 X8 X9 X10) p) (down (weights X5 X6 X7 X8 X9 X10) (act (weights X5 X6 X7 X8 X9 X10) (prior X0 X1 X2 X3 X4 X5 X6 X7 X8 X9 X10 2 p) (prior X0 X1 X2 X3 X4 X5 X6 X7 X8 X9 X10 1 p) (gates (weights X5 X6 X7 X8 X9 X10) (row X0 X1 X2 X3 (weights X5 X6 X7 X8 X9 X10) p)) (values (weights X5 X6 X7 X8 X9 X10) (row X0 X1 X2 X3 (weights X5 X6 X7 X8 X9 X10) p)))) j := by
  refine (second_step _ _ _ _ _ p (down (weights X5 X6 X7 X8 X9 X10) (act (weights X5 X6 X7 X8 X9 X10) (prior X0 X1 X2 X3 X4 X5 X6 X7 X8 X9 X10 2 p) (prior X0 X1 X2 X3 X4 X5 X6 X7 X8 X9 X10 1 p) (gates (weights X5 X6 X7 X8 X9 X10) (row X0 X1 X2 X3 (weights X5 X6 X7 X8 X9 X10) p)) (values (weights X5 X6 X7 X8 X9 X10) (row X0 X1 X2 X3 (weights X5 X6 X7 X8 X9 X10) p)))) (fun j => ?_) j).trans ?_
  · rw [down_halves, half_step]
    refine congrArg₂ (· + ·) ?_ ?_
    · refine Eq.trans (b := 0 + ∑ n : Fin 1536, _) (congrArg₂ (· + ·) ?_ (Finset.sum_congr rfl fun n _ => ?_)) (zero_add _)
      · pointwise [k0_pay7]
      · refine congrArg₂ (· * ·) ((actV_at _ _ p n).trans (congrArg₂ (· * ·) (congrArg gelu ?_) ?_)) ?_
        · exact conv0_at X0 X1 X2 X3 X4 X5 X6 X7 X8 X9 X10 p n
        · exact value0_at X0 X1 X2 X3 X5 X6 X7 X8 X9 X10 p n
        · exact ld_at X10 _ _ _ _ _ (fun a => by fin_cases a <;> simp)
    · refine Finset.sum_congr rfl fun n _ => congrArg₂ (· * ·) ((actV_at _ _ p n).trans (congrArg₂ (· * ·) (congrArg gelu ?_) ?_)) ?_
      · exact conv1_at X0 X1 X2 X3 X4 X5 X6 X7 X8 X9 X10 p n
      · exact value1_at X0 X1 X2 X3 X5 X6 X7 X8 X9 X10 p n
      · exact ld_at X10 _ _ _ _ _ (fun a => by fin_cases a <;> simp)
  · unfold second
    refine congrArg₂ (· + ·) ?_ (congrArg₂ (· * ·) rfl ?_)
    · exact (first_step _ _ _ p j).trans (row_at X0 X1 X2 X3 X5 X6 X7 X8 X9 X10 p j)
    · exact ld_at X5 _ _ _ _ _ (fun a => by fin_cases a <;> simp)

end Cert.Proof.PostS.Tile

end
-- ==== Proof.PostS.Point.lean ====
/- What the one grid point leaves: its block of the result, and the gates. -/
module

public import proofs.«01_k».proof.Proof.PostS.Tile
public import Idealize.ShloMosaic.Lib.Pipeline.ReadBack
public import Idealize.ShloMosaic.Lib.Pipeline.ValueKit.Tiles

@[expose] public section

set_option maxRecDepth 16384

noncomputable section

namespace Cert.Proof.PostS.Point

open Cert.PostSIdeal Cert.PostSIdeal.Gen Idealize.ShloMosaic Idealize.ShloMosaic.TcCoe Idealize.SL.Sem Cert.Proof.Post Cert.Proof.PostS.Tile

/-- The result that a run of the body leaves, from any blocks. -/
theorem open_result (c : Dev nD) (i : grid0.Coords) (a0) (h0) (a1) (h1) (a2) (h2) (a3) (h3) (a4) (h4) (a5) (h5) (a6) (h6) (a7) (h7) (a8) (h8) (a9) (h9) (a10) (h10) (a11) (h11) (a12) (h12) (a13) (h13) (x0) (x1) (x2) (x3) (x4) (x5) (x6) (x7) (x8) (x9) (x10) :
    out0_A_11 (F := Ideal) c i a0 h0 a1 h1 a2 h2 a3 h3 a4 h4 a5 h5 a6 h6 a7 h7 a8 h8 a9 h9 a10 h10 a11 h11 a12 h12 a13 h13 x0 x1 x2 x3 x4 x5 x6 x7 x8 x9 x10 = out x0 x1 x2 x3 x4 x5 x6 x7 x8 x9 x10 := by
  frame_out
  refine Eq.trans (congrArg₂ (fun a b => k0_pay1 (F := Ideal) _ _ _ (k0_pay15 _ a _) b _ _ _) (act_eq _ _ _ _ _ _ _ _) rfl) ?_
  exact last_eq _ _ _ _ _ _

/-- A gate of the tile. -/
def gateAt (x0 : Vec Ideal S256x1024 .f32) (x1 : Vec Ideal S256x256 .bf16) (x2 : Vec Ideal S256x512 .bf16) (x3 : Vec Ideal S256x256 .bf16)
    (x5 : Vec Ideal S4x1024 .f32) (x6 : Vec Ideal S1x1024x1024 .bf16) (x7 : Vec Ideal S1x1024x6144 .bf16) (x8 : Vec Ideal S3x3072 .f32)
    (x9 : Vec Ideal S1x3072 .f32) (x10 : Vec Ideal S1x3072x1024 .bf16) (p : Fin 256) (n : Fin 3072) : EReal :=
  gates (weights x5 x6 x7 x8 x9 x10) (row x0 x1 x2 x3 (weights x5 x6 x7 x8 x9 x10) p) n

/-- The second half of the gates is stored to the right of the first. -/
theorem part1 (x0 x1 x2 x3 x5 x6 x7 x8 x9 x10) (x : S256x1536.Idx) : gate1 x0 x1 x2 x3 x5 x6 x7 x
      = (fun y : S256x3072.Idx => gateAt x0 x1 x2 x3 x5 x6 x7 x8 x9 x10 (y 0) (y 1)) ((Rect.unit (s := S256x3072) ![0, 1536] ![256, 1536] inb_S256x3072_S256x1536_0_1536).emb x) := by
  obtain ⟨p, n, rfl⟩ : ∃ (p : Fin 256) (n : Fin 1536), x = ix2 p n := ⟨x 0, x 1, eq_ix2 x⟩
  refine (gate1_at x0 x1 x2 x3 x5 x6 x7 x8 x9 x10 p n).trans (congrArg₂ (gateAt x0 x1 x2 x3 x5 x6 x7 x8 x9 x10) (Fin.ext ?_) (Fin.ext ?_))
  · exact (Nat.zero_add p.val).symm.trans (Rect.idx_unit_val (s := S256x3072) ![0, 1536] ![256, 1536] inb_S256x3072_S256x1536_0_1536 (ix2 p n) 0).symm
  · exact (Rect.idx_unit_val (s := S256x3072) ![0, 1536] ![256, 1536] inb_S256x3072_S256x1536_0_1536 (ix2 p n) 1).symm

/-- The first half of the gates is stored on the left. -/
theorem part0 (x0 x1 x2 x3 x5 x6 x7 x8 x9 x10) (x : S256x1536.Idx) : gate0 x0 x1 x2 x3 x5 x6 x7 x
      = (fun y : S256x3072.Idx => gateAt x0 x1 x2 x3 x5 x6 x7 x8 x9 x10 (y 0) (y 1)) ((Rect.unit (s := S256x3072) ![0, 0] ![256, 1536] inb_S256x3072_S256x1536_0_0).emb x) := by
  obtain ⟨p, n, rfl⟩ : ∃ (p : Fin 256) (n : Fin 1536), x = ix2 p n := ⟨x 0, x 1, eq_ix2 x⟩
  refine (gate0_at x0 x1 x2 x3 x5 x6 x7 x8 x9 x10 p n).trans (congrArg₂ (gateAt x0 x1 x2 x3 x5 x6 x7 x8 x9 x10) (Fin.ext ?_) (Fin.ext ?_))
  · exact (Nat.zero_add p.val).symm.trans (Rect.idx_unit_val (s := S256x3072) ![0, 0] ![256, 1536] inb_S256x3072_S256x1536_0_0 (ix2 p n) 0).symm
  · exact (Nat.zero_add n.val).symm.trans (Rect.idx_unit_val (s := S256x3072) ![0, 0] ![256, 1536] inb_S256x3072_S256x1536_0_0 (ix2 p n) 1).symm

/-- The gates that a run of the body leaves, from any blocks. -/
theorem open_gate (c : Dev nD) (i : grid0.Coords) (a0) (h0) (a1) (h1) (a2) (h2) (a3) (h3) (a4) (h4) (a5) (h5) (a6) (h6) (a7) (h7) (a8) (h8) (a9) (h9) (a10) (h10) (a11) (h11) (a12) (h12) (a13) (h13) (x0) (x1) (x2) (x3) (x4) (x5) (x6) (x7) (x8) (x9) (x10) (y : S256x3072.Idx) :
    out0_A_12 (F := Ideal) c i a0 h0 a1 h1 a2 h2 a3 h3 a4 h4 a5 h5 a6 h6 a7 h7 a8 h8 a9 h9 a10 h10 a11 h11 a12 h12 a13 h13 x0 x1 x2 x3 x4 x5 x6 x7 x8 x9 x10 y = gateAt x0 x1 x2 x3 x5 x6 x7 x8 x9 x10 (y 0) (y 1) := by
  frame_out
  refine (congrFun (congrArg View.canon (List.append_nil _).symm) y).trans ?_
  refine View.canon_append_of_piecesOf (Val := Elt Ideal) (e := .f32) (fun y : S256x3072.Idx => gateAt x0 x1 x2 x3 x5 x6 x7 x8 x9 x10 (y 0) (y 1)) [] _ ?_ y ?_
  · exact ⟨part1 x0 x1 x2 x3 x5 x6 x7 x8 x9 x10, part0 x0 x1 x2 x3 x5 x6 x7 x8 x9 x10, trivial⟩
  · exact View.cover_of_tiledL (s := S256x3072) _ ![256, 1536] (by sl_kernel_rfl) y

variable (m : (ℓ : Loc nD τ sig) → Buf (Elt Ideal) ℓ) (c : Dev nD) (t : Fin cfg0.N)

set_option maxHeartbeats 1000000 in
/-- The point's result, from its blocks. -/
theorem stored_result : (outsAt0 m c t).1 = out (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  have e : (outsAt0 m c t).1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    dsimp only [outsAt0]
  rw [e, open_result]

set_option maxHeartbeats 1000000 in
/-- The point's gates, from its blocks. -/
theorem stored_gate (y : S256x3072.Idx) : (outsAt0 m c t).2 y = gateAt (iblk m c 0 t) (iblk m c 1 t) (iblk m c 2 t) (iblk m c 3 t) (iblk m c 5 t) (iblk m c 6 t) (iblk m c 7 t) (iblk m c 8 t) (iblk m c 9 t) (iblk m c 10 t) (y 0) (y 1) := by
  have e : (outsAt0 m c t).2 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
    dsimp only [outsAt0]
  rw [e, open_gate]

end Cert.Proof.PostS.Point

end
-- ==== Proof.PostS.Array.lean ====
/- The two arrays the kernel leaves over the sample: the layer step of the arguments. -/
module

public import proofs.«01_k».proof.Proof.PostS.Point
public import proofs.«01_k».proof.Proof.PostS.Layer
public import Idealize.ShloMosaic.Lib.StableHlo.ReadAt
public import Idealize.ShloMosaic.Lib.Pipeline.ValueKit.Point

@[expose] public section

set_option maxRecDepth 16384

noncomputable section

namespace Cert.Proof.PostS.Array

open Cert.PostSIdeal Cert.PostSIdeal.Gen Idealize.ShloMosaic Idealize.ShloMosaic.TcCoe Idealize.SL.Sem Cert.Proof.Post Cert.Proof.PostS.Tile Cert.Proof.PostS.Point

/-- The step's arguments as arrays of numbers. -/
def argsOf (a0 : Vec Ideal S256x1024 .f32) (a1 : Vec Ideal S256x256 .bf16) (a2 : Vec Ideal S256x512 .bf16) (a3 : Vec Ideal S256x256 .bf16)
    (a4 : Vec Ideal S16x2x3072 .f32) (a5 : Vec Ideal S4x1024 .f32) (a6 : Vec Ideal S4x1024x1024 .f32) (a7 : Vec Ideal S4x1024x6144 .f32)
    (a8 : Vec Ideal S3x3072 .f32) (a9 : Vec Ideal S3072 .f32) (a10 : Vec Ideal S4x3072x1024 .f32) : Args where
  x r j := a0 (ix2 r j)
  of r k := a1 (ix2 r k)
  ol r k := a2 (ix2 r k)
  ob r k := a3 (ix2 r k)
  hist b a n := a4 (ix3 b a n)
  w := { mix := fun k j => a6 (ix3 (0 : Fin 4) k j), up := fun k n => a7 (ix3 (0 : Fin 4) k n), down := fun n j => a10 (ix3 (0 : Fin 4) n j),
         g1 := fun j => a5 (ix2 (1 : Fin 4) j), g2 := fun j => a5 (ix2 (2 : Fin 4) j), g3 := fun j => a5 (ix2 (3 : Fin 4) j),
         conv := fun k n => a8 (ix2 k n), bias := fun n => a9 (ix1 n) }

variable (m : (ℓ : Loc nD τ sig) → Buf (Elt Ideal) ℓ) (c : Dev nD) (t : Fin cfg0.N)

/-- The program's arguments. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

/-! ## What the host steps before the kernel hand to it -/

/-- The bias. -/
theorem bias_row (n : Fin 3072) : V m c main_v0 (ix2 (0 : Fin 1) n) = (args m c).w.bias n := by
  unfold V
  after_reads_at
  rfl

/-- The mixing matrices. -/
theorem mix_matrix (l : Fin 4) (k j : Fin 1024) : V m c main_v1 (ix3 l k j) = m ((c : Thread nD τ).loc main_arg6) (ix3 l k j) := by
  unfold V
  after_reads_at

/-- The up matrices. -/
theorem up_matrix (l : Fin 4) (k : Fin 1024) (n : Fin 6144) : V m c main_v2 (ix3 l k n) = m ((c : Thread nD τ).loc main_arg7) (ix3 l k n) := by
  unfold V
  after_reads_at

/-- The down matrices. -/
theorem down_matrix (l : Fin 4) (n : Fin 3072) (j : Fin 1024) : V m c main_v3 (ix3 l n j) = m ((c : Thread nD τ).loc main_arg10) (ix3 l n j) := by
  unfold V
  after_reads_at

/-- The host's rows of gates two back: the history's two rows at the front of a stream. -/
theorem two_back (r : Fin 256) (n : Fin 3072) (h : r.val % 16 < 2) :
    V m c main_v11 (ix3 (0 : Fin 2) r n) = (args m c).hist ⟨r.val / 16, by omega⟩ ⟨r.val % 16, h⟩ n := by
  unfold V
  after_reads_at
  refine (dif_pos ⟨by omega, h⟩).trans ?_
  rfl

/-- The host's rows of gates one back: the history's last row at the front of a stream. -/
theorem one_back (r : Fin 256) (n : Fin 3072) (h : r.val % 16 < 1) :
    V m c main_v11 (ix3 (1 : Fin 2) r n) = (args m c).hist ⟨r.val / 16, by omega⟩ (1 : Fin 2) n := by
  unfold V
  after_reads_at
  refine (dif_pos ⟨by omega, h⟩).trans ?_
  refine congrArg (fun z => (args m c).hist (⟨r.val / 16, by omega⟩ : Fin 16) z n) (Fin.ext (?_ : 1 + r.val % 16 = 1))
  omega

/-! ## The blocks of the grid point -/

/-- The block index of each window. -/
theorem index : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0, 0]
    ∧ win0_7.index t = ![0, 0, 0] ∧ win0_8.index t = ![0, 0] ∧ win0_9.index t = ![0, 0] ∧ win0_10.index t = ![0, 0, 0]
    ∧ win0_11.index t = ![0, 0] ∧ win0_12.index t = ![0, 0] := by decide +kernel

/-- The rows. -/
theorem block_x (p : Fin 256) (j : Fin 1024) : iblk m c 0 t (ix2 p j) = V m c main_arg0 (ix2 p j) := by
  blk_ext [iblk, (index t).1]

/-- The mixers' results. -/
theorem block_of (p : Fin 256) (j : Fin 256) : iblk m c 1 t (ix2 p j) = V m c main_arg1 (ix2 p j) := by
  blk_ext [iblk, (index t).2.1]

/-- The mixers' results. -/
theorem block_ol (p : Fin 256) (j : Fin 512) : iblk m c 2 t (ix2 p j) = V m c main_arg2 (ix2 p j) := by
  blk_ext [iblk, (index t).2.2.1]

/-- The mixers' results. -/
theorem block_ob (p : Fin 256) (j : Fin 256) : iblk m c 3 t (ix2 p j) = V m c main_arg3 (ix2 p j) := by
  blk_ext [iblk, (index t).2.2.2.1]

/-- The rows of gates before each stream. -/
theorem block_back (k : Fin 2) (p : Fin 256) (n : Fin 3072) : iblk m c 4 t (ix3 k p n) = V m c main_v11 (ix3 k p n) := by
  blk_ext [iblk, (index t).2.2.2.2.1]

/-- The norms' weights. -/
theorem block_g (a : Fin 4) (j : Fin 1024) : iblk m c 5 t (ix2 a j) = V m c main_arg5 (ix2 a j) := by
  blk_ext [iblk, (index t).2.2.2.2.2.1]

/-- The mixing matrix. -/
theorem block_mix (k j : Fin 1024) : iblk m c 6 t (ix3 (0 : Fin 1) k j) = V m c main_v1 (ix3 (0 : Fin 4) k j) := by
  blk_ext [iblk, (index t).2.2.2.2.2.2.1]

/-- The up matrix. -/
theorem block_up (k : Fin 1024) (n : Fin 6144) : iblk m c 7 t (ix3 (0 : Fin 1) k n) = V m c main_v2 (ix3 (0 : Fin 4) k n) := by
  blk_ext [iblk, (index t).2.2.2.2.2.2.2.1]

/-- The weights of the three rows. -/
theorem block_conv (k : Fin 3) (n : Fin 3072) : iblk m c 8 t (ix2 k n) = V m c main_arg8 (ix2 k n) := by
  blk_ext [iblk, (index t).2.2.2.2.2.2.2.2.1]

/-- The bias. -/
theorem block_bias (n : Fin 3072) : iblk m c 9 t (ix2 (0 : Fin 1) n) = V m c main_v0 (ix2 (0 : Fin 1) n) := by
  blk_ext [iblk, (index t).2.2.2.2.2.2.2.2.2.1]

/-- The down matrix. -/
theorem block_down (n : Fin 3072) (j : Fin 1024) : iblk m c 10 t (ix3 (0 : Fin 1) n j) = V m c main_v3 (ix3 (0 : Fin 4) n j) := by
  blk_ext [iblk, (index t).2.2.2.2.2.2.2.2.2.2.1]

/-- The point holds the weights, the arguments'. -/
theorem weights_eq : weights (iblk m c 5 t) (iblk m c 6 t) (iblk m c 7 t) (iblk m c 8 t) (iblk m c 9 t) (iblk m c 10 t) = (args m c).w := by
  refine Weights.ext ?_ ?_ ?_ ?_ ?_ ?_ ?_ ?_
  · exact funext fun k => funext fun j => (block_mix m c t k j).trans (mix_matrix m c 0 k j)
  · exact funext fun k => funext fun n => (block_up m c t k n).trans (up_matrix m c 0 k n)
  · exact funext fun n => funext fun j => (block_down m c t n j).trans (down_matrix m c 0 n j)
  · exact funext fun j => block_g m c t 1 j
  · exact funext fun j => block_g m c t 2 j
  · exact funext fun j => block_g m c t 3 j
  · exact funext fun k => funext fun n => block_conv m c t k n
  · exact funext fun n => (block_bias m c t n).trans (bias_row m c n)

/-- A row of the tile after the mixing. -/
theorem row_eq (p : Fin 256) : row (iblk m c 0 t) (iblk m c 1 t) (iblk m c 2 t) (iblk m c 3 t) (args m c).w p = (args m c).row p := by
  unfold Args.row row
  simp only [block_x, block_of, block_ol, block_ob]
  rfl

/-- The gates before a row. -/
theorem prior_eq (d : Fin 3) (p : Fin 256) (n : Fin 3072) : prior (iblk m c 0 t) (iblk m c 1 t) (iblk m c 2 t) (iblk m c 3 t) (iblk m c 4 t) (iblk m c 5 t) (iblk m c 6 t) (iblk m c 7 t) (iblk m c 8 t) (iblk m c 9 t) (iblk m c 10 t) d p n = (args m c).before d p n := by
  unfold prior Args.before
  by_cases h : d.val ≤ p.val % 16
  · refine (if_pos h).trans ?_
    symm
    refine (if_pos h).trans ?_
    symm
    rw [weights_eq, row_eq]
    rfl
  · refine (if_neg h).trans ?_
    symm
    refine (if_neg h).trans ?_
    symm
    rw [block_back]
    obtain rfl | rfl | rfl : d = 0 ∨ d = 1 ∨ d = 2 := by
      rcases d with ⟨v, hv⟩
      interval_cases v <;> simp
    · exact absurd (Nat.zero_le _) h
    · have h1 : p.val % 16 < 1 := Nat.lt_of_not_le h
      refine (one_back m c p n h1).trans ?_
      refine congrArg (fun z => (args m c).hist _ z n) (Fin.ext ?_)
      show 1 = (p.val % 16 + 2 - 1) % 2
      omega
    · have h2 : p.val % 16 < 2 := Nat.lt_of_not_le h
      refine (two_back m c p n h2).trans ?_
      refine congrArg (fun z => (args m c).hist _ z n) (Fin.ext ?_)
      show p.val % 16 = (p.val % 16 + 2 - 2) % 2
      omega

/-- The point's result. -/
theorem block_result (p : Fin 256) (j : Fin 1024) : (outsAt0 m c t).1 (ix2 p j) = (args m c).result p j := by
  rw [stored_result, out_at]
  have e2 : prior (iblk m c 0 t) (iblk m c 1 t) (iblk m c 2 t) (iblk m c 3 t) (iblk m c 4 t) (iblk m c 5 t) (iblk m c 6 t) (iblk m c 7 t) (iblk m c 8 t) (iblk m c 9 t) (iblk m c 10 t) 2 p = (args m c).before 2 p := funext (prior_eq m c t 2 p)
  have e1 : prior (iblk m c 0 t) (iblk m c 1 t) (iblk m c 2 t) (iblk m c 3 t) (iblk m c 4 t) (iblk m c 5 t) (iblk m c 6 t) (iblk m c 7 t) (iblk m c 8 t) (iblk m c 9 t) (iblk m c 10 t) 1 p = (args m c).before 1 p := funext (prior_eq m c t 1 p)
  rw [e2, e1, weights_eq, row_eq]
  rfl

/-- The point's gates. -/
theorem block_gate (p : Fin 256) (n : Fin 3072) : (outsAt0 m c t).2 (ix2 p n) = (args m c).gate p n := by
  refine (stored_gate m c t (ix2 p n)).trans ?_
  have e : row (iblk m c 0 t) (iblk m c 1 t) (iblk m c 2 t) (iblk m c 3 t) (weights (iblk m c 5 t) (iblk m c 6 t) (iblk m c 7 t) (iblk m c 8 t) (iblk m c 9 t) (iblk m c 10 t)) p
      = (args m c).row p := by
    rw [weights_eq, row_eq]
  refine (congrArg₂ (fun w f => gates w f n) (weights_eq m c t) e).trans ?_
  rfl

/-! ## The arrays after the run -/

/-- The first result as an array. -/
def resultArray (A : Args) : S256x1024.Idx → EReal := fun y => A.result (y 0) (y 1)

/-- The second result as an array: the gates. -/
def gateArray (A : Args) : S256x3072.Idx → EReal := fun y => A.gate (y 0) (y 1)

/-- The array of the result after the run. -/
theorem final_result : (dats m 0 c).arrAt 11 cfg0.N = resultArray (args m c) := by
  refine (dats m 0 c).arrAt_eq_of_covers 11 _ (by decide +kernel) fun t hf y => ?_
  blk_simp
  rw [after0_11]
  obtain ⟨p, j, rfl⟩ : ∃ (p : Fin 256) (j : Fin 1024), y = ix2 p j := ⟨y 0, y 1, eq_ix2 y⟩
  refine (block_result m c t p j).trans ?_
  have e0 : (((win0_11.blk t).view.emb (ix2 p j) 0).val : ℕ) = p.val := by
    refine (Pipeline.Window.rect_emb_val win0_11 t (ix2 p j) 0).trans ?_
    rw [(index t).2.2.2.2.2.2.2.2.2.2.2.1]; simp
  have e1 : (((win0_11.blk t).view.emb (ix2 p j) 1).val : ℕ) = j.val := by
    refine (Pipeline.Window.rect_emb_val win0_11 t (ix2 p j) 1).trans ?_
    rw [(index t).2.2.2.2.2.2.2.2.2.2.2.1]; simp
  unfold resultArray
  exact congrArg₂ (args m c).result (Fin.ext e0.symm) (Fin.ext e1.symm)

/-- The array of the gates after the run. -/
theorem final_gate : (dats m 0 c).arrAt 12 cfg0.N = gateArray (args m c) := by
  refine (dats m 0 c).arrAt_eq_of_covers 12 _ (by decide +kernel) fun t hf y => ?_
  blk_simp
  rw [after0_12]
  obtain ⟨p, j, rfl⟩ : ∃ (p : Fin 256) (j : Fin 3072), y = ix2 p j := ⟨y 0, y 1, eq_ix2 y⟩
  refine (block_gate m c t p j).trans ?_
  have e0 : (((win0_12.blk t).view.emb (ix2 p j) 0).val : ℕ) = p.val := by
    refine (Pipeline.Window.rect_emb_val win0_12 t (ix2 p j) 0).trans ?_
    rw [(index t).2.2.2.2.2.2.2.2.2.2.2.2]; simp
  have e1 : (((win0_12.blk t).view.emb (ix2 p j) 1).val : ℕ) = j.val := by
    refine (Pipeline.Window.rect_emb_val win0_12 t (ix2 p j) 1).trans ?_
    rw [(index t).2.2.2.2.2.2.2.2.2.2.2.2]; simp
  unfold gateArray
  exact congrArg₂ (args m c).gate (Fin.ext e0.symm) (Fin.ext e1.symm)

end Cert.Proof.PostS.Array

end
-- ==== Proof.PostS.Claims.lean ====
/- The claims about the output mixing and the feed-forward block of the sample: the frames, and that the idealized kernel and the reference leave equal results. -/
module

public import proofs.«01_k».proof.Defs
public import proofs.«01_k».proof.Proof.Gen.PostS.Frame
public import proofs.«01_k».proof.Proof.Gen.PostSIdeal.Value
public import proofs.«01_k».proof.Proof.Gen.PostSRefIdeal.Run
public import proofs.«01_k».proof.Proof.PostS.Ref
public import proofs.«01_k».proof.Proof.PostS.Array

@[expose] public section

set_option maxRecDepth 16384

noncomputable section

namespace Cert.Proof.PostS

open Idealize.ShloMosaic Idealize.ShloMosaic.StableHlo Idealize.ShloMosaic.TcCoe Idealize.SL.Sem

/-- The kernel runs, leaves its arguments unchanged, and ends with no semaphore raised. -/
theorem frame_kernel : Cert.quiescent_PostS := fun m ρ _ => Cert.PostS.Gen.frame m ρ

/-- The same of its idealized form. -/
theorem frame_ideal : Cert.quiescent_PostSIdeal := fun m ρ _ => Cert.PostSIdeal.Gen.frame m ρ

/-- The reference runs, leaves its arguments unchanged, and has no semaphore. -/
theorem frame_reference : Cert.quiescent_PostSRefIdeal := fun m ρ _ =>
  (θ_run Cert.PostSRefIdeal.defs _ _).mono (fun r h => ⟨fun c => (h c).2.2, sem_eq_zero_of_no_sems (by decide) r.2⟩)
    (Cert.PostSRefIdeal.Value.run (F := Ideal) m ρ)

/-- The reference's first result is the layer step's. -/
theorem reference_result (x0 x1 x2 x3 x4 x5 x6 x7 x8 x9 x10) :
    Cert.PostSRefIdeal.Read.val_main_v99 (F := Ideal) x0 x1 x2 x3 x4 x5 x6 x7 x8 x9 x10
      = Array.resultArray (Array.argsOf x0 x1 x2 x3 x4 x5 x6 x7 x8 x9 x10) := by
  funext y
  obtain ⟨r, j, rfl⟩ : ∃ (r : Fin 256) (j : Fin 1024), y = ix2 r j := ⟨y 0, y 1, eq_ix2 y⟩
  exact Ref.result x0 x1 x2 x3 x4 x5 x6 x7 x8 x9 x10 r j

/-- The reference's second result is the layer step's. -/
theorem reference_gate (x0 x1 x2 x3 x4 x5 x6 x7 x8 x9 x10) :
    Cert.PostSRefIdeal.Read.val_main_v39 (F := Ideal) x0 x1 x2 x3 x5 x6 x7
      = Array.gateArray (Array.argsOf x0 x1 x2 x3 x4 x5 x6 x7 x8 x9 x10) := by
  funext y
  obtain ⟨r, n, rfl⟩ : ∃ (r : Fin 256) (n : Fin 3072), y = ix2 r n := ⟨y 0, y 1, eq_ix2 y⟩
  exact Ref.gate x0 x1 x2 x3 x4 x5 x6 x7 x8 x9 x10 r n

/-- Equal arrays make the same arguments of the layer step. -/
theorem args_congr {x0 x1 x2 x3 x4 x5 x6 x7 x8 x9 x10 y0 y1 y2 y3 y4 y5 y6 y7 y8 y9 y10} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    Array.argsOf x0 x1 x2 x3 x4 x5 x6 x7 x8 x9 x10 = Array.argsOf y0 y1 y2 y3 y4 y5 y6 y7 y8 y9 y10 := by
  subst h0 h1 h2 h3 h4 h5 h6 h7 h8 h9 h10
  rfl

/-- The idealized kernel and the reference leave the same two arrays. -/
theorem equal : Cert.algebraic_PostSIdeal_PostSRefIdeal := by
  intro m g m' g' _ ha
  refine ⟨fun c => Array.resultArray (Array.args m c), fun c => Array.gateArray (Array.args m c), ?_, ?_⟩
  · refine (θ_run Cert.PostSIdeal.defs _ _).mono (fun r h c => ?_) (Cert.PostSIdeal.Value.run_blocks (F := Ideal) m g)
    exact ⟨(h c).1.trans (Array.final_result m c), (h c).2.1.trans (Array.final_gate m c), (h c).2.2⟩
  · refine (θ_run Cert.PostSRefIdeal.defs _ _).mono (fun r h c => ?_) (Cert.PostSRefIdeal.Value.run (F := Ideal) m' g')
    obtain ⟨h0, h1, h2, h3, h4, h5, h6, h7, h8, h9, h10⟩ := ha c
    have hr := (h c).1.trans (Cert.PostSRefIdeal.Read.val_main_v99_eq (launchContents m' c))
    have hl := (h c).2.1.trans (Cert.PostSRefIdeal.Read.val_main_v39_eq (launchContents m' c))
    refine ⟨hr.trans ?_, hl.trans ?_, (h c).2.2⟩
    · refine (reference_result _ _ _ _ _ _ _ _ _ _ _).trans (congrArg Array.resultArray ?_)
      exact args_congr h0 h1 h2 h3 h4 h5 h6 h7 h8 h9 h10
    · refine (reference_gate _ _ _ _ (m' ((c.tc : Thread Cert.PostSRefIdeal.nD Cert.PostSRefIdeal.τ).loc Cert.PostSRefIdeal.main_arg4)) _ _ _ (m' ((c.tc : Thread Cert.PostSRefIdeal.nD Cert.PostSRefIdeal.τ).loc Cert.PostSRefIdeal.main_arg8))
        (m' ((c.tc : Thread Cert.PostSRefIdeal.nD Cert.PostSRefIdeal.τ).loc Cert.PostSRefIdeal.main_arg9))
        (m' ((c.tc : Thread Cert.PostSRefIdeal.nD Cert.PostSRefIdeal.τ).loc Cert.PostSRefIdeal.main_arg10))).trans (congrArg Array.gateArray ?_)
      exact args_congr h0 h1 h2 h3 h4 h5 h6 h7 h8 h9 h10

end Cert.Proof.PostS

end
-- ==== Proof.lean ====
module

public import proofs.«01_k».proof.Defs
public import proofs.«01_k».proof.Proof.Band.Claims
public import proofs.«01_k».proof.Proof.Post.Claims
public import proofs.«01_k».proof.Proof.PreS.Claims
public import proofs.«01_k».proof.Proof.PostS.Claims

@[expose] public section

noncomputable section

namespace Cert.Proof

open Idealize.ShloMosaic Idealize.ShloMosaic.TcCoe Idealize.SL.Sem

/-- The facts about shapes, then the claims, in the order in which the statement lists them. -/
theorem claim : Cert.Claim :=
  ⟨Cert.Band.Gen.facts, Cert.BandIdeal.Gen.facts, Cert.BandRefIdeal.Gen.facts, Cert.Post.Gen.facts, Cert.PostIdeal.Gen.facts,
    Cert.PostRefIdeal.Gen.facts, Cert.PreS.Gen.facts, Cert.PreSIdeal.Gen.facts, Cert.PreSRefIdeal.Gen.facts,
    Cert.PostS.Gen.facts, Cert.PostSIdeal.Gen.facts, Cert.PostSRefIdeal.Gen.facts, Band.pre_facts,
    Band.frame_kernel, Band.frame_ideal, Band.frame_ideal_pre, Band.frame_reference, Band.frame_reference_pre,
    Post.frame_kernel, Post.frame_ideal, Post.frame_reference,
    PreS.frame_kernel, PreS.frame_ideal, PreS.frame_reference,
    PostS.frame_kernel, PostS.frame_ideal, PostS.frame_reference,
    trivial, Band.equal, trivial, Post.equal, trivial, PreS.equal, trivial, PostS.equal⟩

end Cert.Proof

end
